-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![16, 512]⟩ ⟨2, ![512, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2]⟩ ⟨2, ![512, 64]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![2, 512, 1024]⟩ ⟨3, ![64, 512, 1024]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 1024, 512]⟩ ⟨3, ![64, 1024, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S16x512 : Shape := ⟨2, ![16, 512]⟩
abbrev S512x2 : Shape := ⟨2, ![512, 2]⟩
abbrev S2x512x1024 : Shape := ⟨3, ![2, 512, 1024]⟩
abbrev S2x1024x512 : Shape := ⟨3, ![2, 1024, 512]⟩
abbrev S_ : Shape := ⟨0, ![]⟩

class Facts : Prop where
  bcast_S_S16x512 : S_.BroadcastsInDim S16x512 (![] : Fin 0 → Fin S16x512.rank)
  reducesTo_S16x512_S_d0_1 : S16x512.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S16x512 .f32) (main_arg1 : FVec F S512x2 .f32) (main_arg2 : FVec F S2x512x1024 .f32) (main_arg3 : FVec F S2x1024x512 .f32) : IVec S_ 1 :=
  let main_v0 : FVec F S16x512 .f32 := Host.absf main_arg0
  let main_cst : FVec F S_ .f32 := constant S_ .f32 0x7F800000#32
  let main_v1 : FVec F S16x512 .f32 := broadcastInDim S16x512 ![] bcast_S_S16x512 main_cst
  let main_v2 : IVec S16x512 1 := cmpf .olt main_v0 main_v1
  let main_c : IVec S_ 1 := constantI S_ 1 1#1
  let main_v3 : IVec S_ 1 := (fun x v => Host.reduce IntOp.andi x v reducesTo_S16x512_S_d0_1 h_S_) main_v2 main_c
  let main_v4 : FVec F S512x2 .f32 := Host.absf main_arg1
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  main_v8
-- ==== Pre_finite_scores_ReferenceIdeal.lean ====
abbrev S512x512 : Shape := ⟨2, ![512, 512]⟩
abbrev S512x64 : Shape := ⟨2, ![512, 64]⟩
abbrev S64x512x1024 : Shape := ⟨3, ![64, 512, 1024]⟩
abbrev S64x1024x512 : Shape := ⟨3, ![64, 1024, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S512x512 .f32) (main_arg1 : FVec F S512x64 .f32) (main_arg2 : FVec F S64x512x1024 .f32) (main_arg3 : FVec F S64x1024x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S16x512 : Shape := ⟨2, ![16, 512]⟩
abbrev S512x2 : Shape := ⟨2, ![512, 2]⟩
abbrev S2x512x1024 : Shape := ⟨3, ![2, 512, 1024]⟩
abbrev S2x1024x512 : Shape := ⟨3, ![2, 1024, 512]⟩
abbrev S2x512 : Shape := ⟨2, ![2, 512]⟩
abbrev S32x16x512 : Shape := ⟨3, ![32, 16, 512]⟩
abbrev S32x2x512 : Shape := ⟨3, ![32, 2, 512]⟩
abbrev S32x16x128 : Shape := ⟨3, ![32, 16, 128]⟩
abbrev S16x128 : Shape := ⟨2, ![16, 128]⟩
abbrev S512x512 : Shape := ⟨2, ![512, 512]⟩
abbrev S32 : Shape := ⟨1, ![32]⟩
abbrev S_ : Shape := ⟨0, ![]⟩
abbrev S1 : Shape := ⟨1, ![1]⟩
abbrev S1x2x512 : Shape := ⟨3, ![1, 2, 512]⟩
abbrev S1x16x512 : Shape := ⟨3, ![1, 16, 512]⟩
abbrev S64x512 : Shape := ⟨2, ![64, 512]⟩
abbrev S16x64 : Shape := ⟨2, ![16, 64]⟩
abbrev S16 : Shape := ⟨1, ![16]⟩
abbrev S16x1 : Shape := ⟨2, ![16, 1]⟩
abbrev S16x4 : Shape := ⟨2, ![16, 4]⟩
abbrev S1x16x128 : Shape := ⟨3, ![1, 16, 128]⟩
abbrev S32x16x1 : Shape := ⟨3, ![32, 16, 1]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S8x16x512 : Shape := ⟨3, ![8, 16, 512]⟩
abbrev S128x512 : Shape := ⟨2, ![128, 512]⟩
abbrev S128x1024 : Shape := ⟨2, ![128, 1024]⟩
abbrev S128x1 : Shape := ⟨2, ![128, 1]⟩

abbrev nBuf : Space → Nat
  | .hbm => 5
  | .vmem => 13
  | .smem => 0
  | _ => 0

abbrev bufTy : (tb : Table) → Fin (tcTables nBuf tb) → BufTy
  | .hbm, ⟨0, _⟩ => ⟨S16x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S16x512, .f32⟩
  | .local _ .vmem, ⟨0, _⟩ => ⟨S16x512, .f32⟩
  | .local _ .vmem, ⟨1, _⟩ => ⟨S512x2, .f32⟩
  | .local _ .vmem, ⟨2, _⟩ => ⟨S2x512x1024, .f32⟩
  | .local _ .vmem, ⟨3, _⟩ => ⟨S2x1024x512, .f32⟩
  | .local _ .vmem, ⟨4, _⟩ => ⟨S16x512, .f32⟩
  | .local _ .vmem, ⟨5, _⟩ => ⟨S16x512, .bf16⟩
  | .local _ .vmem, ⟨6, _⟩ => ⟨S2x512, .f32⟩
  | .local _ .vmem, ⟨7, _⟩ => ⟨S32x16x512, .bf16⟩
  | .local _ .vmem, ⟨8, _⟩ => ⟨S32x2x512, .f32⟩
  | .local _ .vmem, ⟨9, _⟩ => ⟨S32x16x128, .f32⟩
  | .local _ .vmem, ⟨10, _⟩ => ⟨S16x128, .f32⟩
  | .local _ .vmem, ⟨11, _⟩ => ⟨S512x512, .bf16⟩
  | .local _ .vmem, ⟨12, _⟩ => ⟨S32x16x512, .bf16⟩
  | _, _ => ⟨S16x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 261 → Bool
  | ⟨i, _⟩ => dmaSemScopedAt i

abbrev sig : RefSig :=
  (ofTc nBuf bufTy 1 261 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_287 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v419 : BitVec 32 := Scalar.addi v2 c1_i32_287
  let c32_i32_288 : BitVec 32 := 32#32
  let c0_i32_289 : BitVec 32 := 0#32
  let v420 : BitVec 1 := Scalar.cmpi .eq c32_i32_288 c0_i32_289
  let c1_i32_290 : BitVec 32 := 1#32
  let v421 : BitVec 32 := Scalar.select v420 c1_i32_290 c32_i32_288
  let v422 : BitVec 32 := Scalar.remsi v419 v421
  let c0_i32_292 : BitVec 32 := 0#32
  let v424 : BitVec 1 := Scalar.cmpi .slt v422 c0_i32_292
  let c0_i32_293 : BitVec 32 := 0#32
  let v425 : BitVec 1 := Scalar.cmpi .slt v421 c0_i32_293
  let v426 : BitVec 1 := Scalar.xori v424 v425
  let c0_i32_291 : BitVec 32 := 0#32
  let v423 : BitVec 1 := Scalar.cmpi .ne v422 c0_i32_291
  let v427 : BitVec 1 := Scalar.andi v426 v423
  let v428 : BitVec 32 := Scalar.addi v422 v421
  let v429 : BitVec 32 := Scalar.select v427 v428 v422
  ![v429.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_296 : BitVec 32 := 0#32
  let c0_i32_297 : BitVec 32 := 0#32
  ![v2.toNat, 0, 0]
def k0_dev32 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_287 : BitVec 32 := 1#32
  let v419 : BitVec 32 := Scalar.addi v2 c1_i32_287
  let c32_i32_288 : BitVec 32 := 32#32
  let c0_i32_289 : BitVec 32 := 0#32
  let v420 : BitVec 1 := Scalar.cmpi .eq c32_i32_288 c0_i32_289
  let c1_i32_290 : BitVec 32 := 1#32
  let v421 : BitVec 32 := Scalar.select v420 c1_i32_290 c32_i32_288
  let v422 : BitVec 32 := Scalar.remsi v419 v421
  let c0_i32_292 : BitVec 32 := 0#32
  let v424 : BitVec 1 := Scalar.cmpi .slt v422 c0_i32_292
  let c0_i32_293 : BitVec 32 := 0#32
  let v425 : BitVec 1 := Scalar.cmpi .slt v421 c0_i32_293
  let v426 : BitVec 1 := Scalar.xori v424 v425
  let c0_i32_291 : BitVec 32 := 0#32
  let v423 : BitVec 1 := Scalar.cmpi .ne v422 c0_i32_291
  let v427 : BitVec 1 := Scalar.andi v426 v423
  let v428 : BitVec 32 := Scalar.addi v422 v421
  let v429 : BitVec 32 := Scalar.select v427 v428 v422
  let c1_i32_294 : BitVec 32 := 1#32
  let v430 : BitVec 32 := Scalar.muli v429 c1_i32_294
  let v431 : BitVec 32 := Scalar.addi c0_i32_295 v430
  v431.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_300 : BitVec 32 := 0#32
  let c0_i32_301 : BitVec 32 := 0#32
  ![v2.toNat, 0, 0]
def k0_dev33 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_287 : BitVec 32 := 1#32
  let v419 : BitVec 32 := Scalar.addi v2 c1_i32_287
  let c32_i32_288 : BitVec 32 := 32#32
  let c0_i32_289 : BitVec 32 := 0#32
  let v420 : BitVec 1 := Scalar.cmpi .eq c32_i32_288 c0_i32_289
  let c1_i32_290 : BitVec 32 := 1#32
  let v421 : BitVec 32 := Scalar.select v420 c1_i32_290 c32_i32_288
  let v422 : BitVec 32 := Scalar.remsi v419 v421
  let c0_i32_292 : BitVec 32 := 0#32
  let v424 : BitVec 1 := Scalar.cmpi .slt v422 c0_i32_292
  let c0_i32_293 : BitVec 32 := 0#32
  let v425 : BitVec 1 := Scalar.cmpi .slt v421 c0_i32_293
  let v426 : BitVec 1 := Scalar.xori v424 v425
  let c0_i32_291 : BitVec 32 := 0#32
  let v423 : BitVec 1 := Scalar.cmpi .ne v422 c0_i32_291
  let v427 : BitVec 1 := Scalar.andi v426 v423
  let v428 : BitVec 32 := Scalar.addi v422 v421
  let v429 : BitVec 32 := Scalar.select v427 v428 v422
  let c1_i32_298 : BitVec 32 := 1#32
  let v438 : BitVec 32 := Scalar.muli v429 c1_i32_298
  let v439 : BitVec 32 := Scalar.addi c0_i32_299 v438
  v439.toNat
def k0_dev34 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_302 : BitVec 32 := 2#32
  let v446 : BitVec 32 := Scalar.addi v2 c2_i32_302
  let c32_i32_303 : BitVec 32 := 32#32
  let c0_i32_304 : BitVec 32 := 0#32
  let v447 : BitVec 1 := Scalar.cmpi .eq c32_i32_303 c0_i32_304
  let c1_i32_305 : BitVec 32 := 1#32
  let v448 : BitVec 32 := Scalar.select v447 c1_i32_305 c32_i32_303
  let v449 : BitVec 32 := Scalar.remsi v446 v448
  let c0_i32_307 : BitVec 32 := 0#32
  let v451 : BitVec 1 := Scalar.cmpi .slt v449 c0_i32_307
  let c0_i32_308 : BitVec 32 := 0#32
  let v452 : BitVec 1 := Scalar.cmpi .slt v448 c0_i32_308
  let v453 : BitVec 1 := Scalar.xori v451 v452
  let c0_i32_306 : BitVec 32 := 0#32
  let v450 : BitVec 1 := Scalar.cmpi .ne v449 c0_i32_306
  let v454 : BitVec 1 := Scalar.andi v453 v450
  let v455 : BitVec 32 := Scalar.addi v449 v448
  let v456 : BitVec 32 := Scalar.select v454 v455 v449
  let c1_i32_309 : BitVec 32 := 1#32
  let v457 : BitVec 32 := Scalar.muli v456 c1_i32_309
  let v458 : BitVec 32 := Scalar.addi c0_i32_310 v457
  v458.toNat
def k0_dev35 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_302 : BitVec 32 := 2#32
  let v446 : BitVec 32 := Scalar.addi v2 c2_i32_302
  let c32_i32_303 : BitVec 32 := 32#32
  let c0_i32_304 : BitVec 32 := 0#32
  let v447 : BitVec 1 := Scalar.cmpi .eq c32_i32_303 c0_i32_304
  let c1_i32_305 : BitVec 32 := 1#32
  let v448 : BitVec 32 := Scalar.select v447 c1_i32_305 c32_i32_303
  let v449 : BitVec 32 := Scalar.remsi v446 v448
  let c0_i32_307 : BitVec 32 := 0#32
  let v451 : BitVec 1 := Scalar.cmpi .slt v449 c0_i32_307
  let c0_i32_308 : BitVec 32 := 0#32
  let v452 : BitVec 1 := Scalar.cmpi .slt v448 c0_i32_308
  let v453 : BitVec 1 := Scalar.xori v451 v452
  let c0_i32_306 : BitVec 32 := 0#32
  let v450 : BitVec 1 := Scalar.cmpi .ne v449 c0_i32_306
  let v454 : BitVec 1 := Scalar.andi v453 v450
  let v455 : BitVec 32 := Scalar.addi v449 v448
  let v456 : BitVec 32 := Scalar.select v454 v455 v449
  let c1_i32_313 : BitVec 32 := 1#32
  let v465 : BitVec 32 := Scalar.muli v456 c1_i32_313
  let v466 : BitVec 32 := Scalar.addi c0_i32_314 v465
  v466.toNat
def k0_dev36 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_317 : BitVec 32 := 3#32
  let v473 : BitVec 32 := Scalar.addi v2 c3_i32_317
  let c32_i32_318 : BitVec 32 := 32#32
  let c0_i32_319 : BitVec 32 := 0#32
  let v474 : BitVec 1 := Scalar.cmpi .eq c32_i32_318 c0_i32_319
  let c1_i32_320 : BitVec 32 := 1#32
  let v475 : BitVec 32 := Scalar.select v474 c1_i32_320 c32_i32_318
  let v476 : BitVec 32 := Scalar.remsi v473 v475
  let c0_i32_322 : BitVec 32 := 0#32
  let v478 : BitVec 1 := Scalar.cmpi .slt v476 c0_i32_322
  let c0_i32_323 : BitVec 32 := 0#32
  let v479 : BitVec 1 := Scalar.cmpi .slt v475 c0_i32_323
  let v480 : BitVec 1 := Scalar.xori v478 v479
  let c0_i32_321 : BitVec 32 := 0#32
  let v477 : BitVec 1 := Scalar.cmpi .ne v476 c0_i32_321
  let v481 : BitVec 1 := Scalar.andi v480 v477
  let v482 : BitVec 32 := Scalar.addi v476 v475
  let v483 : BitVec 32 := Scalar.select v481 v482 v476
  let c1_i32_324 : BitVec 32 := 1#32
  let v484 : BitVec 32 := Scalar.muli v483 c1_i32_324
  let v485 : BitVec 32 := Scalar.addi c0_i32_325 v484
  v485.toNat
def k0_dev37 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_317 : BitVec 32 := 3#32
  let v473 : BitVec 32 := Scalar.addi v2 c3_i32_317
  let c32_i32_318 : BitVec 32 := 32#32
  let c0_i32_319 : BitVec 32 := 0#32
  let v474 : BitVec 1 := Scalar.cmpi .eq c32_i32_318 c0_i32_319
  let c1_i32_320 : BitVec 32 := 1#32
  let v475 : BitVec 32 := Scalar.select v474 c1_i32_320 c32_i32_318
  let v476 : BitVec 32 := Scalar.remsi v473 v475
  let c0_i32_322 : BitVec 32 := 0#32
  let v478 : BitVec 1 := Scalar.cmpi .slt v476 c0_i32_322
  let c0_i32_323 : BitVec 32 := 0#32
  let v479 : BitVec 1 := Scalar.cmpi .slt v475 c0_i32_323
  let v480 : BitVec 1 := Scalar.xori v478 v479
  let c0_i32_321 : BitVec 32 := 0#32
  let v477 : BitVec 1 := Scalar.cmpi .ne v476 c0_i32_321
  let v481 : BitVec 1 := Scalar.andi v480 v477
  let v482 : BitVec 32 := Scalar.addi v476 v475
  let v483 : BitVec 32 := Scalar.select v481 v482 v476
  let c1_i32_328 : BitVec 32 := 1#32
  let v492 : BitVec 32 := Scalar.muli v483 c1_i32_328
  let v493 : BitVec 32 := Scalar.addi c0_i32_329 v492
  v493.toNat
def k0_dev38 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_332 : BitVec 32 := 4#32
  let v500 : BitVec 32 := Scalar.addi v2 c4_i32_332
  let c32_i32_333 : BitVec 32 := 32#32
  let c0_i32_334 : BitVec 32 := 0#32
  let v501 : BitVec 1 := Scalar.cmpi .eq c32_i32_333 c0_i32_334
  let c1_i32_335 : BitVec 32 := 1#32
  let v502 : BitVec 32 := Scalar.select v501 c1_i32_335 c32_i32_333
  let v503 : BitVec 32 := Scalar.remsi v500 v502
  let c0_i32_337 : BitVec 32 := 0#32
  let v505 : BitVec 1 := Scalar.cmpi .slt v503 c0_i32_337
  let c0_i32_338 : BitVec 32 := 0#32
  let v506 : BitVec 1 := Scalar.cmpi .slt v502 c0_i32_338
  let v507 : BitVec 1 := Scalar.xori v505 v506
  let c0_i32_336 : BitVec 32 := 0#32
  let v504 : BitVec 1 := Scalar.cmpi .ne v503 c0_i32_336
  let v508 : BitVec 1 := Scalar.andi v507 v504
  let v509 : BitVec 32 := Scalar.addi v503 v502
  let v510 : BitVec 32 := Scalar.select v508 v509 v503
  let c1_i32_339 : BitVec 32 := 1#32
  let v511 : BitVec 32 := Scalar.muli v510 c1_i32_339
  let v512 : BitVec 32 := Scalar.addi c0_i32_340 v511
  v512.toNat
def k0_dev39 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_332 : BitVec 32 := 4#32
  let v500 : BitVec 32 := Scalar.addi v2 c4_i32_332
  let c32_i32_333 : BitVec 32 := 32#32
  let c0_i32_334 : BitVec 32 := 0#32
  let v501 : BitVec 1 := Scalar.cmpi .eq c32_i32_333 c0_i32_334
  let c1_i32_335 : BitVec 32 := 1#32
  let v502 : BitVec 32 := Scalar.select v501 c1_i32_335 c32_i32_333
  let v503 : BitVec 32 := Scalar.remsi v500 v502
  let c0_i32_337 : BitVec 32 := 0#32
  let v505 : BitVec 1 := Scalar.cmpi .slt v503 c0_i32_337
  let c0_i32_338 : BitVec 32 := 0#32
  let v506 : BitVec 1 := Scalar.cmpi .slt v502 c0_i32_338
  let v507 : BitVec 1 := Scalar.xori v505 v506
  let c0_i32_336 : BitVec 32 := 0#32
  let v504 : BitVec 1 := Scalar.cmpi .ne v503 c0_i32_336
  let v508 : BitVec 1 := Scalar.andi v507 v504
  let v509 : BitVec 32 := Scalar.addi v503 v502
  let v510 : BitVec 32 := Scalar.select v508 v509 v503
  let c1_i32_343 : BitVec 32 := 1#32
  let v519 : BitVec 32 := Scalar.muli v510 c1_i32_343
  let v520 : BitVec 32 := Scalar.addi c0_i32_344 v519
  v520.toNat
def k0_dev40 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_347 : BitVec 32 := 5#32
  let v527 : BitVec 32 := Scalar.addi v2 c5_i32_347
  let c32_i32_348 : BitVec 32 := 32#32
  let c0_i32_349 : BitVec 32 := 0#32
  let v528 : BitVec 1 := Scalar.cmpi .eq c32_i32_348 c0_i32_349
  let c1_i32_350 : BitVec 32 := 1#32
  let v529 : BitVec 32 := Scalar.select v528 c1_i32_350 c32_i32_348
  let v530 : BitVec 32 := Scalar.remsi v527 v529
  let c0_i32_352 : BitVec 32 := 0#32
  let v532 : BitVec 1 := Scalar.cmpi .slt v530 c0_i32_352
  let c0_i32_353 : BitVec 32 := 0#32
  let v533 : BitVec 1 := Scalar.cmpi .slt v529 c0_i32_353
  let v534 : BitVec 1 := Scalar.xori v532 v533
  let c0_i32_351 : BitVec 32 := 0#32
  let v531 : BitVec 1 := Scalar.cmpi .ne v530 c0_i32_351
  let v535 : BitVec 1 := Scalar.andi v534 v531
  let v536 : BitVec 32 := Scalar.addi v530 v529
  let v537 : BitVec 32 := Scalar.select v535 v536 v530
  let c1_i32_354 : BitVec 32 := 1#32
  let v538 : BitVec 32 := Scalar.muli v537 c1_i32_354
  let v539 : BitVec 32 := Scalar.addi c0_i32_355 v538
  v539.toNat
def k0_dev41 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_347 : BitVec 32 := 5#32
  let v527 : BitVec 32 := Scalar.addi v2 c5_i32_347
  let c32_i32_348 : BitVec 32 := 32#32
  let c0_i32_349 : BitVec 32 := 0#32
  let v528 : BitVec 1 := Scalar.cmpi .eq c32_i32_348 c0_i32_349
  let c1_i32_350 : BitVec 32 := 1#32
  let v529 : BitVec 32 := Scalar.select v528 c1_i32_350 c32_i32_348
  let v530 : BitVec 32 := Scalar.remsi v527 v529
  let c0_i32_352 : BitVec 32 := 0#32
  let v532 : BitVec 1 := Scalar.cmpi .slt v530 c0_i32_352
  let c0_i32_353 : BitVec 32 := 0#32
  let v533 : BitVec 1 := Scalar.cmpi .slt v529 c0_i32_353
  let v534 : BitVec 1 := Scalar.xori v532 v533
  let c0_i32_351 : BitVec 32 := 0#32
  let v531 : BitVec 1 := Scalar.cmpi .ne v530 c0_i32_351
  let v535 : BitVec 1 := Scalar.andi v534 v531
  let v536 : BitVec 32 := Scalar.addi v530 v529
  let v537 : BitVec 32 := Scalar.select v535 v536 v530
  let c1_i32_358 : BitVec 32 := 1#32
  let v546 : BitVec 32 := Scalar.muli v537 c1_i32_358
  let v547 : BitVec 32 := Scalar.addi c0_i32_359 v546
  v547.toNat
def k0_dev42 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_362 : BitVec 32 := 6#32
  let v554 : BitVec 32 := Scalar.addi v2 c6_i32_362
  let c32_i32_363 : BitVec 32 := 32#32
  let c0_i32_364 : BitVec 32 := 0#32
  let v555 : BitVec 1 := Scalar.cmpi .eq c32_i32_363 c0_i32_364
  let c1_i32_365 : BitVec 32 := 1#32
  let v556 : BitVec 32 := Scalar.select v555 c1_i32_365 c32_i32_363
  let v557 : BitVec 32 := Scalar.remsi v554 v556
  let c0_i32_367 : BitVec 32 := 0#32
  let v559 : BitVec 1 := Scalar.cmpi .slt v557 c0_i32_367
  let c0_i32_368 : BitVec 32 := 0#32
  let v560 : BitVec 1 := Scalar.cmpi .slt v556 c0_i32_368
  let v561 : BitVec 1 := Scalar.xori v559 v560
  let c0_i32_366 : BitVec 32 := 0#32
  let v558 : BitVec 1 := Scalar.cmpi .ne v557 c0_i32_366
  let v562 : BitVec 1 := Scalar.andi v561 v558
  let v563 : BitVec 32 := Scalar.addi v557 v556
  let v564 : BitVec 32 := Scalar.select v562 v563 v557
  let c1_i32_369 : BitVec 32 := 1#32
  let v565 : BitVec 32 := Scalar.muli v564 c1_i32_369
  let v566 : BitVec 32 := Scalar.addi c0_i32_370 v565
  v566.toNat
def k0_dev43 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_362 : BitVec 32 := 6#32
  let v554 : BitVec 32 := Scalar.addi v2 c6_i32_362
  let c32_i32_363 : BitVec 32 := 32#32
  let c0_i32_364 : BitVec 32 := 0#32
  let v555 : BitVec 1 := Scalar.cmpi .eq c32_i32_363 c0_i32_364
  let c1_i32_365 : BitVec 32 := 1#32
  let v556 : BitVec 32 := Scalar.select v555 c1_i32_365 c32_i32_363
  let v557 : BitVec 32 := Scalar.remsi v554 v556
  let c0_i32_367 : BitVec 32 := 0#32
  let v559 : BitVec 1 := Scalar.cmpi .slt v557 c0_i32_367
  let c0_i32_368 : BitVec 32 := 0#32
  let v560 : BitVec 1 := Scalar.cmpi .slt v556 c0_i32_368
  let v561 : BitVec 1 := Scalar.xori v559 v560
  let c0_i32_366 : BitVec 32 := 0#32
  let v558 : BitVec 1 := Scalar.cmpi .ne v557 c0_i32_366
  let v562 : BitVec 1 := Scalar.andi v561 v558
  let v563 : BitVec 32 := Scalar.addi v557 v556
  let v564 : BitVec 32 := Scalar.select v562 v563 v557
  let c1_i32_373 : BitVec 32 := 1#32
  let v573 : BitVec 32 := Scalar.muli v564 c1_i32_373
  let v574 : BitVec 32 := Scalar.addi c0_i32_374 v573
  v574.toNat
def k0_dev44 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_377 : BitVec 32 := 7#32
  let v581 : BitVec 32 := Scalar.addi v2 c7_i32_377
  let c32_i32_378 : BitVec 32 := 32#32
  let c0_i32_379 : BitVec 32 := 0#32
  let v582 : BitVec 1 := Scalar.cmpi .eq c32_i32_378 c0_i32_379
  let c1_i32_380 : BitVec 32 := 1#32
  let v583 : BitVec 32 := Scalar.select v582 c1_i32_380 c32_i32_378
  let v584 : BitVec 32 := Scalar.remsi v581 v583
  let c0_i32_382 : BitVec 32 := 0#32
  let v586 : BitVec 1 := Scalar.cmpi .slt v584 c0_i32_382
  let c0_i32_383 : BitVec 32 := 0#32
  let v587 : BitVec 1 := Scalar.cmpi .slt v583 c0_i32_383
  let v588 : BitVec 1 := Scalar.xori v586 v587
  let c0_i32_381 : BitVec 32 := 0#32
  let v585 : BitVec 1 := Scalar.cmpi .ne v584 c0_i32_381
  let v589 : BitVec 1 := Scalar.andi v588 v585
  let v590 : BitVec 32 := Scalar.addi v584 v583
  let v591 : BitVec 32 := Scalar.select v589 v590 v584
  let c1_i32_384 : BitVec 32 := 1#32
  let v592 : BitVec 32 := Scalar.muli v591 c1_i32_384
  let v593 : BitVec 32 := Scalar.addi c0_i32_385 v592
  v593.toNat
def k0_dev45 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_377 : BitVec 32 := 7#32
  let v581 : BitVec 32 := Scalar.addi v2 c7_i32_377
  let c32_i32_378 : BitVec 32 := 32#32
  let c0_i32_379 : BitVec 32 := 0#32
  let v582 : BitVec 1 := Scalar.cmpi .eq c32_i32_378 c0_i32_379
  let c1_i32_380 : BitVec 32 := 1#32
  let v583 : BitVec 32 := Scalar.select v582 c1_i32_380 c32_i32_378
  let v584 : BitVec 32 := Scalar.remsi v581 v583
  let c0_i32_382 : BitVec 32 := 0#32
  let v586 : BitVec 1 := Scalar.cmpi .slt v584 c0_i32_382
  let c0_i32_383 : BitVec 32 := 0#32
  let v587 : BitVec 1 := Scalar.cmpi .slt v583 c0_i32_383
  let v588 : BitVec 1 := Scalar.xori v586 v587
  let c0_i32_381 : BitVec 32 := 0#32
  let v585 : BitVec 1 := Scalar.cmpi .ne v584 c0_i32_381
  let v589 : BitVec 1 := Scalar.andi v588 v585
  let v590 : BitVec 32 := Scalar.addi v584 v583
  let v591 : BitVec 32 := Scalar.select v589 v590 v584
  let c1_i32_388 : BitVec 32 := 1#32
  let v600 : BitVec 32 := Scalar.muli v591 c1_i32_388
  let v601 : BitVec 32 := Scalar.addi c0_i32_389 v600
  v601.toNat
def k0_dev46 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_392 : BitVec 32 := 8#32
  let v608 : BitVec 32 := Scalar.addi v2 c8_i32_392
  let c32_i32_393 : BitVec 32 := 32#32
  let c0_i32_394 : BitVec 32 := 0#32
  let v609 : BitVec 1 := Scalar.cmpi .eq c32_i32_393 c0_i32_394
  let c1_i32_395 : BitVec 32 := 1#32
  let v610 : BitVec 32 := Scalar.select v609 c1_i32_395 c32_i32_393
  let v611 : BitVec 32 := Scalar.remsi v608 v610
  let c0_i32_397 : BitVec 32 := 0#32
  let v613 : BitVec 1 := Scalar.cmpi .slt v611 c0_i32_397
  let c0_i32_398 : BitVec 32 := 0#32
  let v614 : BitVec 1 := Scalar.cmpi .slt v610 c0_i32_398
  let v615 : BitVec 1 := Scalar.xori v613 v614
  let c0_i32_396 : BitVec 32 := 0#32
  let v612 : BitVec 1 := Scalar.cmpi .ne v611 c0_i32_396
  let v616 : BitVec 1 := Scalar.andi v615 v612
  let v617 : BitVec 32 := Scalar.addi v611 v610
  let v618 : BitVec 32 := Scalar.select v616 v617 v611
  let c1_i32_399 : BitVec 32 := 1#32
  let v619 : BitVec 32 := Scalar.muli v618 c1_i32_399
  let v620 : BitVec 32 := Scalar.addi c0_i32_400 v619
  v620.toNat
def k0_dev47 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_392 : BitVec 32 := 8#32
  let v608 : BitVec 32 := Scalar.addi v2 c8_i32_392
  let c32_i32_393 : BitVec 32 := 32#32
  let c0_i32_394 : BitVec 32 := 0#32
  let v609 : BitVec 1 := Scalar.cmpi .eq c32_i32_393 c0_i32_394
  let c1_i32_395 : BitVec 32 := 1#32
  let v610 : BitVec 32 := Scalar.select v609 c1_i32_395 c32_i32_393
  let v611 : BitVec 32 := Scalar.remsi v608 v610
  let c0_i32_397 : BitVec 32 := 0#32
  let v613 : BitVec 1 := Scalar.cmpi .slt v611 c0_i32_397
  let c0_i32_398 : BitVec 32 := 0#32
  let v614 : BitVec 1 := Scalar.cmpi .slt v610 c0_i32_398
  let v615 : BitVec 1 := Scalar.xori v613 v614
  let c0_i32_396 : BitVec 32 := 0#32
  let v612 : BitVec 1 := Scalar.cmpi .ne v611 c0_i32_396
  let v616 : BitVec 1 := Scalar.andi v615 v612
  let v617 : BitVec 32 := Scalar.addi v611 v610
  let v618 : BitVec 32 := Scalar.select v616 v617 v611
  let c1_i32_403 : BitVec 32 := 1#32
  let v627 : BitVec 32 := Scalar.muli v618 c1_i32_403
  let v628 : BitVec 32 := Scalar.addi c0_i32_404 v627
  v628.toNat
def k0_dev48 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_407 : BitVec 32 := 9#32
  let v635 : BitVec 32 := Scalar.addi v2 c9_i32_407
  let c32_i32_408 : BitVec 32 := 32#32
  let c0_i32_409 : BitVec 32 := 0#32
  let v636 : BitVec 1 := Scalar.cmpi .eq c32_i32_408 c0_i32_409
  let c1_i32_410 : BitVec 32 := 1#32
  let v637 : BitVec 32 := Scalar.select v636 c1_i32_410 c32_i32_408
  let v638 : BitVec 32 := Scalar.remsi v635 v637
  let c0_i32_412 : BitVec 32 := 0#32
  let v640 : BitVec 1 := Scalar.cmpi .slt v638 c0_i32_412
  let c0_i32_413 : BitVec 32 := 0#32
  let v641 : BitVec 1 := Scalar.cmpi .slt v637 c0_i32_413
  let v642 : BitVec 1 := Scalar.xori v640 v641
  let c0_i32_411 : BitVec 32 := 0#32
  let v639 : BitVec 1 := Scalar.cmpi .ne v638 c0_i32_411
  let v643 : BitVec 1 := Scalar.andi v642 v639
  let v644 : BitVec 32 := Scalar.addi v638 v637
  let v645 : BitVec 32 := Scalar.select v643 v644 v638
  let c1_i32_414 : BitVec 32 := 1#32
  let v646 : BitVec 32 := Scalar.muli v645 c1_i32_414
  let v647 : BitVec 32 := Scalar.addi c0_i32_415 v646
  v647.toNat
def k0_dev49 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_407 : BitVec 32 := 9#32
  let v635 : BitVec 32 := Scalar.addi v2 c9_i32_407
  let c32_i32_408 : BitVec 32 := 32#32
  let c0_i32_409 : BitVec 32 := 0#32
  let v636 : BitVec 1 := Scalar.cmpi .eq c32_i32_408 c0_i32_409
  let c1_i32_410 : BitVec 32 := 1#32
  let v637 : BitVec 32 := Scalar.select v636 c1_i32_410 c32_i32_408
  let v638 : BitVec 32 := Scalar.remsi v635 v637
  let c0_i32_412 : BitVec 32 := 0#32
  let v640 : BitVec 1 := Scalar.cmpi .slt v638 c0_i32_412
  let c0_i32_413 : BitVec 32 := 0#32
  let v641 : BitVec 1 := Scalar.cmpi .slt v637 c0_i32_413
  let v642 : BitVec 1 := Scalar.xori v640 v641
  let c0_i32_411 : BitVec 32 := 0#32
  let v639 : BitVec 1 := Scalar.cmpi .ne v638 c0_i32_411
  let v643 : BitVec 1 := Scalar.andi v642 v639
  let v644 : BitVec 32 := Scalar.addi v638 v637
  let v645 : BitVec 32 := Scalar.select v643 v644 v638
  let c1_i32_418 : BitVec 32 := 1#32
  let v654 : BitVec 32 := Scalar.muli v645 c1_i32_418
  let v655 : BitVec 32 := Scalar.addi c0_i32_419 v654
  v655.toNat
def k0_dev50 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_422 : BitVec 32 := 10#32
  let v662 : BitVec 32 := Scalar.addi v2 c10_i32_422
  let c32_i32_423 : BitVec 32 := 32#32
  let c0_i32_424 : BitVec 32 := 0#32
  let v663 : BitVec 1 := Scalar.cmpi .eq c32_i32_423 c0_i32_424
  let c1_i32_425 : BitVec 32 := 1#32
  let v664 : BitVec 32 := Scalar.select v663 c1_i32_425 c32_i32_423
  let v665 : BitVec 32 := Scalar.remsi v662 v664
  let c0_i32_427 : BitVec 32 := 0#32
  let v667 : BitVec 1 := Scalar.cmpi .slt v665 c0_i32_427
  let c0_i32_428 : BitVec 32 := 0#32
  let v668 : BitVec 1 := Scalar.cmpi .slt v664 c0_i32_428
  let v669 : BitVec 1 := Scalar.xori v667 v668
  let c0_i32_426 : BitVec 32 := 0#32
  let v666 : BitVec 1 := Scalar.cmpi .ne v665 c0_i32_426
  let v670 : BitVec 1 := Scalar.andi v669 v666
  let v671 : BitVec 32 := Scalar.addi v665 v664
  let v672 : BitVec 32 := Scalar.select v670 v671 v665
  let c1_i32_429 : BitVec 32 := 1#32
  let v673 : BitVec 32 := Scalar.muli v672 c1_i32_429
  let v674 : BitVec 32 := Scalar.addi c0_i32_430 v673
  v674.toNat
def k0_dev51 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_422 : BitVec 32 := 10#32
  let v662 : BitVec 32 := Scalar.addi v2 c10_i32_422
  let c32_i32_423 : BitVec 32 := 32#32
  let c0_i32_424 : BitVec 32 := 0#32
  let v663 : BitVec 1 := Scalar.cmpi .eq c32_i32_423 c0_i32_424
  let c1_i32_425 : BitVec 32 := 1#32
  let v664 : BitVec 32 := Scalar.select v663 c1_i32_425 c32_i32_423
  let v665 : BitVec 32 := Scalar.remsi v662 v664
  let c0_i32_427 : BitVec 32 := 0#32
  let v667 : BitVec 1 := Scalar.cmpi .slt v665 c0_i32_427
  let c0_i32_428 : BitVec 32 := 0#32
  let v668 : BitVec 1 := Scalar.cmpi .slt v664 c0_i32_428
  let v669 : BitVec 1 := Scalar.xori v667 v668
  let c0_i32_426 : BitVec 32 := 0#32
  let v666 : BitVec 1 := Scalar.cmpi .ne v665 c0_i32_426
  let v670 : BitVec 1 := Scalar.andi v669 v666
  let v671 : BitVec 32 := Scalar.addi v665 v664
  let v672 : BitVec 32 := Scalar.select v670 v671 v665
  let c1_i32_433 : BitVec 32 := 1#32
  let v681 : BitVec 32 := Scalar.muli v672 c1_i32_433
  let v682 : BitVec 32 := Scalar.addi c0_i32_434 v681
  v682.toNat
def k0_dev52 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_437 : BitVec 32 := 11#32
  let v689 : BitVec 32 := Scalar.addi v2 c11_i32_437
  let c32_i32_438 : BitVec 32 := 32#32
  let c0_i32_439 : BitVec 32 := 0#32
  let v690 : BitVec 1 := Scalar.cmpi .eq c32_i32_438 c0_i32_439
  let c1_i32_440 : BitVec 32 := 1#32
  let v691 : BitVec 32 := Scalar.select v690 c1_i32_440 c32_i32_438
  let v692 : BitVec 32 := Scalar.remsi v689 v691
  let c0_i32_442 : BitVec 32 := 0#32
  let v694 : BitVec 1 := Scalar.cmpi .slt v692 c0_i32_442
  let c0_i32_443 : BitVec 32 := 0#32
  let v695 : BitVec 1 := Scalar.cmpi .slt v691 c0_i32_443
  let v696 : BitVec 1 := Scalar.xori v694 v695
  let c0_i32_441 : BitVec 32 := 0#32
  let v693 : BitVec 1 := Scalar.cmpi .ne v692 c0_i32_441
  let v697 : BitVec 1 := Scalar.andi v696 v693
  let v698 : BitVec 32 := Scalar.addi v692 v691
  let v699 : BitVec 32 := Scalar.select v697 v698 v692
  let c1_i32_444 : BitVec 32 := 1#32
  let v700 : BitVec 32 := Scalar.muli v699 c1_i32_444
  let v701 : BitVec 32 := Scalar.addi c0_i32_445 v700
  v701.toNat
def k0_dev53 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_437 : BitVec 32 := 11#32
  let v689 : BitVec 32 := Scalar.addi v2 c11_i32_437
  let c32_i32_438 : BitVec 32 := 32#32
  let c0_i32_439 : BitVec 32 := 0#32
  let v690 : BitVec 1 := Scalar.cmpi .eq c32_i32_438 c0_i32_439
  let c1_i32_440 : BitVec 32 := 1#32
  let v691 : BitVec 32 := Scalar.select v690 c1_i32_440 c32_i32_438
  let v692 : BitVec 32 := Scalar.remsi v689 v691
  let c0_i32_442 : BitVec 32 := 0#32
  let v694 : BitVec 1 := Scalar.cmpi .slt v692 c0_i32_442
  let c0_i32_443 : BitVec 32 := 0#32
  let v695 : BitVec 1 := Scalar.cmpi .slt v691 c0_i32_443
  let v696 : BitVec 1 := Scalar.xori v694 v695
  let c0_i32_441 : BitVec 32 := 0#32
  let v693 : BitVec 1 := Scalar.cmpi .ne v692 c0_i32_441
  let v697 : BitVec 1 := Scalar.andi v696 v693
  let v698 : BitVec 32 := Scalar.addi v692 v691
  let v699 : BitVec 32 := Scalar.select v697 v698 v692
  let c1_i32_448 : BitVec 32 := 1#32
  let v708 : BitVec 32 := Scalar.muli v699 c1_i32_448
  let v709 : BitVec 32 := Scalar.addi c0_i32_449 v708
  v709.toNat
def k0_dev54 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_452 : BitVec 32 := 12#32
  let v716 : BitVec 32 := Scalar.addi v2 c12_i32_452
  let c32_i32_453 : BitVec 32 := 32#32
  let c0_i32_454 : BitVec 32 := 0#32
  let v717 : BitVec 1 := Scalar.cmpi .eq c32_i32_453 c0_i32_454
  let c1_i32_455 : BitVec 32 := 1#32
  let v718 : BitVec 32 := Scalar.select v717 c1_i32_455 c32_i32_453
  let v719 : BitVec 32 := Scalar.remsi v716 v718
  let c0_i32_457 : BitVec 32 := 0#32
  let v721 : BitVec 1 := Scalar.cmpi .slt v719 c0_i32_457
  let c0_i32_458 : BitVec 32 := 0#32
  let v722 : BitVec 1 := Scalar.cmpi .slt v718 c0_i32_458
  let v723 : BitVec 1 := Scalar.xori v721 v722
  let c0_i32_456 : BitVec 32 := 0#32
  let v720 : BitVec 1 := Scalar.cmpi .ne v719 c0_i32_456
  let v724 : BitVec 1 := Scalar.andi v723 v720
  let v725 : BitVec 32 := Scalar.addi v719 v718
  let v726 : BitVec 32 := Scalar.select v724 v725 v719
  let c1_i32_459 : BitVec 32 := 1#32
  let v727 : BitVec 32 := Scalar.muli v726 c1_i32_459
  let v728 : BitVec 32 := Scalar.addi c0_i32_460 v727
  v728.toNat
def k0_dev55 (d0 : Dev nD) : Nat :=
  let c0_i32_464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_452 : BitVec 32 := 12#32
  let v716 : BitVec 32 := Scalar.addi v2 c12_i32_452
  let c32_i32_453 : BitVec 32 := 32#32
  let c0_i32_454 : BitVec 32 := 0#32
  let v717 : BitVec 1 := Scalar.cmpi .eq c32_i32_453 c0_i32_454
  let c1_i32_455 : BitVec 32 := 1#32
  let v718 : BitVec 32 := Scalar.select v717 c1_i32_455 c32_i32_453
  let v719 : BitVec 32 := Scalar.remsi v716 v718
  let c0_i32_457 : BitVec 32 := 0#32
  let v721 : BitVec 1 := Scalar.cmpi .slt v719 c0_i32_457
  let c0_i32_458 : BitVec 32 := 0#32
  let v722 : BitVec 1 := Scalar.cmpi .slt v718 c0_i32_458
  let v723 : BitVec 1 := Scalar.xori v721 v722
  let c0_i32_456 : BitVec 32 := 0#32
  let v720 : BitVec 1 := Scalar.cmpi .ne v719 c0_i32_456
  let v724 : BitVec 1 := Scalar.andi v723 v720
  let v725 : BitVec 32 := Scalar.addi v719 v718
  let v726 : BitVec 32 := Scalar.select v724 v725 v719
  let c1_i32_463 : BitVec 32 := 1#32
  let v735 : BitVec 32 := Scalar.muli v726 c1_i32_463
  let v736 : BitVec 32 := Scalar.addi c0_i32_464 v735
  v736.toNat
def k0_dev56 (d0 : Dev nD) : Nat :=
  let c0_i32_475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_467 : BitVec 32 := 13#32
  let v743 : BitVec 32 := Scalar.addi v2 c13_i32_467
  let c32_i32_468 : BitVec 32 := 32#32
  let c0_i32_469 : BitVec 32 := 0#32
  let v744 : BitVec 1 := Scalar.cmpi .eq c32_i32_468 c0_i32_469
  let c1_i32_470 : BitVec 32 := 1#32
  let v745 : BitVec 32 := Scalar.select v744 c1_i32_470 c32_i32_468
  let v746 : BitVec 32 := Scalar.remsi v743 v745
  let c0_i32_472 : BitVec 32 := 0#32
  let v748 : BitVec 1 := Scalar.cmpi .slt v746 c0_i32_472
  let c0_i32_473 : BitVec 32 := 0#32
  let v749 : BitVec 1 := Scalar.cmpi .slt v745 c0_i32_473
  let v750 : BitVec 1 := Scalar.xori v748 v749
  let c0_i32_471 : BitVec 32 := 0#32
  let v747 : BitVec 1 := Scalar.cmpi .ne v746 c0_i32_471
  let v751 : BitVec 1 := Scalar.andi v750 v747
  let v752 : BitVec 32 := Scalar.addi v746 v745
  let v753 : BitVec 32 := Scalar.select v751 v752 v746
  let c1_i32_474 : BitVec 32 := 1#32
  let v754 : BitVec 32 := Scalar.muli v753 c1_i32_474
  let v755 : BitVec 32 := Scalar.addi c0_i32_475 v754
  v755.toNat
def k0_dev57 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_467 : BitVec 32 := 13#32
  let v743 : BitVec 32 := Scalar.addi v2 c13_i32_467
  let c32_i32_468 : BitVec 32 := 32#32
  let c0_i32_469 : BitVec 32 := 0#32
  let v744 : BitVec 1 := Scalar.cmpi .eq c32_i32_468 c0_i32_469
  let c1_i32_470 : BitVec 32 := 1#32
  let v745 : BitVec 32 := Scalar.select v744 c1_i32_470 c32_i32_468
  let v746 : BitVec 32 := Scalar.remsi v743 v745
  let c0_i32_472 : BitVec 32 := 0#32
  let v748 : BitVec 1 := Scalar.cmpi .slt v746 c0_i32_472
  let c0_i32_473 : BitVec 32 := 0#32
  let v749 : BitVec 1 := Scalar.cmpi .slt v745 c0_i32_473
  let v750 : BitVec 1 := Scalar.xori v748 v749
  let c0_i32_471 : BitVec 32 := 0#32
  let v747 : BitVec 1 := Scalar.cmpi .ne v746 c0_i32_471
  let v751 : BitVec 1 := Scalar.andi v750 v747
  let v752 : BitVec 32 := Scalar.addi v746 v745
  let v753 : BitVec 32 := Scalar.select v751 v752 v746
  let c1_i32_478 : BitVec 32 := 1#32
  let v762 : BitVec 32 := Scalar.muli v753 c1_i32_478
  let v763 : BitVec 32 := Scalar.addi c0_i32_479 v762
  v763.toNat
def k0_dev58 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_482 : BitVec 32 := 14#32
  let v770 : BitVec 32 := Scalar.addi v2 c14_i32_482
  let c32_i32_483 : BitVec 32 := 32#32
  let c0_i32_484 : BitVec 32 := 0#32
  let v771 : BitVec 1 := Scalar.cmpi .eq c32_i32_483 c0_i32_484
  let c1_i32_485 : BitVec 32 := 1#32
  let v772 : BitVec 32 := Scalar.select v771 c1_i32_485 c32_i32_483
  let v773 : BitVec 32 := Scalar.remsi v770 v772
  let c0_i32_487 : BitVec 32 := 0#32
  let v775 : BitVec 1 := Scalar.cmpi .slt v773 c0_i32_487
  let c0_i32_488 : BitVec 32 := 0#32
  let v776 : BitVec 1 := Scalar.cmpi .slt v772 c0_i32_488
  let v777 : BitVec 1 := Scalar.xori v775 v776
  let c0_i32_486 : BitVec 32 := 0#32
  let v774 : BitVec 1 := Scalar.cmpi .ne v773 c0_i32_486
  let v778 : BitVec 1 := Scalar.andi v777 v774
  let v779 : BitVec 32 := Scalar.addi v773 v772
  let v780 : BitVec 32 := Scalar.select v778 v779 v773
  let c1_i32_489 : BitVec 32 := 1#32
  let v781 : BitVec 32 := Scalar.muli v780 c1_i32_489
  let v782 : BitVec 32 := Scalar.addi c0_i32_490 v781
  v782.toNat
def k0_dev59 (d0 : Dev nD) : Nat :=
  let c0_i32_494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_482 : BitVec 32 := 14#32
  let v770 : BitVec 32 := Scalar.addi v2 c14_i32_482
  let c32_i32_483 : BitVec 32 := 32#32
  let c0_i32_484 : BitVec 32 := 0#32
  let v771 : BitVec 1 := Scalar.cmpi .eq c32_i32_483 c0_i32_484
  let c1_i32_485 : BitVec 32 := 1#32
  let v772 : BitVec 32 := Scalar.select v771 c1_i32_485 c32_i32_483
  let v773 : BitVec 32 := Scalar.remsi v770 v772
  let c0_i32_487 : BitVec 32 := 0#32
  let v775 : BitVec 1 := Scalar.cmpi .slt v773 c0_i32_487
  let c0_i32_488 : BitVec 32 := 0#32
  let v776 : BitVec 1 := Scalar.cmpi .slt v772 c0_i32_488
  let v777 : BitVec 1 := Scalar.xori v775 v776
  let c0_i32_486 : BitVec 32 := 0#32
  let v774 : BitVec 1 := Scalar.cmpi .ne v773 c0_i32_486
  let v778 : BitVec 1 := Scalar.andi v777 v774
  let v779 : BitVec 32 := Scalar.addi v773 v772
  let v780 : BitVec 32 := Scalar.select v778 v779 v773
  let c1_i32_493 : BitVec 32 := 1#32
  let v789 : BitVec 32 := Scalar.muli v780 c1_i32_493
  let v790 : BitVec 32 := Scalar.addi c0_i32_494 v789
  v790.toNat
def k0_dev60 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_497 : BitVec 32 := 15#32
  let v797 : BitVec 32 := Scalar.addi v2 c15_i32_497
  let c32_i32_498 : BitVec 32 := 32#32
  let c0_i32_499 : BitVec 32 := 0#32
  let v798 : BitVec 1 := Scalar.cmpi .eq c32_i32_498 c0_i32_499
  let c1_i32_500 : BitVec 32 := 1#32
  let v799 : BitVec 32 := Scalar.select v798 c1_i32_500 c32_i32_498
  let v800 : BitVec 32 := Scalar.remsi v797 v799
  let c0_i32_502 : BitVec 32 := 0#32
  let v802 : BitVec 1 := Scalar.cmpi .slt v800 c0_i32_502
  let c0_i32_503 : BitVec 32 := 0#32
  let v803 : BitVec 1 := Scalar.cmpi .slt v799 c0_i32_503
  let v804 : BitVec 1 := Scalar.xori v802 v803
  let c0_i32_501 : BitVec 32 := 0#32
  let v801 : BitVec 1 := Scalar.cmpi .ne v800 c0_i32_501
  let v805 : BitVec 1 := Scalar.andi v804 v801
  let v806 : BitVec 32 := Scalar.addi v800 v799
  let v807 : BitVec 32 := Scalar.select v805 v806 v800
  let c1_i32_504 : BitVec 32 := 1#32
  let v808 : BitVec 32 := Scalar.muli v807 c1_i32_504
  let v809 : BitVec 32 := Scalar.addi c0_i32_505 v808
  v809.toNat
def k0_dev61 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_497 : BitVec 32 := 15#32
  let v797 : BitVec 32 := Scalar.addi v2 c15_i32_497
  let c32_i32_498 : BitVec 32 := 32#32
  let c0_i32_499 : BitVec 32 := 0#32
  let v798 : BitVec 1 := Scalar.cmpi .eq c32_i32_498 c0_i32_499
  let c1_i32_500 : BitVec 32 := 1#32
  let v799 : BitVec 32 := Scalar.select v798 c1_i32_500 c32_i32_498
  let v800 : BitVec 32 := Scalar.remsi v797 v799
  let c0_i32_502 : BitVec 32 := 0#32
  let v802 : BitVec 1 := Scalar.cmpi .slt v800 c0_i32_502
  let c0_i32_503 : BitVec 32 := 0#32
  let v803 : BitVec 1 := Scalar.cmpi .slt v799 c0_i32_503
  let v804 : BitVec 1 := Scalar.xori v802 v803
  let c0_i32_501 : BitVec 32 := 0#32
  let v801 : BitVec 1 := Scalar.cmpi .ne v800 c0_i32_501
  let v805 : BitVec 1 := Scalar.andi v804 v801
  let v806 : BitVec 32 := Scalar.addi v800 v799
  let v807 : BitVec 32 := Scalar.select v805 v806 v800
  let c1_i32_508 : BitVec 32 := 1#32
  let v816 : BitVec 32 := Scalar.muli v807 c1_i32_508
  let v817 : BitVec 32 := Scalar.addi c0_i32_509 v816
  v817.toNat
def k0_dev62 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_512 : BitVec 32 := 16#32
  let v824 : BitVec 32 := Scalar.addi v2 c16_i32_512
  let c32_i32_513 : BitVec 32 := 32#32
  let c0_i32_514 : BitVec 32 := 0#32
  let v825 : BitVec 1 := Scalar.cmpi .eq c32_i32_513 c0_i32_514
  let c1_i32_515 : BitVec 32 := 1#32
  let v826 : BitVec 32 := Scalar.select v825 c1_i32_515 c32_i32_513
  let v827 : BitVec 32 := Scalar.remsi v824 v826
  let c0_i32_517 : BitVec 32 := 0#32
  let v829 : BitVec 1 := Scalar.cmpi .slt v827 c0_i32_517
  let c0_i32_518 : BitVec 32 := 0#32
  let v830 : BitVec 1 := Scalar.cmpi .slt v826 c0_i32_518
  let v831 : BitVec 1 := Scalar.xori v829 v830
  let c0_i32_516 : BitVec 32 := 0#32
  let v828 : BitVec 1 := Scalar.cmpi .ne v827 c0_i32_516
  let v832 : BitVec 1 := Scalar.andi v831 v828
  let v833 : BitVec 32 := Scalar.addi v827 v826
  let v834 : BitVec 32 := Scalar.select v832 v833 v827
  let c1_i32_519 : BitVec 32 := 1#32
  let v835 : BitVec 32 := Scalar.muli v834 c1_i32_519
  let v836 : BitVec 32 := Scalar.addi c0_i32_520 v835
  v836.toNat
def k0_dev63 (d0 : Dev nD) : Nat :=
  let c0_i32_524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_512 : BitVec 32 := 16#32
  let v824 : BitVec 32 := Scalar.addi v2 c16_i32_512
  let c32_i32_513 : BitVec 32 := 32#32
  let c0_i32_514 : BitVec 32 := 0#32
  let v825 : BitVec 1 := Scalar.cmpi .eq c32_i32_513 c0_i32_514
  let c1_i32_515 : BitVec 32 := 1#32
  let v826 : BitVec 32 := Scalar.select v825 c1_i32_515 c32_i32_513
  let v827 : BitVec 32 := Scalar.remsi v824 v826
  let c0_i32_517 : BitVec 32 := 0#32
  let v829 : BitVec 1 := Scalar.cmpi .slt v827 c0_i32_517
  let c0_i32_518 : BitVec 32 := 0#32
  let v830 : BitVec 1 := Scalar.cmpi .slt v826 c0_i32_518
  let v831 : BitVec 1 := Scalar.xori v829 v830
  let c0_i32_516 : BitVec 32 := 0#32
  let v828 : BitVec 1 := Scalar.cmpi .ne v827 c0_i32_516
  let v832 : BitVec 1 := Scalar.andi v831 v828
  let v833 : BitVec 32 := Scalar.addi v827 v826
  let v834 : BitVec 32 := Scalar.select v832 v833 v827
  let c1_i32_523 : BitVec 32 := 1#32
  let v843 : BitVec 32 := Scalar.muli v834 c1_i32_523
  let v844 : BitVec 32 := Scalar.addi c0_i32_524 v843
  v844.toNat
def k0_dev64 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_527 : BitVec 32 := 17#32
  let v851 : BitVec 32 := Scalar.addi v2 c17_i32_527
  let c32_i32_528 : BitVec 32 := 32#32
  let c0_i32_529 : BitVec 32 := 0#32
  let v852 : BitVec 1 := Scalar.cmpi .eq c32_i32_528 c0_i32_529
  let c1_i32_530 : BitVec 32 := 1#32
  let v853 : BitVec 32 := Scalar.select v852 c1_i32_530 c32_i32_528
  let v854 : BitVec 32 := Scalar.remsi v851 v853
  let c0_i32_532 : BitVec 32 := 0#32
  let v856 : BitVec 1 := Scalar.cmpi .slt v854 c0_i32_532
  let c0_i32_533 : BitVec 32 := 0#32
  let v857 : BitVec 1 := Scalar.cmpi .slt v853 c0_i32_533
  let v858 : BitVec 1 := Scalar.xori v856 v857
  let c0_i32_531 : BitVec 32 := 0#32
  let v855 : BitVec 1 := Scalar.cmpi .ne v854 c0_i32_531
  let v859 : BitVec 1 := Scalar.andi v858 v855
  let v860 : BitVec 32 := Scalar.addi v854 v853
  let v861 : BitVec 32 := Scalar.select v859 v860 v854
  let c1_i32_534 : BitVec 32 := 1#32
  let v862 : BitVec 32 := Scalar.muli v861 c1_i32_534
  let v863 : BitVec 32 := Scalar.addi c0_i32_535 v862
  v863.toNat
def k0_dev65 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_527 : BitVec 32 := 17#32
  let v851 : BitVec 32 := Scalar.addi v2 c17_i32_527
  let c32_i32_528 : BitVec 32 := 32#32
  let c0_i32_529 : BitVec 32 := 0#32
  let v852 : BitVec 1 := Scalar.cmpi .eq c32_i32_528 c0_i32_529
  let c1_i32_530 : BitVec 32 := 1#32
  let v853 : BitVec 32 := Scalar.select v852 c1_i32_530 c32_i32_528
  let v854 : BitVec 32 := Scalar.remsi v851 v853
  let c0_i32_532 : BitVec 32 := 0#32
  let v856 : BitVec 1 := Scalar.cmpi .slt v854 c0_i32_532
  let c0_i32_533 : BitVec 32 := 0#32
  let v857 : BitVec 1 := Scalar.cmpi .slt v853 c0_i32_533
  let v858 : BitVec 1 := Scalar.xori v856 v857
  let c0_i32_531 : BitVec 32 := 0#32
  let v855 : BitVec 1 := Scalar.cmpi .ne v854 c0_i32_531
  let v859 : BitVec 1 := Scalar.andi v858 v855
  let v860 : BitVec 32 := Scalar.addi v854 v853
  let v861 : BitVec 32 := Scalar.select v859 v860 v854
  let c1_i32_538 : BitVec 32 := 1#32
  let v870 : BitVec 32 := Scalar.muli v861 c1_i32_538
  let v871 : BitVec 32 := Scalar.addi c0_i32_539 v870
  v871.toNat
def k0_dev66 (d0 : Dev nD) : Nat :=
  let c0_i32_550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_542 : BitVec 32 := 18#32
  let v878 : BitVec 32 := Scalar.addi v2 c18_i32_542
  let c32_i32_543 : BitVec 32 := 32#32
  let c0_i32_544 : BitVec 32 := 0#32
  let v879 : BitVec 1 := Scalar.cmpi .eq c32_i32_543 c0_i32_544
  let c1_i32_545 : BitVec 32 := 1#32
  let v880 : BitVec 32 := Scalar.select v879 c1_i32_545 c32_i32_543
  let v881 : BitVec 32 := Scalar.remsi v878 v880
  let c0_i32_547 : BitVec 32 := 0#32
  let v883 : BitVec 1 := Scalar.cmpi .slt v881 c0_i32_547
  let c0_i32_548 : BitVec 32 := 0#32
  let v884 : BitVec 1 := Scalar.cmpi .slt v880 c0_i32_548
  let v885 : BitVec 1 := Scalar.xori v883 v884
  let c0_i32_546 : BitVec 32 := 0#32
  let v882 : BitVec 1 := Scalar.cmpi .ne v881 c0_i32_546
  let v886 : BitVec 1 := Scalar.andi v885 v882
  let v887 : BitVec 32 := Scalar.addi v881 v880
  let v888 : BitVec 32 := Scalar.select v886 v887 v881
  let c1_i32_549 : BitVec 32 := 1#32
  let v889 : BitVec 32 := Scalar.muli v888 c1_i32_549
  let v890 : BitVec 32 := Scalar.addi c0_i32_550 v889
  v890.toNat
def k0_dev67 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_542 : BitVec 32 := 18#32
  let v878 : BitVec 32 := Scalar.addi v2 c18_i32_542
  let c32_i32_543 : BitVec 32 := 32#32
  let c0_i32_544 : BitVec 32 := 0#32
  let v879 : BitVec 1 := Scalar.cmpi .eq c32_i32_543 c0_i32_544
  let c1_i32_545 : BitVec 32 := 1#32
  let v880 : BitVec 32 := Scalar.select v879 c1_i32_545 c32_i32_543
  let v881 : BitVec 32 := Scalar.remsi v878 v880
  let c0_i32_547 : BitVec 32 := 0#32
  let v883 : BitVec 1 := Scalar.cmpi .slt v881 c0_i32_547
  let c0_i32_548 : BitVec 32 := 0#32
  let v884 : BitVec 1 := Scalar.cmpi .slt v880 c0_i32_548
  let v885 : BitVec 1 := Scalar.xori v883 v884
  let c0_i32_546 : BitVec 32 := 0#32
  let v882 : BitVec 1 := Scalar.cmpi .ne v881 c0_i32_546
  let v886 : BitVec 1 := Scalar.andi v885 v882
  let v887 : BitVec 32 := Scalar.addi v881 v880
  let v888 : BitVec 32 := Scalar.select v886 v887 v881
  let c1_i32_553 : BitVec 32 := 1#32
  let v897 : BitVec 32 := Scalar.muli v888 c1_i32_553
  let v898 : BitVec 32 := Scalar.addi c0_i32_554 v897
  v898.toNat
def k0_dev68 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_557 : BitVec 32 := 19#32
  let v905 : BitVec 32 := Scalar.addi v2 c19_i32_557
  let c32_i32_558 : BitVec 32 := 32#32
  let c0_i32_559 : BitVec 32 := 0#32
  let v906 : BitVec 1 := Scalar.cmpi .eq c32_i32_558 c0_i32_559
  let c1_i32_560 : BitVec 32 := 1#32
  let v907 : BitVec 32 := Scalar.select v906 c1_i32_560 c32_i32_558
  let v908 : BitVec 32 := Scalar.remsi v905 v907
  let c0_i32_562 : BitVec 32 := 0#32
  let v910 : BitVec 1 := Scalar.cmpi .slt v908 c0_i32_562
  let c0_i32_563 : BitVec 32 := 0#32
  let v911 : BitVec 1 := Scalar.cmpi .slt v907 c0_i32_563
  let v912 : BitVec 1 := Scalar.xori v910 v911
  let c0_i32_561 : BitVec 32 := 0#32
  let v909 : BitVec 1 := Scalar.cmpi .ne v908 c0_i32_561
  let v913 : BitVec 1 := Scalar.andi v912 v909
  let v914 : BitVec 32 := Scalar.addi v908 v907
  let v915 : BitVec 32 := Scalar.select v913 v914 v908
  let c1_i32_564 : BitVec 32 := 1#32
  let v916 : BitVec 32 := Scalar.muli v915 c1_i32_564
  let v917 : BitVec 32 := Scalar.addi c0_i32_565 v916
  v917.toNat
def k0_dev69 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_557 : BitVec 32 := 19#32
  let v905 : BitVec 32 := Scalar.addi v2 c19_i32_557
  let c32_i32_558 : BitVec 32 := 32#32
  let c0_i32_559 : BitVec 32 := 0#32
  let v906 : BitVec 1 := Scalar.cmpi .eq c32_i32_558 c0_i32_559
  let c1_i32_560 : BitVec 32 := 1#32
  let v907 : BitVec 32 := Scalar.select v906 c1_i32_560 c32_i32_558
  let v908 : BitVec 32 := Scalar.remsi v905 v907
  let c0_i32_562 : BitVec 32 := 0#32
  let v910 : BitVec 1 := Scalar.cmpi .slt v908 c0_i32_562
  let c0_i32_563 : BitVec 32 := 0#32
  let v911 : BitVec 1 := Scalar.cmpi .slt v907 c0_i32_563
  let v912 : BitVec 1 := Scalar.xori v910 v911
  let c0_i32_561 : BitVec 32 := 0#32
  let v909 : BitVec 1 := Scalar.cmpi .ne v908 c0_i32_561
  let v913 : BitVec 1 := Scalar.andi v912 v909
  let v914 : BitVec 32 := Scalar.addi v908 v907
  let v915 : BitVec 32 := Scalar.select v913 v914 v908
  let c1_i32_568 : BitVec 32 := 1#32
  let v924 : BitVec 32 := Scalar.muli v915 c1_i32_568
  let v925 : BitVec 32 := Scalar.addi c0_i32_569 v924
  v925.toNat
def k0_dev70 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_572 : BitVec 32 := 20#32
  let v932 : BitVec 32 := Scalar.addi v2 c20_i32_572
  let c32_i32_573 : BitVec 32 := 32#32
  let c0_i32_574 : BitVec 32 := 0#32
  let v933 : BitVec 1 := Scalar.cmpi .eq c32_i32_573 c0_i32_574
  let c1_i32_575 : BitVec 32 := 1#32
  let v934 : BitVec 32 := Scalar.select v933 c1_i32_575 c32_i32_573
  let v935 : BitVec 32 := Scalar.remsi v932 v934
  let c0_i32_577 : BitVec 32 := 0#32
  let v937 : BitVec 1 := Scalar.cmpi .slt v935 c0_i32_577
  let c0_i32_578 : BitVec 32 := 0#32
  let v938 : BitVec 1 := Scalar.cmpi .slt v934 c0_i32_578
  let v939 : BitVec 1 := Scalar.xori v937 v938
  let c0_i32_576 : BitVec 32 := 0#32
  let v936 : BitVec 1 := Scalar.cmpi .ne v935 c0_i32_576
  let v940 : BitVec 1 := Scalar.andi v939 v936
  let v941 : BitVec 32 := Scalar.addi v935 v934
  let v942 : BitVec 32 := Scalar.select v940 v941 v935
  let c1_i32_579 : BitVec 32 := 1#32
  let v943 : BitVec 32 := Scalar.muli v942 c1_i32_579
  let v944 : BitVec 32 := Scalar.addi c0_i32_580 v943
  v944.toNat
def k0_dev71 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_572 : BitVec 32 := 20#32
  let v932 : BitVec 32 := Scalar.addi v2 c20_i32_572
  let c32_i32_573 : BitVec 32 := 32#32
  let c0_i32_574 : BitVec 32 := 0#32
  let v933 : BitVec 1 := Scalar.cmpi .eq c32_i32_573 c0_i32_574
  let c1_i32_575 : BitVec 32 := 1#32
  let v934 : BitVec 32 := Scalar.select v933 c1_i32_575 c32_i32_573
  let v935 : BitVec 32 := Scalar.remsi v932 v934
  let c0_i32_577 : BitVec 32 := 0#32
  let v937 : BitVec 1 := Scalar.cmpi .slt v935 c0_i32_577
  let c0_i32_578 : BitVec 32 := 0#32
  let v938 : BitVec 1 := Scalar.cmpi .slt v934 c0_i32_578
  let v939 : BitVec 1 := Scalar.xori v937 v938
  let c0_i32_576 : BitVec 32 := 0#32
  let v936 : BitVec 1 := Scalar.cmpi .ne v935 c0_i32_576
  let v940 : BitVec 1 := Scalar.andi v939 v936
  let v941 : BitVec 32 := Scalar.addi v935 v934
  let v942 : BitVec 32 := Scalar.select v940 v941 v935
  let c1_i32_583 : BitVec 32 := 1#32
  let v951 : BitVec 32 := Scalar.muli v942 c1_i32_583
  let v952 : BitVec 32 := Scalar.addi c0_i32_584 v951
  v952.toNat
def k0_dev72 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_587 : BitVec 32 := 21#32
  let v959 : BitVec 32 := Scalar.addi v2 c21_i32_587
  let c32_i32_588 : BitVec 32 := 32#32
  let c0_i32_589 : BitVec 32 := 0#32
  let v960 : BitVec 1 := Scalar.cmpi .eq c32_i32_588 c0_i32_589
  let c1_i32_590 : BitVec 32 := 1#32
  let v961 : BitVec 32 := Scalar.select v960 c1_i32_590 c32_i32_588
  let v962 : BitVec 32 := Scalar.remsi v959 v961
  let c0_i32_592 : BitVec 32 := 0#32
  let v964 : BitVec 1 := Scalar.cmpi .slt v962 c0_i32_592
  let c0_i32_593 : BitVec 32 := 0#32
  let v965 : BitVec 1 := Scalar.cmpi .slt v961 c0_i32_593
  let v966 : BitVec 1 := Scalar.xori v964 v965
  let c0_i32_591 : BitVec 32 := 0#32
  let v963 : BitVec 1 := Scalar.cmpi .ne v962 c0_i32_591
  let v967 : BitVec 1 := Scalar.andi v966 v963
  let v968 : BitVec 32 := Scalar.addi v962 v961
  let v969 : BitVec 32 := Scalar.select v967 v968 v962
  let c1_i32_594 : BitVec 32 := 1#32
  let v970 : BitVec 32 := Scalar.muli v969 c1_i32_594
  let v971 : BitVec 32 := Scalar.addi c0_i32_595 v970
  v971.toNat
def k0_dev73 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_587 : BitVec 32 := 21#32
  let v959 : BitVec 32 := Scalar.addi v2 c21_i32_587
  let c32_i32_588 : BitVec 32 := 32#32
  let c0_i32_589 : BitVec 32 := 0#32
  let v960 : BitVec 1 := Scalar.cmpi .eq c32_i32_588 c0_i32_589
  let c1_i32_590 : BitVec 32 := 1#32
  let v961 : BitVec 32 := Scalar.select v960 c1_i32_590 c32_i32_588
  let v962 : BitVec 32 := Scalar.remsi v959 v961
  let c0_i32_592 : BitVec 32 := 0#32
  let v964 : BitVec 1 := Scalar.cmpi .slt v962 c0_i32_592
  let c0_i32_593 : BitVec 32 := 0#32
  let v965 : BitVec 1 := Scalar.cmpi .slt v961 c0_i32_593
  let v966 : BitVec 1 := Scalar.xori v964 v965
  let c0_i32_591 : BitVec 32 := 0#32
  let v963 : BitVec 1 := Scalar.cmpi .ne v962 c0_i32_591
  let v967 : BitVec 1 := Scalar.andi v966 v963
  let v968 : BitVec 32 := Scalar.addi v962 v961
  let v969 : BitVec 32 := Scalar.select v967 v968 v962
  let c1_i32_598 : BitVec 32 := 1#32
  let v978 : BitVec 32 := Scalar.muli v969 c1_i32_598
  let v979 : BitVec 32 := Scalar.addi c0_i32_599 v978
  v979.toNat
def k0_dev74 (d0 : Dev nD) : Nat :=
  let c0_i32_610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_602 : BitVec 32 := 22#32
  let v986 : BitVec 32 := Scalar.addi v2 c22_i32_602
  let c32_i32_603 : BitVec 32 := 32#32
  let c0_i32_604 : BitVec 32 := 0#32
  let v987 : BitVec 1 := Scalar.cmpi .eq c32_i32_603 c0_i32_604
  let c1_i32_605 : BitVec 32 := 1#32
  let v988 : BitVec 32 := Scalar.select v987 c1_i32_605 c32_i32_603
  let v989 : BitVec 32 := Scalar.remsi v986 v988
  let c0_i32_607 : BitVec 32 := 0#32
  let v991 : BitVec 1 := Scalar.cmpi .slt v989 c0_i32_607
  let c0_i32_608 : BitVec 32 := 0#32
  let v992 : BitVec 1 := Scalar.cmpi .slt v988 c0_i32_608
  let v993 : BitVec 1 := Scalar.xori v991 v992
  let c0_i32_606 : BitVec 32 := 0#32
  let v990 : BitVec 1 := Scalar.cmpi .ne v989 c0_i32_606
  let v994 : BitVec 1 := Scalar.andi v993 v990
  let v995 : BitVec 32 := Scalar.addi v989 v988
  let v996 : BitVec 32 := Scalar.select v994 v995 v989
  let c1_i32_609 : BitVec 32 := 1#32
  let v997 : BitVec 32 := Scalar.muli v996 c1_i32_609
  let v998 : BitVec 32 := Scalar.addi c0_i32_610 v997
  v998.toNat
def k0_dev75 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_602 : BitVec 32 := 22#32
  let v986 : BitVec 32 := Scalar.addi v2 c22_i32_602
  let c32_i32_603 : BitVec 32 := 32#32
  let c0_i32_604 : BitVec 32 := 0#32
  let v987 : BitVec 1 := Scalar.cmpi .eq c32_i32_603 c0_i32_604
  let c1_i32_605 : BitVec 32 := 1#32
  let v988 : BitVec 32 := Scalar.select v987 c1_i32_605 c32_i32_603
  let v989 : BitVec 32 := Scalar.remsi v986 v988
  let c0_i32_607 : BitVec 32 := 0#32
  let v991 : BitVec 1 := Scalar.cmpi .slt v989 c0_i32_607
  let c0_i32_608 : BitVec 32 := 0#32
  let v992 : BitVec 1 := Scalar.cmpi .slt v988 c0_i32_608
  let v993 : BitVec 1 := Scalar.xori v991 v992
  let c0_i32_606 : BitVec 32 := 0#32
  let v990 : BitVec 1 := Scalar.cmpi .ne v989 c0_i32_606
  let v994 : BitVec 1 := Scalar.andi v993 v990
  let v995 : BitVec 32 := Scalar.addi v989 v988
  let v996 : BitVec 32 := Scalar.select v994 v995 v989
  let c1_i32_613 : BitVec 32 := 1#32
  let v1005 : BitVec 32 := Scalar.muli v996 c1_i32_613
  let v1006 : BitVec 32 := Scalar.addi c0_i32_614 v1005
  v1006.toNat
def k0_dev76 (d0 : Dev nD) : Nat :=
  let c0_i32_625 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_617 : BitVec 32 := 23#32
  let v1013 : BitVec 32 := Scalar.addi v2 c23_i32_617
  let c32_i32_618 : BitVec 32 := 32#32
  let c0_i32_619 : BitVec 32 := 0#32
  let v1014 : BitVec 1 := Scalar.cmpi .eq c32_i32_618 c0_i32_619
  let c1_i32_620 : BitVec 32 := 1#32
  let v1015 : BitVec 32 := Scalar.select v1014 c1_i32_620 c32_i32_618
  let v1016 : BitVec 32 := Scalar.remsi v1013 v1015
  let c0_i32_622 : BitVec 32 := 0#32
  let v1018 : BitVec 1 := Scalar.cmpi .slt v1016 c0_i32_622
  let c0_i32_623 : BitVec 32 := 0#32
  let v1019 : BitVec 1 := Scalar.cmpi .slt v1015 c0_i32_623
  let v1020 : BitVec 1 := Scalar.xori v1018 v1019
  let c0_i32_621 : BitVec 32 := 0#32
  let v1017 : BitVec 1 := Scalar.cmpi .ne v1016 c0_i32_621
  let v1021 : BitVec 1 := Scalar.andi v1020 v1017
  let v1022 : BitVec 32 := Scalar.addi v1016 v1015
  let v1023 : BitVec 32 := Scalar.select v1021 v1022 v1016
  let c1_i32_624 : BitVec 32 := 1#32
  let v1024 : BitVec 32 := Scalar.muli v1023 c1_i32_624
  let v1025 : BitVec 32 := Scalar.addi c0_i32_625 v1024
  v1025.toNat
def k0_dev77 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_617 : BitVec 32 := 23#32
  let v1013 : BitVec 32 := Scalar.addi v2 c23_i32_617
  let c32_i32_618 : BitVec 32 := 32#32
  let c0_i32_619 : BitVec 32 := 0#32
  let v1014 : BitVec 1 := Scalar.cmpi .eq c32_i32_618 c0_i32_619
  let c1_i32_620 : BitVec 32 := 1#32
  let v1015 : BitVec 32 := Scalar.select v1014 c1_i32_620 c32_i32_618
  let v1016 : BitVec 32 := Scalar.remsi v1013 v1015
  let c0_i32_622 : BitVec 32 := 0#32
  let v1018 : BitVec 1 := Scalar.cmpi .slt v1016 c0_i32_622
  let c0_i32_623 : BitVec 32 := 0#32
  let v1019 : BitVec 1 := Scalar.cmpi .slt v1015 c0_i32_623
  let v1020 : BitVec 1 := Scalar.xori v1018 v1019
  let c0_i32_621 : BitVec 32 := 0#32
  let v1017 : BitVec 1 := Scalar.cmpi .ne v1016 c0_i32_621
  let v1021 : BitVec 1 := Scalar.andi v1020 v1017
  let v1022 : BitVec 32 := Scalar.addi v1016 v1015
  let v1023 : BitVec 32 := Scalar.select v1021 v1022 v1016
  let c1_i32_628 : BitVec 32 := 1#32
  let v1032 : BitVec 32 := Scalar.muli v1023 c1_i32_628
  let v1033 : BitVec 32 := Scalar.addi c0_i32_629 v1032
  v1033.toNat
def k0_dev78 (d0 : Dev nD) : Nat :=
  let c0_i32_640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_632 : BitVec 32 := 24#32
  let v1040 : BitVec 32 := Scalar.addi v2 c24_i32_632
  let c32_i32_633 : BitVec 32 := 32#32
  let c0_i32_634 : BitVec 32 := 0#32
  let v1041 : BitVec 1 := Scalar.cmpi .eq c32_i32_633 c0_i32_634
  let c1_i32_635 : BitVec 32 := 1#32
  let v1042 : BitVec 32 := Scalar.select v1041 c1_i32_635 c32_i32_633
  let v1043 : BitVec 32 := Scalar.remsi v1040 v1042
  let c0_i32_637 : BitVec 32 := 0#32
  let v1045 : BitVec 1 := Scalar.cmpi .slt v1043 c0_i32_637
  let c0_i32_638 : BitVec 32 := 0#32
  let v1046 : BitVec 1 := Scalar.cmpi .slt v1042 c0_i32_638
  let v1047 : BitVec 1 := Scalar.xori v1045 v1046
  let c0_i32_636 : BitVec 32 := 0#32
  let v1044 : BitVec 1 := Scalar.cmpi .ne v1043 c0_i32_636
  let v1048 : BitVec 1 := Scalar.andi v1047 v1044
  let v1049 : BitVec 32 := Scalar.addi v1043 v1042
  let v1050 : BitVec 32 := Scalar.select v1048 v1049 v1043
  let c1_i32_639 : BitVec 32 := 1#32
  let v1051 : BitVec 32 := Scalar.muli v1050 c1_i32_639
  let v1052 : BitVec 32 := Scalar.addi c0_i32_640 v1051
  v1052.toNat
def k0_dev79 (d0 : Dev nD) : Nat :=
  let c0_i32_644 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_632 : BitVec 32 := 24#32
  let v1040 : BitVec 32 := Scalar.addi v2 c24_i32_632
  let c32_i32_633 : BitVec 32 := 32#32
  let c0_i32_634 : BitVec 32 := 0#32
  let v1041 : BitVec 1 := Scalar.cmpi .eq c32_i32_633 c0_i32_634
  let c1_i32_635 : BitVec 32 := 1#32
  let v1042 : BitVec 32 := Scalar.select v1041 c1_i32_635 c32_i32_633
  let v1043 : BitVec 32 := Scalar.remsi v1040 v1042
  let c0_i32_637 : BitVec 32 := 0#32
  let v1045 : BitVec 1 := Scalar.cmpi .slt v1043 c0_i32_637
  let c0_i32_638 : BitVec 32 := 0#32
  let v1046 : BitVec 1 := Scalar.cmpi .slt v1042 c0_i32_638
  let v1047 : BitVec 1 := Scalar.xori v1045 v1046
  let c0_i32_636 : BitVec 32 := 0#32
  let v1044 : BitVec 1 := Scalar.cmpi .ne v1043 c0_i32_636
  let v1048 : BitVec 1 := Scalar.andi v1047 v1044
  let v1049 : BitVec 32 := Scalar.addi v1043 v1042
  let v1050 : BitVec 32 := Scalar.select v1048 v1049 v1043
  let c1_i32_643 : BitVec 32 := 1#32
  let v1059 : BitVec 32 := Scalar.muli v1050 c1_i32_643
  let v1060 : BitVec 32 := Scalar.addi c0_i32_644 v1059
  v1060.toNat
def k0_dev80 (d0 : Dev nD) : Nat :=
  let c0_i32_655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_647 : BitVec 32 := 25#32
  let v1067 : BitVec 32 := Scalar.addi v2 c25_i32_647
  let c32_i32_648 : BitVec 32 := 32#32
  let c0_i32_649 : BitVec 32 := 0#32
  let v1068 : BitVec 1 := Scalar.cmpi .eq c32_i32_648 c0_i32_649
  let c1_i32_650 : BitVec 32 := 1#32
  let v1069 : BitVec 32 := Scalar.select v1068 c1_i32_650 c32_i32_648
  let v1070 : BitVec 32 := Scalar.remsi v1067 v1069
  let c0_i32_652 : BitVec 32 := 0#32
  let v1072 : BitVec 1 := Scalar.cmpi .slt v1070 c0_i32_652
  let c0_i32_653 : BitVec 32 := 0#32
  let v1073 : BitVec 1 := Scalar.cmpi .slt v1069 c0_i32_653
  let v1074 : BitVec 1 := Scalar.xori v1072 v1073
  let c0_i32_651 : BitVec 32 := 0#32
  let v1071 : BitVec 1 := Scalar.cmpi .ne v1070 c0_i32_651
  let v1075 : BitVec 1 := Scalar.andi v1074 v1071
  let v1076 : BitVec 32 := Scalar.addi v1070 v1069
  let v1077 : BitVec 32 := Scalar.select v1075 v1076 v1070
  let c1_i32_654 : BitVec 32 := 1#32
  let v1078 : BitVec 32 := Scalar.muli v1077 c1_i32_654
  let v1079 : BitVec 32 := Scalar.addi c0_i32_655 v1078
  v1079.toNat
def k0_dev81 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_647 : BitVec 32 := 25#32
  let v1067 : BitVec 32 := Scalar.addi v2 c25_i32_647
  let c32_i32_648 : BitVec 32 := 32#32
  let c0_i32_649 : BitVec 32 := 0#32
  let v1068 : BitVec 1 := Scalar.cmpi .eq c32_i32_648 c0_i32_649
  let c1_i32_650 : BitVec 32 := 1#32
  let v1069 : BitVec 32 := Scalar.select v1068 c1_i32_650 c32_i32_648
  let v1070 : BitVec 32 := Scalar.remsi v1067 v1069
  let c0_i32_652 : BitVec 32 := 0#32
  let v1072 : BitVec 1 := Scalar.cmpi .slt v1070 c0_i32_652
  let c0_i32_653 : BitVec 32 := 0#32
  let v1073 : BitVec 1 := Scalar.cmpi .slt v1069 c0_i32_653
  let v1074 : BitVec 1 := Scalar.xori v1072 v1073
  let c0_i32_651 : BitVec 32 := 0#32
  let v1071 : BitVec 1 := Scalar.cmpi .ne v1070 c0_i32_651
  let v1075 : BitVec 1 := Scalar.andi v1074 v1071
  let v1076 : BitVec 32 := Scalar.addi v1070 v1069
  let v1077 : BitVec 32 := Scalar.select v1075 v1076 v1070
  let c1_i32_658 : BitVec 32 := 1#32
  let v1086 : BitVec 32 := Scalar.muli v1077 c1_i32_658
  let v1087 : BitVec 32 := Scalar.addi c0_i32_659 v1086
  v1087.toNat
def k0_dev82 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_662 : BitVec 32 := 26#32
  let v1094 : BitVec 32 := Scalar.addi v2 c26_i32_662
  let c32_i32_663 : BitVec 32 := 32#32
  let c0_i32_664 : BitVec 32 := 0#32
  let v1095 : BitVec 1 := Scalar.cmpi .eq c32_i32_663 c0_i32_664
  let c1_i32_665 : BitVec 32 := 1#32
  let v1096 : BitVec 32 := Scalar.select v1095 c1_i32_665 c32_i32_663
  let v1097 : BitVec 32 := Scalar.remsi v1094 v1096
  let c0_i32_667 : BitVec 32 := 0#32
  let v1099 : BitVec 1 := Scalar.cmpi .slt v1097 c0_i32_667
  let c0_i32_668 : BitVec 32 := 0#32
  let v1100 : BitVec 1 := Scalar.cmpi .slt v1096 c0_i32_668
  let v1101 : BitVec 1 := Scalar.xori v1099 v1100
  let c0_i32_666 : BitVec 32 := 0#32
  let v1098 : BitVec 1 := Scalar.cmpi .ne v1097 c0_i32_666
  let v1102 : BitVec 1 := Scalar.andi v1101 v1098
  let v1103 : BitVec 32 := Scalar.addi v1097 v1096
  let v1104 : BitVec 32 := Scalar.select v1102 v1103 v1097
  let c1_i32_669 : BitVec 32 := 1#32
  let v1105 : BitVec 32 := Scalar.muli v1104 c1_i32_669
  let v1106 : BitVec 32 := Scalar.addi c0_i32_670 v1105
  v1106.toNat
def k0_dev83 (d0 : Dev nD) : Nat :=
  let c0_i32_674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_662 : BitVec 32 := 26#32
  let v1094 : BitVec 32 := Scalar.addi v2 c26_i32_662
  let c32_i32_663 : BitVec 32 := 32#32
  let c0_i32_664 : BitVec 32 := 0#32
  let v1095 : BitVec 1 := Scalar.cmpi .eq c32_i32_663 c0_i32_664
  let c1_i32_665 : BitVec 32 := 1#32
  let v1096 : BitVec 32 := Scalar.select v1095 c1_i32_665 c32_i32_663
  let v1097 : BitVec 32 := Scalar.remsi v1094 v1096
  let c0_i32_667 : BitVec 32 := 0#32
  let v1099 : BitVec 1 := Scalar.cmpi .slt v1097 c0_i32_667
  let c0_i32_668 : BitVec 32 := 0#32
  let v1100 : BitVec 1 := Scalar.cmpi .slt v1096 c0_i32_668
  let v1101 : BitVec 1 := Scalar.xori v1099 v1100
  let c0_i32_666 : BitVec 32 := 0#32
  let v1098 : BitVec 1 := Scalar.cmpi .ne v1097 c0_i32_666
  let v1102 : BitVec 1 := Scalar.andi v1101 v1098
  let v1103 : BitVec 32 := Scalar.addi v1097 v1096
  let v1104 : BitVec 32 := Scalar.select v1102 v1103 v1097
  let c1_i32_673 : BitVec 32 := 1#32
  let v1113 : BitVec 32 := Scalar.muli v1104 c1_i32_673
  let v1114 : BitVec 32 := Scalar.addi c0_i32_674 v1113
  v1114.toNat
def k0_dev84 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_677 : BitVec 32 := 27#32
  let v1121 : BitVec 32 := Scalar.addi v2 c27_i32_677
  let c32_i32_678 : BitVec 32 := 32#32
  let c0_i32_679 : BitVec 32 := 0#32
  let v1122 : BitVec 1 := Scalar.cmpi .eq c32_i32_678 c0_i32_679
  let c1_i32_680 : BitVec 32 := 1#32
  let v1123 : BitVec 32 := Scalar.select v1122 c1_i32_680 c32_i32_678
  let v1124 : BitVec 32 := Scalar.remsi v1121 v1123
  let c0_i32_682 : BitVec 32 := 0#32
  let v1126 : BitVec 1 := Scalar.cmpi .slt v1124 c0_i32_682
  let c0_i32_683 : BitVec 32 := 0#32
  let v1127 : BitVec 1 := Scalar.cmpi .slt v1123 c0_i32_683
  let v1128 : BitVec 1 := Scalar.xori v1126 v1127
  let c0_i32_681 : BitVec 32 := 0#32
  let v1125 : BitVec 1 := Scalar.cmpi .ne v1124 c0_i32_681
  let v1129 : BitVec 1 := Scalar.andi v1128 v1125
  let v1130 : BitVec 32 := Scalar.addi v1124 v1123
  let v1131 : BitVec 32 := Scalar.select v1129 v1130 v1124
  let c1_i32_684 : BitVec 32 := 1#32
  let v1132 : BitVec 32 := Scalar.muli v1131 c1_i32_684
  let v1133 : BitVec 32 := Scalar.addi c0_i32_685 v1132
  v1133.toNat
def k0_dev85 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_677 : BitVec 32 := 27#32
  let v1121 : BitVec 32 := Scalar.addi v2 c27_i32_677
  let c32_i32_678 : BitVec 32 := 32#32
  let c0_i32_679 : BitVec 32 := 0#32
  let v1122 : BitVec 1 := Scalar.cmpi .eq c32_i32_678 c0_i32_679
  let c1_i32_680 : BitVec 32 := 1#32
  let v1123 : BitVec 32 := Scalar.select v1122 c1_i32_680 c32_i32_678
  let v1124 : BitVec 32 := Scalar.remsi v1121 v1123
  let c0_i32_682 : BitVec 32 := 0#32
  let v1126 : BitVec 1 := Scalar.cmpi .slt v1124 c0_i32_682
  let c0_i32_683 : BitVec 32 := 0#32
  let v1127 : BitVec 1 := Scalar.cmpi .slt v1123 c0_i32_683
  let v1128 : BitVec 1 := Scalar.xori v1126 v1127
  let c0_i32_681 : BitVec 32 := 0#32
  let v1125 : BitVec 1 := Scalar.cmpi .ne v1124 c0_i32_681
  let v1129 : BitVec 1 := Scalar.andi v1128 v1125
  let v1130 : BitVec 32 := Scalar.addi v1124 v1123
  let v1131 : BitVec 32 := Scalar.select v1129 v1130 v1124
  let c1_i32_688 : BitVec 32 := 1#32
  let v1140 : BitVec 32 := Scalar.muli v1131 c1_i32_688
  let v1141 : BitVec 32 := Scalar.addi c0_i32_689 v1140
  v1141.toNat
def k0_dev86 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_692 : BitVec 32 := 28#32
  let v1148 : BitVec 32 := Scalar.addi v2 c28_i32_692
  let c32_i32_693 : BitVec 32 := 32#32
  let c0_i32_694 : BitVec 32 := 0#32
  let v1149 : BitVec 1 := Scalar.cmpi .eq c32_i32_693 c0_i32_694
  let c1_i32_695 : BitVec 32 := 1#32
  let v1150 : BitVec 32 := Scalar.select v1149 c1_i32_695 c32_i32_693
  let v1151 : BitVec 32 := Scalar.remsi v1148 v1150
  let c0_i32_697 : BitVec 32 := 0#32
  let v1153 : BitVec 1 := Scalar.cmpi .slt v1151 c0_i32_697
  let c0_i32_698 : BitVec 32 := 0#32
  let v1154 : BitVec 1 := Scalar.cmpi .slt v1150 c0_i32_698
  let v1155 : BitVec 1 := Scalar.xori v1153 v1154
  let c0_i32_696 : BitVec 32 := 0#32
  let v1152 : BitVec 1 := Scalar.cmpi .ne v1151 c0_i32_696
  let v1156 : BitVec 1 := Scalar.andi v1155 v1152
  let v1157 : BitVec 32 := Scalar.addi v1151 v1150
  let v1158 : BitVec 32 := Scalar.select v1156 v1157 v1151
  let c1_i32_699 : BitVec 32 := 1#32
  let v1159 : BitVec 32 := Scalar.muli v1158 c1_i32_699
  let v1160 : BitVec 32 := Scalar.addi c0_i32_700 v1159
  v1160.toNat
def k0_dev87 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_692 : BitVec 32 := 28#32
  let v1148 : BitVec 32 := Scalar.addi v2 c28_i32_692
  let c32_i32_693 : BitVec 32 := 32#32
  let c0_i32_694 : BitVec 32 := 0#32
  let v1149 : BitVec 1 := Scalar.cmpi .eq c32_i32_693 c0_i32_694
  let c1_i32_695 : BitVec 32 := 1#32
  let v1150 : BitVec 32 := Scalar.select v1149 c1_i32_695 c32_i32_693
  let v1151 : BitVec 32 := Scalar.remsi v1148 v1150
  let c0_i32_697 : BitVec 32 := 0#32
  let v1153 : BitVec 1 := Scalar.cmpi .slt v1151 c0_i32_697
  let c0_i32_698 : BitVec 32 := 0#32
  let v1154 : BitVec 1 := Scalar.cmpi .slt v1150 c0_i32_698
  let v1155 : BitVec 1 := Scalar.xori v1153 v1154
  let c0_i32_696 : BitVec 32 := 0#32
  let v1152 : BitVec 1 := Scalar.cmpi .ne v1151 c0_i32_696
  let v1156 : BitVec 1 := Scalar.andi v1155 v1152
  let v1157 : BitVec 32 := Scalar.addi v1151 v1150
  let v1158 : BitVec 32 := Scalar.select v1156 v1157 v1151
  let c1_i32_703 : BitVec 32 := 1#32
  let v1167 : BitVec 32 := Scalar.muli v1158 c1_i32_703
  let v1168 : BitVec 32 := Scalar.addi c0_i32_704 v1167
  v1168.toNat
def k0_dev88 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_707 : BitVec 32 := 29#32
  let v1175 : BitVec 32 := Scalar.addi v2 c29_i32_707
  let c32_i32_708 : BitVec 32 := 32#32
  let c0_i32_709 : BitVec 32 := 0#32
  let v1176 : BitVec 1 := Scalar.cmpi .eq c32_i32_708 c0_i32_709
  let c1_i32_710 : BitVec 32 := 1#32
  let v1177 : BitVec 32 := Scalar.select v1176 c1_i32_710 c32_i32_708
  let v1178 : BitVec 32 := Scalar.remsi v1175 v1177
  let c0_i32_712 : BitVec 32 := 0#32
  let v1180 : BitVec 1 := Scalar.cmpi .slt v1178 c0_i32_712
  let c0_i32_713 : BitVec 32 := 0#32
  let v1181 : BitVec 1 := Scalar.cmpi .slt v1177 c0_i32_713
  let v1182 : BitVec 1 := Scalar.xori v1180 v1181
  let c0_i32_711 : BitVec 32 := 0#32
  let v1179 : BitVec 1 := Scalar.cmpi .ne v1178 c0_i32_711
  let v1183 : BitVec 1 := Scalar.andi v1182 v1179
  let v1184 : BitVec 32 := Scalar.addi v1178 v1177
  let v1185 : BitVec 32 := Scalar.select v1183 v1184 v1178
  let c1_i32_714 : BitVec 32 := 1#32
  let v1186 : BitVec 32 := Scalar.muli v1185 c1_i32_714
  let v1187 : BitVec 32 := Scalar.addi c0_i32_715 v1186
  v1187.toNat
def k0_dev89 (d0 : Dev nD) : Nat :=
  let c0_i32_719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_707 : BitVec 32 := 29#32
  let v1175 : BitVec 32 := Scalar.addi v2 c29_i32_707
  let c32_i32_708 : BitVec 32 := 32#32
  let c0_i32_709 : BitVec 32 := 0#32
  let v1176 : BitVec 1 := Scalar.cmpi .eq c32_i32_708 c0_i32_709
  let c1_i32_710 : BitVec 32 := 1#32
  let v1177 : BitVec 32 := Scalar.select v1176 c1_i32_710 c32_i32_708
  let v1178 : BitVec 32 := Scalar.remsi v1175 v1177
  let c0_i32_712 : BitVec 32 := 0#32
  let v1180 : BitVec 1 := Scalar.cmpi .slt v1178 c0_i32_712
  let c0_i32_713 : BitVec 32 := 0#32
  let v1181 : BitVec 1 := Scalar.cmpi .slt v1177 c0_i32_713
  let v1182 : BitVec 1 := Scalar.xori v1180 v1181
  let c0_i32_711 : BitVec 32 := 0#32
  let v1179 : BitVec 1 := Scalar.cmpi .ne v1178 c0_i32_711
  let v1183 : BitVec 1 := Scalar.andi v1182 v1179
  let v1184 : BitVec 32 := Scalar.addi v1178 v1177
  let v1185 : BitVec 32 := Scalar.select v1183 v1184 v1178
  let c1_i32_718 : BitVec 32 := 1#32
  let v1194 : BitVec 32 := Scalar.muli v1185 c1_i32_718
  let v1195 : BitVec 32 := Scalar.addi c0_i32_719 v1194
  v1195.toNat
def k0_dev90 (d0 : Dev nD) : Nat :=
  let c0_i32_730 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_722 : BitVec 32 := 30#32
  let v1202 : BitVec 32 := Scalar.addi v2 c30_i32_722
  let c32_i32_723 : BitVec 32 := 32#32
  let c0_i32_724 : BitVec 32 := 0#32
  let v1203 : BitVec 1 := Scalar.cmpi .eq c32_i32_723 c0_i32_724
  let c1_i32_725 : BitVec 32 := 1#32
  let v1204 : BitVec 32 := Scalar.select v1203 c1_i32_725 c32_i32_723
  let v1205 : BitVec 32 := Scalar.remsi v1202 v1204
  let c0_i32_727 : BitVec 32 := 0#32
  let v1207 : BitVec 1 := Scalar.cmpi .slt v1205 c0_i32_727
  let c0_i32_728 : BitVec 32 := 0#32
  let v1208 : BitVec 1 := Scalar.cmpi .slt v1204 c0_i32_728
  let v1209 : BitVec 1 := Scalar.xori v1207 v1208
  let c0_i32_726 : BitVec 32 := 0#32
  let v1206 : BitVec 1 := Scalar.cmpi .ne v1205 c0_i32_726
  let v1210 : BitVec 1 := Scalar.andi v1209 v1206
  let v1211 : BitVec 32 := Scalar.addi v1205 v1204
  let v1212 : BitVec 32 := Scalar.select v1210 v1211 v1205
  let c1_i32_729 : BitVec 32 := 1#32
  let v1213 : BitVec 32 := Scalar.muli v1212 c1_i32_729
  let v1214 : BitVec 32 := Scalar.addi c0_i32_730 v1213
  v1214.toNat
def k0_dev91 (d0 : Dev nD) : Nat :=
  let c0_i32_734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_722 : BitVec 32 := 30#32
  let v1202 : BitVec 32 := Scalar.addi v2 c30_i32_722
  let c32_i32_723 : BitVec 32 := 32#32
  let c0_i32_724 : BitVec 32 := 0#32
  let v1203 : BitVec 1 := Scalar.cmpi .eq c32_i32_723 c0_i32_724
  let c1_i32_725 : BitVec 32 := 1#32
  let v1204 : BitVec 32 := Scalar.select v1203 c1_i32_725 c32_i32_723
  let v1205 : BitVec 32 := Scalar.remsi v1202 v1204
  let c0_i32_727 : BitVec 32 := 0#32
  let v1207 : BitVec 1 := Scalar.cmpi .slt v1205 c0_i32_727
  let c0_i32_728 : BitVec 32 := 0#32
  let v1208 : BitVec 1 := Scalar.cmpi .slt v1204 c0_i32_728
  let v1209 : BitVec 1 := Scalar.xori v1207 v1208
  let c0_i32_726 : BitVec 32 := 0#32
  let v1206 : BitVec 1 := Scalar.cmpi .ne v1205 c0_i32_726
  let v1210 : BitVec 1 := Scalar.andi v1209 v1206
  let v1211 : BitVec 32 := Scalar.addi v1205 v1204
  let v1212 : BitVec 32 := Scalar.select v1210 v1211 v1205
  let c1_i32_733 : BitVec 32 := 1#32
  let v1221 : BitVec 32 := Scalar.muli v1212 c1_i32_733
  let v1222 : BitVec 32 := Scalar.addi c0_i32_734 v1221
  v1222.toNat
def k0_dev92 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_737 : BitVec 32 := 31#32
  let v1229 : BitVec 32 := Scalar.addi v2 c31_i32_737
  let c32_i32_738 : BitVec 32 := 32#32
  let c0_i32_739 : BitVec 32 := 0#32
  let v1230 : BitVec 1 := Scalar.cmpi .eq c32_i32_738 c0_i32_739
  let c1_i32_740 : BitVec 32 := 1#32
  let v1231 : BitVec 32 := Scalar.select v1230 c1_i32_740 c32_i32_738
  let v1232 : BitVec 32 := Scalar.remsi v1229 v1231
  let c0_i32_742 : BitVec 32 := 0#32
  let v1234 : BitVec 1 := Scalar.cmpi .slt v1232 c0_i32_742
  let c0_i32_743 : BitVec 32 := 0#32
  let v1235 : BitVec 1 := Scalar.cmpi .slt v1231 c0_i32_743
  let v1236 : BitVec 1 := Scalar.xori v1234 v1235
  let c0_i32_741 : BitVec 32 := 0#32
  let v1233 : BitVec 1 := Scalar.cmpi .ne v1232 c0_i32_741
  let v1237 : BitVec 1 := Scalar.andi v1236 v1233
  let v1238 : BitVec 32 := Scalar.addi v1232 v1231
  let v1239 : BitVec 32 := Scalar.select v1237 v1238 v1232
  let c1_i32_744 : BitVec 32 := 1#32
  let v1240 : BitVec 32 := Scalar.muli v1239 c1_i32_744
  let v1241 : BitVec 32 := Scalar.addi c0_i32_745 v1240
  v1241.toNat
def k0_dev93 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_737 : BitVec 32 := 31#32
  let v1229 : BitVec 32 := Scalar.addi v2 c31_i32_737
  let c32_i32_738 : BitVec 32 := 32#32
  let c0_i32_739 : BitVec 32 := 0#32
  let v1230 : BitVec 1 := Scalar.cmpi .eq c32_i32_738 c0_i32_739
  let c1_i32_740 : BitVec 32 := 1#32
  let v1231 : BitVec 32 := Scalar.select v1230 c1_i32_740 c32_i32_738
  let v1232 : BitVec 32 := Scalar.remsi v1229 v1231
  let c0_i32_742 : BitVec 32 := 0#32
  let v1234 : BitVec 1 := Scalar.cmpi .slt v1232 c0_i32_742
  let c0_i32_743 : BitVec 32 := 0#32
  let v1235 : BitVec 1 := Scalar.cmpi .slt v1231 c0_i32_743
  let v1236 : BitVec 1 := Scalar.xori v1234 v1235
  let c0_i32_741 : BitVec 32 := 0#32
  let v1233 : BitVec 1 := Scalar.cmpi .ne v1232 c0_i32_741
  let v1237 : BitVec 1 := Scalar.andi v1236 v1233
  let v1238 : BitVec 32 := Scalar.addi v1232 v1231
  let v1239 : BitVec 32 := Scalar.select v1237 v1238 v1232
  let c1_i32_748 : BitVec 32 := 1#32
  let v1248 : BitVec 32 := Scalar.muli v1239 c1_i32_748
  let v1249 : BitVec 32 := Scalar.addi c0_i32_749 v1248
  v1249.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1261 : Index := Scalar.indexCast v2
  let c0_756 : Index := 0#32
  let c0_757 : Index := 0#32
  ![v1261.toNat, 0, 0]
def k0_off6 (d0 : Dev nD) (c1_i32_758 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1265 : BitVec 32 := Scalar.addi v2 c1_i32_758
  let c32_i32_759 : BitVec 32 := 32#32
  let c0_i32_760 : BitVec 32 := 0#32
  let v1266 : BitVec 1 := Scalar.cmpi .eq c32_i32_759 c0_i32_760
  let c1_i32_761 : BitVec 32 := 1#32
  let v1267 : BitVec 32 := Scalar.select v1266 c1_i32_761 c32_i32_759
  let v1268 : BitVec 32 := Scalar.remsi v1265 v1267
  let c0_i32_763 : BitVec 32 := 0#32
  let v1270 : BitVec 1 := Scalar.cmpi .slt v1268 c0_i32_763
  let c0_i32_764 : BitVec 32 := 0#32
  let v1271 : BitVec 1 := Scalar.cmpi .slt v1267 c0_i32_764
  let v1272 : BitVec 1 := Scalar.xori v1270 v1271
  let c0_i32_762 : BitVec 32 := 0#32
  let v1269 : BitVec 1 := Scalar.cmpi .ne v1268 c0_i32_762
  let v1273 : BitVec 1 := Scalar.andi v1272 v1269
  let v1274 : BitVec 32 := Scalar.addi v1268 v1267
  let v1275 : BitVec 32 := Scalar.select v1273 v1274 v1268
  let c0_i32_767 : BitVec 32 := 0#32
  let c0_i32_768 : BitVec 32 := 0#32
  ![v1275.toNat, 0, 0]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1124 : BitVec 32 := 0#32
  let c0_i32_1125 : BitVec 32 := 0#32
  ![v2.toNat, 0, 0]
def k0_dev94 (d0 : Dev nD) : Nat :=
  let c0_i32_1123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1115 : BitVec 32 := 1#32
  let v1833 : BitVec 32 := Scalar.addi v2 c1_i32_1115
  let c32_i32_1116 : BitVec 32 := 32#32
  let c0_i32_1117 : BitVec 32 := 0#32
  let v1834 : BitVec 1 := Scalar.cmpi .eq c32_i32_1116 c0_i32_1117
  let c1_i32_1118 : BitVec 32 := 1#32
  let v1835 : BitVec 32 := Scalar.select v1834 c1_i32_1118 c32_i32_1116
  let v1836 : BitVec 32 := Scalar.remsi v1833 v1835
  let c0_i32_1120 : BitVec 32 := 0#32
  let v1838 : BitVec 1 := Scalar.cmpi .slt v1836 c0_i32_1120
  let c0_i32_1121 : BitVec 32 := 0#32
  let v1839 : BitVec 1 := Scalar.cmpi .slt v1835 c0_i32_1121
  let v1840 : BitVec 1 := Scalar.xori v1838 v1839
  let c0_i32_1119 : BitVec 32 := 0#32
  let v1837 : BitVec 1 := Scalar.cmpi .ne v1836 c0_i32_1119
  let v1841 : BitVec 1 := Scalar.andi v1840 v1837
  let v1842 : BitVec 32 := Scalar.addi v1836 v1835
  let v1843 : BitVec 32 := Scalar.select v1841 v1842 v1836
  let c1_i32_1122 : BitVec 32 := 1#32
  let v1844 : BitVec 32 := Scalar.muli v1843 c1_i32_1122
  let v1845 : BitVec 32 := Scalar.addi c0_i32_1123 v1844
  v1845.toNat
def k0_dev95 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1126 : BitVec 32 := 2#32
  let v1852 : BitVec 32 := Scalar.addi v2 c2_i32_1126
  let c32_i32_1127 : BitVec 32 := 32#32
  let c0_i32_1128 : BitVec 32 := 0#32
  let v1853 : BitVec 1 := Scalar.cmpi .eq c32_i32_1127 c0_i32_1128
  let c1_i32_1129 : BitVec 32 := 1#32
  let v1854 : BitVec 32 := Scalar.select v1853 c1_i32_1129 c32_i32_1127
  let v1855 : BitVec 32 := Scalar.remsi v1852 v1854
  let c0_i32_1131 : BitVec 32 := 0#32
  let v1857 : BitVec 1 := Scalar.cmpi .slt v1855 c0_i32_1131
  let c0_i32_1132 : BitVec 32 := 0#32
  let v1858 : BitVec 1 := Scalar.cmpi .slt v1854 c0_i32_1132
  let v1859 : BitVec 1 := Scalar.xori v1857 v1858
  let c0_i32_1130 : BitVec 32 := 0#32
  let v1856 : BitVec 1 := Scalar.cmpi .ne v1855 c0_i32_1130
  let v1860 : BitVec 1 := Scalar.andi v1859 v1856
  let v1861 : BitVec 32 := Scalar.addi v1855 v1854
  let v1862 : BitVec 32 := Scalar.select v1860 v1861 v1855
  let c1_i32_1133 : BitVec 32 := 1#32
  let v1863 : BitVec 32 := Scalar.muli v1862 c1_i32_1133
  let v1864 : BitVec 32 := Scalar.addi c0_i32_1134 v1863
  v1864.toNat
def k0_dev96 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1137 : BitVec 32 := 3#32
  let v1871 : BitVec 32 := Scalar.addi v2 c3_i32_1137
  let c32_i32_1138 : BitVec 32 := 32#32
  let c0_i32_1139 : BitVec 32 := 0#32
  let v1872 : BitVec 1 := Scalar.cmpi .eq c32_i32_1138 c0_i32_1139
  let c1_i32_1140 : BitVec 32 := 1#32
  let v1873 : BitVec 32 := Scalar.select v1872 c1_i32_1140 c32_i32_1138
  let v1874 : BitVec 32 := Scalar.remsi v1871 v1873
  let c0_i32_1142 : BitVec 32 := 0#32
  let v1876 : BitVec 1 := Scalar.cmpi .slt v1874 c0_i32_1142
  let c0_i32_1143 : BitVec 32 := 0#32
  let v1877 : BitVec 1 := Scalar.cmpi .slt v1873 c0_i32_1143
  let v1878 : BitVec 1 := Scalar.xori v1876 v1877
  let c0_i32_1141 : BitVec 32 := 0#32
  let v1875 : BitVec 1 := Scalar.cmpi .ne v1874 c0_i32_1141
  let v1879 : BitVec 1 := Scalar.andi v1878 v1875
  let v1880 : BitVec 32 := Scalar.addi v1874 v1873
  let v1881 : BitVec 32 := Scalar.select v1879 v1880 v1874
  let c1_i32_1144 : BitVec 32 := 1#32
  let v1882 : BitVec 32 := Scalar.muli v1881 c1_i32_1144
  let v1883 : BitVec 32 := Scalar.addi c0_i32_1145 v1882
  v1883.toNat
def k0_dev97 (d0 : Dev nD) : Nat :=
  let c0_i32_1156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1148 : BitVec 32 := 4#32
  let v1890 : BitVec 32 := Scalar.addi v2 c4_i32_1148
  let c32_i32_1149 : BitVec 32 := 32#32
  let c0_i32_1150 : BitVec 32 := 0#32
  let v1891 : BitVec 1 := Scalar.cmpi .eq c32_i32_1149 c0_i32_1150
  let c1_i32_1151 : BitVec 32 := 1#32
  let v1892 : BitVec 32 := Scalar.select v1891 c1_i32_1151 c32_i32_1149
  let v1893 : BitVec 32 := Scalar.remsi v1890 v1892
  let c0_i32_1153 : BitVec 32 := 0#32
  let v1895 : BitVec 1 := Scalar.cmpi .slt v1893 c0_i32_1153
  let c0_i32_1154 : BitVec 32 := 0#32
  let v1896 : BitVec 1 := Scalar.cmpi .slt v1892 c0_i32_1154
  let v1897 : BitVec 1 := Scalar.xori v1895 v1896
  let c0_i32_1152 : BitVec 32 := 0#32
  let v1894 : BitVec 1 := Scalar.cmpi .ne v1893 c0_i32_1152
  let v1898 : BitVec 1 := Scalar.andi v1897 v1894
  let v1899 : BitVec 32 := Scalar.addi v1893 v1892
  let v1900 : BitVec 32 := Scalar.select v1898 v1899 v1893
  let c1_i32_1155 : BitVec 32 := 1#32
  let v1901 : BitVec 32 := Scalar.muli v1900 c1_i32_1155
  let v1902 : BitVec 32 := Scalar.addi c0_i32_1156 v1901
  v1902.toNat
def k0_dev98 (d0 : Dev nD) : Nat :=
  let c0_i32_1167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1159 : BitVec 32 := 5#32
  let v1909 : BitVec 32 := Scalar.addi v2 c5_i32_1159
  let c32_i32_1160 : BitVec 32 := 32#32
  let c0_i32_1161 : BitVec 32 := 0#32
  let v1910 : BitVec 1 := Scalar.cmpi .eq c32_i32_1160 c0_i32_1161
  let c1_i32_1162 : BitVec 32 := 1#32
  let v1911 : BitVec 32 := Scalar.select v1910 c1_i32_1162 c32_i32_1160
  let v1912 : BitVec 32 := Scalar.remsi v1909 v1911
  let c0_i32_1164 : BitVec 32 := 0#32
  let v1914 : BitVec 1 := Scalar.cmpi .slt v1912 c0_i32_1164
  let c0_i32_1165 : BitVec 32 := 0#32
  let v1915 : BitVec 1 := Scalar.cmpi .slt v1911 c0_i32_1165
  let v1916 : BitVec 1 := Scalar.xori v1914 v1915
  let c0_i32_1163 : BitVec 32 := 0#32
  let v1913 : BitVec 1 := Scalar.cmpi .ne v1912 c0_i32_1163
  let v1917 : BitVec 1 := Scalar.andi v1916 v1913
  let v1918 : BitVec 32 := Scalar.addi v1912 v1911
  let v1919 : BitVec 32 := Scalar.select v1917 v1918 v1912
  let c1_i32_1166 : BitVec 32 := 1#32
  let v1920 : BitVec 32 := Scalar.muli v1919 c1_i32_1166
  let v1921 : BitVec 32 := Scalar.addi c0_i32_1167 v1920
  v1921.toNat
def k0_dev99 (d0 : Dev nD) : Nat :=
  let c0_i32_1178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1170 : BitVec 32 := 6#32
  let v1928 : BitVec 32 := Scalar.addi v2 c6_i32_1170
  let c32_i32_1171 : BitVec 32 := 32#32
  let c0_i32_1172 : BitVec 32 := 0#32
  let v1929 : BitVec 1 := Scalar.cmpi .eq c32_i32_1171 c0_i32_1172
  let c1_i32_1173 : BitVec 32 := 1#32
  let v1930 : BitVec 32 := Scalar.select v1929 c1_i32_1173 c32_i32_1171
  let v1931 : BitVec 32 := Scalar.remsi v1928 v1930
  let c0_i32_1175 : BitVec 32 := 0#32
  let v1933 : BitVec 1 := Scalar.cmpi .slt v1931 c0_i32_1175
  let c0_i32_1176 : BitVec 32 := 0#32
  let v1934 : BitVec 1 := Scalar.cmpi .slt v1930 c0_i32_1176
  let v1935 : BitVec 1 := Scalar.xori v1933 v1934
  let c0_i32_1174 : BitVec 32 := 0#32
  let v1932 : BitVec 1 := Scalar.cmpi .ne v1931 c0_i32_1174
  let v1936 : BitVec 1 := Scalar.andi v1935 v1932
  let v1937 : BitVec 32 := Scalar.addi v1931 v1930
  let v1938 : BitVec 32 := Scalar.select v1936 v1937 v1931
  let c1_i32_1177 : BitVec 32 := 1#32
  let v1939 : BitVec 32 := Scalar.muli v1938 c1_i32_1177
  let v1940 : BitVec 32 := Scalar.addi c0_i32_1178 v1939
  v1940.toNat
def k0_dev100 (d0 : Dev nD) : Nat :=
  let c0_i32_1189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1181 : BitVec 32 := 7#32
  let v1947 : BitVec 32 := Scalar.addi v2 c7_i32_1181
  let c32_i32_1182 : BitVec 32 := 32#32
  let c0_i32_1183 : BitVec 32 := 0#32
  let v1948 : BitVec 1 := Scalar.cmpi .eq c32_i32_1182 c0_i32_1183
  let c1_i32_1184 : BitVec 32 := 1#32
  let v1949 : BitVec 32 := Scalar.select v1948 c1_i32_1184 c32_i32_1182
  let v1950 : BitVec 32 := Scalar.remsi v1947 v1949
  let c0_i32_1186 : BitVec 32 := 0#32
  let v1952 : BitVec 1 := Scalar.cmpi .slt v1950 c0_i32_1186
  let c0_i32_1187 : BitVec 32 := 0#32
  let v1953 : BitVec 1 := Scalar.cmpi .slt v1949 c0_i32_1187
  let v1954 : BitVec 1 := Scalar.xori v1952 v1953
  let c0_i32_1185 : BitVec 32 := 0#32
  let v1951 : BitVec 1 := Scalar.cmpi .ne v1950 c0_i32_1185
  let v1955 : BitVec 1 := Scalar.andi v1954 v1951
  let v1956 : BitVec 32 := Scalar.addi v1950 v1949
  let v1957 : BitVec 32 := Scalar.select v1955 v1956 v1950
  let c1_i32_1188 : BitVec 32 := 1#32
  let v1958 : BitVec 32 := Scalar.muli v1957 c1_i32_1188
  let v1959 : BitVec 32 := Scalar.addi c0_i32_1189 v1958
  v1959.toNat
def k0_dev101 (d0 : Dev nD) : Nat :=
  let c0_i32_1200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1192 : BitVec 32 := 8#32
  let v1966 : BitVec 32 := Scalar.addi v2 c8_i32_1192
  let c32_i32_1193 : BitVec 32 := 32#32
  let c0_i32_1194 : BitVec 32 := 0#32
  let v1967 : BitVec 1 := Scalar.cmpi .eq c32_i32_1193 c0_i32_1194
  let c1_i32_1195 : BitVec 32 := 1#32
  let v1968 : BitVec 32 := Scalar.select v1967 c1_i32_1195 c32_i32_1193
  let v1969 : BitVec 32 := Scalar.remsi v1966 v1968
  let c0_i32_1197 : BitVec 32 := 0#32
  let v1971 : BitVec 1 := Scalar.cmpi .slt v1969 c0_i32_1197
  let c0_i32_1198 : BitVec 32 := 0#32
  let v1972 : BitVec 1 := Scalar.cmpi .slt v1968 c0_i32_1198
  let v1973 : BitVec 1 := Scalar.xori v1971 v1972
  let c0_i32_1196 : BitVec 32 := 0#32
  let v1970 : BitVec 1 := Scalar.cmpi .ne v1969 c0_i32_1196
  let v1974 : BitVec 1 := Scalar.andi v1973 v1970
  let v1975 : BitVec 32 := Scalar.addi v1969 v1968
  let v1976 : BitVec 32 := Scalar.select v1974 v1975 v1969
  let c1_i32_1199 : BitVec 32 := 1#32
  let v1977 : BitVec 32 := Scalar.muli v1976 c1_i32_1199
  let v1978 : BitVec 32 := Scalar.addi c0_i32_1200 v1977
  v1978.toNat
def k0_dev102 (d0 : Dev nD) : Nat :=
  let c0_i32_1211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1203 : BitVec 32 := 9#32
  let v1985 : BitVec 32 := Scalar.addi v2 c9_i32_1203
  let c32_i32_1204 : BitVec 32 := 32#32
  let c0_i32_1205 : BitVec 32 := 0#32
  let v1986 : BitVec 1 := Scalar.cmpi .eq c32_i32_1204 c0_i32_1205
  let c1_i32_1206 : BitVec 32 := 1#32
  let v1987 : BitVec 32 := Scalar.select v1986 c1_i32_1206 c32_i32_1204
  let v1988 : BitVec 32 := Scalar.remsi v1985 v1987
  let c0_i32_1208 : BitVec 32 := 0#32
  let v1990 : BitVec 1 := Scalar.cmpi .slt v1988 c0_i32_1208
  let c0_i32_1209 : BitVec 32 := 0#32
  let v1991 : BitVec 1 := Scalar.cmpi .slt v1987 c0_i32_1209
  let v1992 : BitVec 1 := Scalar.xori v1990 v1991
  let c0_i32_1207 : BitVec 32 := 0#32
  let v1989 : BitVec 1 := Scalar.cmpi .ne v1988 c0_i32_1207
  let v1993 : BitVec 1 := Scalar.andi v1992 v1989
  let v1994 : BitVec 32 := Scalar.addi v1988 v1987
  let v1995 : BitVec 32 := Scalar.select v1993 v1994 v1988
  let c1_i32_1210 : BitVec 32 := 1#32
  let v1996 : BitVec 32 := Scalar.muli v1995 c1_i32_1210
  let v1997 : BitVec 32 := Scalar.addi c0_i32_1211 v1996
  v1997.toNat
def k0_dev103 (d0 : Dev nD) : Nat :=
  let c0_i32_1222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1214 : BitVec 32 := 10#32
  let v2004 : BitVec 32 := Scalar.addi v2 c10_i32_1214
  let c32_i32_1215 : BitVec 32 := 32#32
  let c0_i32_1216 : BitVec 32 := 0#32
  let v2005 : BitVec 1 := Scalar.cmpi .eq c32_i32_1215 c0_i32_1216
  let c1_i32_1217 : BitVec 32 := 1#32
  let v2006 : BitVec 32 := Scalar.select v2005 c1_i32_1217 c32_i32_1215
  let v2007 : BitVec 32 := Scalar.remsi v2004 v2006
  let c0_i32_1219 : BitVec 32 := 0#32
  let v2009 : BitVec 1 := Scalar.cmpi .slt v2007 c0_i32_1219
  let c0_i32_1220 : BitVec 32 := 0#32
  let v2010 : BitVec 1 := Scalar.cmpi .slt v2006 c0_i32_1220
  let v2011 : BitVec 1 := Scalar.xori v2009 v2010
  let c0_i32_1218 : BitVec 32 := 0#32
  let v2008 : BitVec 1 := Scalar.cmpi .ne v2007 c0_i32_1218
  let v2012 : BitVec 1 := Scalar.andi v2011 v2008
  let v2013 : BitVec 32 := Scalar.addi v2007 v2006
  let v2014 : BitVec 32 := Scalar.select v2012 v2013 v2007
  let c1_i32_1221 : BitVec 32 := 1#32
  let v2015 : BitVec 32 := Scalar.muli v2014 c1_i32_1221
  let v2016 : BitVec 32 := Scalar.addi c0_i32_1222 v2015
  v2016.toNat
def k0_dev104 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1225 : BitVec 32 := 11#32
  let v2023 : BitVec 32 := Scalar.addi v2 c11_i32_1225
  let c32_i32_1226 : BitVec 32 := 32#32
  let c0_i32_1227 : BitVec 32 := 0#32
  let v2024 : BitVec 1 := Scalar.cmpi .eq c32_i32_1226 c0_i32_1227
  let c1_i32_1228 : BitVec 32 := 1#32
  let v2025 : BitVec 32 := Scalar.select v2024 c1_i32_1228 c32_i32_1226
  let v2026 : BitVec 32 := Scalar.remsi v2023 v2025
  let c0_i32_1230 : BitVec 32 := 0#32
  let v2028 : BitVec 1 := Scalar.cmpi .slt v2026 c0_i32_1230
  let c0_i32_1231 : BitVec 32 := 0#32
  let v2029 : BitVec 1 := Scalar.cmpi .slt v2025 c0_i32_1231
  let v2030 : BitVec 1 := Scalar.xori v2028 v2029
  let c0_i32_1229 : BitVec 32 := 0#32
  let v2027 : BitVec 1 := Scalar.cmpi .ne v2026 c0_i32_1229
  let v2031 : BitVec 1 := Scalar.andi v2030 v2027
  let v2032 : BitVec 32 := Scalar.addi v2026 v2025
  let v2033 : BitVec 32 := Scalar.select v2031 v2032 v2026
  let c1_i32_1232 : BitVec 32 := 1#32
  let v2034 : BitVec 32 := Scalar.muli v2033 c1_i32_1232
  let v2035 : BitVec 32 := Scalar.addi c0_i32_1233 v2034
  v2035.toNat
def k0_dev105 (d0 : Dev nD) : Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1236 : BitVec 32 := 12#32
  let v2042 : BitVec 32 := Scalar.addi v2 c12_i32_1236
  let c32_i32_1237 : BitVec 32 := 32#32
  let c0_i32_1238 : BitVec 32 := 0#32
  let v2043 : BitVec 1 := Scalar.cmpi .eq c32_i32_1237 c0_i32_1238
  let c1_i32_1239 : BitVec 32 := 1#32
  let v2044 : BitVec 32 := Scalar.select v2043 c1_i32_1239 c32_i32_1237
  let v2045 : BitVec 32 := Scalar.remsi v2042 v2044
  let c0_i32_1241 : BitVec 32 := 0#32
  let v2047 : BitVec 1 := Scalar.cmpi .slt v2045 c0_i32_1241
  let c0_i32_1242 : BitVec 32 := 0#32
  let v2048 : BitVec 1 := Scalar.cmpi .slt v2044 c0_i32_1242
  let v2049 : BitVec 1 := Scalar.xori v2047 v2048
  let c0_i32_1240 : BitVec 32 := 0#32
  let v2046 : BitVec 1 := Scalar.cmpi .ne v2045 c0_i32_1240
  let v2050 : BitVec 1 := Scalar.andi v2049 v2046
  let v2051 : BitVec 32 := Scalar.addi v2045 v2044
  let v2052 : BitVec 32 := Scalar.select v2050 v2051 v2045
  let c1_i32_1243 : BitVec 32 := 1#32
  let v2053 : BitVec 32 := Scalar.muli v2052 c1_i32_1243
  let v2054 : BitVec 32 := Scalar.addi c0_i32_1244 v2053
  v2054.toNat
def k0_dev106 (d0 : Dev nD) : Nat :=
  let c0_i32_1255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1247 : BitVec 32 := 13#32
  let v2061 : BitVec 32 := Scalar.addi v2 c13_i32_1247
  let c32_i32_1248 : BitVec 32 := 32#32
  let c0_i32_1249 : BitVec 32 := 0#32
  let v2062 : BitVec 1 := Scalar.cmpi .eq c32_i32_1248 c0_i32_1249
  let c1_i32_1250 : BitVec 32 := 1#32
  let v2063 : BitVec 32 := Scalar.select v2062 c1_i32_1250 c32_i32_1248
  let v2064 : BitVec 32 := Scalar.remsi v2061 v2063
  let c0_i32_1252 : BitVec 32 := 0#32
  let v2066 : BitVec 1 := Scalar.cmpi .slt v2064 c0_i32_1252
  let c0_i32_1253 : BitVec 32 := 0#32
  let v2067 : BitVec 1 := Scalar.cmpi .slt v2063 c0_i32_1253
  let v2068 : BitVec 1 := Scalar.xori v2066 v2067
  let c0_i32_1251 : BitVec 32 := 0#32
  let v2065 : BitVec 1 := Scalar.cmpi .ne v2064 c0_i32_1251
  let v2069 : BitVec 1 := Scalar.andi v2068 v2065
  let v2070 : BitVec 32 := Scalar.addi v2064 v2063
  let v2071 : BitVec 32 := Scalar.select v2069 v2070 v2064
  let c1_i32_1254 : BitVec 32 := 1#32
  let v2072 : BitVec 32 := Scalar.muli v2071 c1_i32_1254
  let v2073 : BitVec 32 := Scalar.addi c0_i32_1255 v2072
  v2073.toNat
def k0_dev107 (d0 : Dev nD) : Nat :=
  let c0_i32_1266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1258 : BitVec 32 := 14#32
  let v2080 : BitVec 32 := Scalar.addi v2 c14_i32_1258
  let c32_i32_1259 : BitVec 32 := 32#32
  let c0_i32_1260 : BitVec 32 := 0#32
  let v2081 : BitVec 1 := Scalar.cmpi .eq c32_i32_1259 c0_i32_1260
  let c1_i32_1261 : BitVec 32 := 1#32
  let v2082 : BitVec 32 := Scalar.select v2081 c1_i32_1261 c32_i32_1259
  let v2083 : BitVec 32 := Scalar.remsi v2080 v2082
  let c0_i32_1263 : BitVec 32 := 0#32
  let v2085 : BitVec 1 := Scalar.cmpi .slt v2083 c0_i32_1263
  let c0_i32_1264 : BitVec 32 := 0#32
  let v2086 : BitVec 1 := Scalar.cmpi .slt v2082 c0_i32_1264
  let v2087 : BitVec 1 := Scalar.xori v2085 v2086
  let c0_i32_1262 : BitVec 32 := 0#32
  let v2084 : BitVec 1 := Scalar.cmpi .ne v2083 c0_i32_1262
  let v2088 : BitVec 1 := Scalar.andi v2087 v2084
  let v2089 : BitVec 32 := Scalar.addi v2083 v2082
  let v2090 : BitVec 32 := Scalar.select v2088 v2089 v2083
  let c1_i32_1265 : BitVec 32 := 1#32
  let v2091 : BitVec 32 := Scalar.muli v2090 c1_i32_1265
  let v2092 : BitVec 32 := Scalar.addi c0_i32_1266 v2091
  v2092.toNat
def k0_dev108 (d0 : Dev nD) : Nat :=
  let c0_i32_1277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1269 : BitVec 32 := 15#32
  let v2099 : BitVec 32 := Scalar.addi v2 c15_i32_1269
  let c32_i32_1270 : BitVec 32 := 32#32
  let c0_i32_1271 : BitVec 32 := 0#32
  let v2100 : BitVec 1 := Scalar.cmpi .eq c32_i32_1270 c0_i32_1271
  let c1_i32_1272 : BitVec 32 := 1#32
  let v2101 : BitVec 32 := Scalar.select v2100 c1_i32_1272 c32_i32_1270
  let v2102 : BitVec 32 := Scalar.remsi v2099 v2101
  let c0_i32_1274 : BitVec 32 := 0#32
  let v2104 : BitVec 1 := Scalar.cmpi .slt v2102 c0_i32_1274
  let c0_i32_1275 : BitVec 32 := 0#32
  let v2105 : BitVec 1 := Scalar.cmpi .slt v2101 c0_i32_1275
  let v2106 : BitVec 1 := Scalar.xori v2104 v2105
  let c0_i32_1273 : BitVec 32 := 0#32
  let v2103 : BitVec 1 := Scalar.cmpi .ne v2102 c0_i32_1273
  let v2107 : BitVec 1 := Scalar.andi v2106 v2103
  let v2108 : BitVec 32 := Scalar.addi v2102 v2101
  let v2109 : BitVec 32 := Scalar.select v2107 v2108 v2102
  let c1_i32_1276 : BitVec 32 := 1#32
  let v2110 : BitVec 32 := Scalar.muli v2109 c1_i32_1276
  let v2111 : BitVec 32 := Scalar.addi c0_i32_1277 v2110
  v2111.toNat
def k0_dev109 (d0 : Dev nD) : Nat :=
  let c0_i32_1288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1280 : BitVec 32 := 16#32
  let v2118 : BitVec 32 := Scalar.addi v2 c16_i32_1280
  let c32_i32_1281 : BitVec 32 := 32#32
  let c0_i32_1282 : BitVec 32 := 0#32
  let v2119 : BitVec 1 := Scalar.cmpi .eq c32_i32_1281 c0_i32_1282
  let c1_i32_1283 : BitVec 32 := 1#32
  let v2120 : BitVec 32 := Scalar.select v2119 c1_i32_1283 c32_i32_1281
  let v2121 : BitVec 32 := Scalar.remsi v2118 v2120
  let c0_i32_1285 : BitVec 32 := 0#32
  let v2123 : BitVec 1 := Scalar.cmpi .slt v2121 c0_i32_1285
  let c0_i32_1286 : BitVec 32 := 0#32
  let v2124 : BitVec 1 := Scalar.cmpi .slt v2120 c0_i32_1286
  let v2125 : BitVec 1 := Scalar.xori v2123 v2124
  let c0_i32_1284 : BitVec 32 := 0#32
  let v2122 : BitVec 1 := Scalar.cmpi .ne v2121 c0_i32_1284
  let v2126 : BitVec 1 := Scalar.andi v2125 v2122
  let v2127 : BitVec 32 := Scalar.addi v2121 v2120
  let v2128 : BitVec 32 := Scalar.select v2126 v2127 v2121
  let c1_i32_1287 : BitVec 32 := 1#32
  let v2129 : BitVec 32 := Scalar.muli v2128 c1_i32_1287
  let v2130 : BitVec 32 := Scalar.addi c0_i32_1288 v2129
  v2130.toNat
def k0_dev110 (d0 : Dev nD) : Nat :=
  let c0_i32_1299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1291 : BitVec 32 := 17#32
  let v2137 : BitVec 32 := Scalar.addi v2 c17_i32_1291
  let c32_i32_1292 : BitVec 32 := 32#32
  let c0_i32_1293 : BitVec 32 := 0#32
  let v2138 : BitVec 1 := Scalar.cmpi .eq c32_i32_1292 c0_i32_1293
  let c1_i32_1294 : BitVec 32 := 1#32
  let v2139 : BitVec 32 := Scalar.select v2138 c1_i32_1294 c32_i32_1292
  let v2140 : BitVec 32 := Scalar.remsi v2137 v2139
  let c0_i32_1296 : BitVec 32 := 0#32
  let v2142 : BitVec 1 := Scalar.cmpi .slt v2140 c0_i32_1296
  let c0_i32_1297 : BitVec 32 := 0#32
  let v2143 : BitVec 1 := Scalar.cmpi .slt v2139 c0_i32_1297
  let v2144 : BitVec 1 := Scalar.xori v2142 v2143
  let c0_i32_1295 : BitVec 32 := 0#32
  let v2141 : BitVec 1 := Scalar.cmpi .ne v2140 c0_i32_1295
  let v2145 : BitVec 1 := Scalar.andi v2144 v2141
  let v2146 : BitVec 32 := Scalar.addi v2140 v2139
  let v2147 : BitVec 32 := Scalar.select v2145 v2146 v2140
  let c1_i32_1298 : BitVec 32 := 1#32
  let v2148 : BitVec 32 := Scalar.muli v2147 c1_i32_1298
  let v2149 : BitVec 32 := Scalar.addi c0_i32_1299 v2148
  v2149.toNat
def k0_dev111 (d0 : Dev nD) : Nat :=
  let c0_i32_1310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1302 : BitVec 32 := 18#32
  let v2156 : BitVec 32 := Scalar.addi v2 c18_i32_1302
  let c32_i32_1303 : BitVec 32 := 32#32
  let c0_i32_1304 : BitVec 32 := 0#32
  let v2157 : BitVec 1 := Scalar.cmpi .eq c32_i32_1303 c0_i32_1304
  let c1_i32_1305 : BitVec 32 := 1#32
  let v2158 : BitVec 32 := Scalar.select v2157 c1_i32_1305 c32_i32_1303
  let v2159 : BitVec 32 := Scalar.remsi v2156 v2158
  let c0_i32_1307 : BitVec 32 := 0#32
  let v2161 : BitVec 1 := Scalar.cmpi .slt v2159 c0_i32_1307
  let c0_i32_1308 : BitVec 32 := 0#32
  let v2162 : BitVec 1 := Scalar.cmpi .slt v2158 c0_i32_1308
  let v2163 : BitVec 1 := Scalar.xori v2161 v2162
  let c0_i32_1306 : BitVec 32 := 0#32
  let v2160 : BitVec 1 := Scalar.cmpi .ne v2159 c0_i32_1306
  let v2164 : BitVec 1 := Scalar.andi v2163 v2160
  let v2165 : BitVec 32 := Scalar.addi v2159 v2158
  let v2166 : BitVec 32 := Scalar.select v2164 v2165 v2159
  let c1_i32_1309 : BitVec 32 := 1#32
  let v2167 : BitVec 32 := Scalar.muli v2166 c1_i32_1309
  let v2168 : BitVec 32 := Scalar.addi c0_i32_1310 v2167
  v2168.toNat
def k0_dev112 (d0 : Dev nD) : Nat :=
  let c0_i32_1321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1313 : BitVec 32 := 19#32
  let v2175 : BitVec 32 := Scalar.addi v2 c19_i32_1313
  let c32_i32_1314 : BitVec 32 := 32#32
  let c0_i32_1315 : BitVec 32 := 0#32
  let v2176 : BitVec 1 := Scalar.cmpi .eq c32_i32_1314 c0_i32_1315
  let c1_i32_1316 : BitVec 32 := 1#32
  let v2177 : BitVec 32 := Scalar.select v2176 c1_i32_1316 c32_i32_1314
  let v2178 : BitVec 32 := Scalar.remsi v2175 v2177
  let c0_i32_1318 : BitVec 32 := 0#32
  let v2180 : BitVec 1 := Scalar.cmpi .slt v2178 c0_i32_1318
  let c0_i32_1319 : BitVec 32 := 0#32
  let v2181 : BitVec 1 := Scalar.cmpi .slt v2177 c0_i32_1319
  let v2182 : BitVec 1 := Scalar.xori v2180 v2181
  let c0_i32_1317 : BitVec 32 := 0#32
  let v2179 : BitVec 1 := Scalar.cmpi .ne v2178 c0_i32_1317
  let v2183 : BitVec 1 := Scalar.andi v2182 v2179
  let v2184 : BitVec 32 := Scalar.addi v2178 v2177
  let v2185 : BitVec 32 := Scalar.select v2183 v2184 v2178
  let c1_i32_1320 : BitVec 32 := 1#32
  let v2186 : BitVec 32 := Scalar.muli v2185 c1_i32_1320
  let v2187 : BitVec 32 := Scalar.addi c0_i32_1321 v2186
  v2187.toNat
def k0_dev113 (d0 : Dev nD) : Nat :=
  let c0_i32_1332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1324 : BitVec 32 := 20#32
  let v2194 : BitVec 32 := Scalar.addi v2 c20_i32_1324
  let c32_i32_1325 : BitVec 32 := 32#32
  let c0_i32_1326 : BitVec 32 := 0#32
  let v2195 : BitVec 1 := Scalar.cmpi .eq c32_i32_1325 c0_i32_1326
  let c1_i32_1327 : BitVec 32 := 1#32
  let v2196 : BitVec 32 := Scalar.select v2195 c1_i32_1327 c32_i32_1325
  let v2197 : BitVec 32 := Scalar.remsi v2194 v2196
  let c0_i32_1329 : BitVec 32 := 0#32
  let v2199 : BitVec 1 := Scalar.cmpi .slt v2197 c0_i32_1329
  let c0_i32_1330 : BitVec 32 := 0#32
  let v2200 : BitVec 1 := Scalar.cmpi .slt v2196 c0_i32_1330
  let v2201 : BitVec 1 := Scalar.xori v2199 v2200
  let c0_i32_1328 : BitVec 32 := 0#32
  let v2198 : BitVec 1 := Scalar.cmpi .ne v2197 c0_i32_1328
  let v2202 : BitVec 1 := Scalar.andi v2201 v2198
  let v2203 : BitVec 32 := Scalar.addi v2197 v2196
  let v2204 : BitVec 32 := Scalar.select v2202 v2203 v2197
  let c1_i32_1331 : BitVec 32 := 1#32
  let v2205 : BitVec 32 := Scalar.muli v2204 c1_i32_1331
  let v2206 : BitVec 32 := Scalar.addi c0_i32_1332 v2205
  v2206.toNat
def k0_dev114 (d0 : Dev nD) : Nat :=
  let c0_i32_1343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1335 : BitVec 32 := 21#32
  let v2213 : BitVec 32 := Scalar.addi v2 c21_i32_1335
  let c32_i32_1336 : BitVec 32 := 32#32
  let c0_i32_1337 : BitVec 32 := 0#32
  let v2214 : BitVec 1 := Scalar.cmpi .eq c32_i32_1336 c0_i32_1337
  let c1_i32_1338 : BitVec 32 := 1#32
  let v2215 : BitVec 32 := Scalar.select v2214 c1_i32_1338 c32_i32_1336
  let v2216 : BitVec 32 := Scalar.remsi v2213 v2215
  let c0_i32_1340 : BitVec 32 := 0#32
  let v2218 : BitVec 1 := Scalar.cmpi .slt v2216 c0_i32_1340
  let c0_i32_1341 : BitVec 32 := 0#32
  let v2219 : BitVec 1 := Scalar.cmpi .slt v2215 c0_i32_1341
  let v2220 : BitVec 1 := Scalar.xori v2218 v2219
  let c0_i32_1339 : BitVec 32 := 0#32
  let v2217 : BitVec 1 := Scalar.cmpi .ne v2216 c0_i32_1339
  let v2221 : BitVec 1 := Scalar.andi v2220 v2217
  let v2222 : BitVec 32 := Scalar.addi v2216 v2215
  let v2223 : BitVec 32 := Scalar.select v2221 v2222 v2216
  let c1_i32_1342 : BitVec 32 := 1#32
  let v2224 : BitVec 32 := Scalar.muli v2223 c1_i32_1342
  let v2225 : BitVec 32 := Scalar.addi c0_i32_1343 v2224
  v2225.toNat
def k0_dev115 (d0 : Dev nD) : Nat :=
  let c0_i32_1354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1346 : BitVec 32 := 22#32
  let v2232 : BitVec 32 := Scalar.addi v2 c22_i32_1346
  let c32_i32_1347 : BitVec 32 := 32#32
  let c0_i32_1348 : BitVec 32 := 0#32
  let v2233 : BitVec 1 := Scalar.cmpi .eq c32_i32_1347 c0_i32_1348
  let c1_i32_1349 : BitVec 32 := 1#32
  let v2234 : BitVec 32 := Scalar.select v2233 c1_i32_1349 c32_i32_1347
  let v2235 : BitVec 32 := Scalar.remsi v2232 v2234
  let c0_i32_1351 : BitVec 32 := 0#32
  let v2237 : BitVec 1 := Scalar.cmpi .slt v2235 c0_i32_1351
  let c0_i32_1352 : BitVec 32 := 0#32
  let v2238 : BitVec 1 := Scalar.cmpi .slt v2234 c0_i32_1352
  let v2239 : BitVec 1 := Scalar.xori v2237 v2238
  let c0_i32_1350 : BitVec 32 := 0#32
  let v2236 : BitVec 1 := Scalar.cmpi .ne v2235 c0_i32_1350
  let v2240 : BitVec 1 := Scalar.andi v2239 v2236
  let v2241 : BitVec 32 := Scalar.addi v2235 v2234
  let v2242 : BitVec 32 := Scalar.select v2240 v2241 v2235
  let c1_i32_1353 : BitVec 32 := 1#32
  let v2243 : BitVec 32 := Scalar.muli v2242 c1_i32_1353
  let v2244 : BitVec 32 := Scalar.addi c0_i32_1354 v2243
  v2244.toNat
def k0_dev116 (d0 : Dev nD) : Nat :=
  let c0_i32_1365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1357 : BitVec 32 := 23#32
  let v2251 : BitVec 32 := Scalar.addi v2 c23_i32_1357
  let c32_i32_1358 : BitVec 32 := 32#32
  let c0_i32_1359 : BitVec 32 := 0#32
  let v2252 : BitVec 1 := Scalar.cmpi .eq c32_i32_1358 c0_i32_1359
  let c1_i32_1360 : BitVec 32 := 1#32
  let v2253 : BitVec 32 := Scalar.select v2252 c1_i32_1360 c32_i32_1358
  let v2254 : BitVec 32 := Scalar.remsi v2251 v2253
  let c0_i32_1362 : BitVec 32 := 0#32
  let v2256 : BitVec 1 := Scalar.cmpi .slt v2254 c0_i32_1362
  let c0_i32_1363 : BitVec 32 := 0#32
  let v2257 : BitVec 1 := Scalar.cmpi .slt v2253 c0_i32_1363
  let v2258 : BitVec 1 := Scalar.xori v2256 v2257
  let c0_i32_1361 : BitVec 32 := 0#32
  let v2255 : BitVec 1 := Scalar.cmpi .ne v2254 c0_i32_1361
  let v2259 : BitVec 1 := Scalar.andi v2258 v2255
  let v2260 : BitVec 32 := Scalar.addi v2254 v2253
  let v2261 : BitVec 32 := Scalar.select v2259 v2260 v2254
  let c1_i32_1364 : BitVec 32 := 1#32
  let v2262 : BitVec 32 := Scalar.muli v2261 c1_i32_1364
  let v2263 : BitVec 32 := Scalar.addi c0_i32_1365 v2262
  v2263.toNat
def k0_dev117 (d0 : Dev nD) : Nat :=
  let c0_i32_1376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1368 : BitVec 32 := 24#32
  let v2270 : BitVec 32 := Scalar.addi v2 c24_i32_1368
  let c32_i32_1369 : BitVec 32 := 32#32
  let c0_i32_1370 : BitVec 32 := 0#32
  let v2271 : BitVec 1 := Scalar.cmpi .eq c32_i32_1369 c0_i32_1370
  let c1_i32_1371 : BitVec 32 := 1#32
  let v2272 : BitVec 32 := Scalar.select v2271 c1_i32_1371 c32_i32_1369
  let v2273 : BitVec 32 := Scalar.remsi v2270 v2272
  let c0_i32_1373 : BitVec 32 := 0#32
  let v2275 : BitVec 1 := Scalar.cmpi .slt v2273 c0_i32_1373
  let c0_i32_1374 : BitVec 32 := 0#32
  let v2276 : BitVec 1 := Scalar.cmpi .slt v2272 c0_i32_1374
  let v2277 : BitVec 1 := Scalar.xori v2275 v2276
  let c0_i32_1372 : BitVec 32 := 0#32
  let v2274 : BitVec 1 := Scalar.cmpi .ne v2273 c0_i32_1372
  let v2278 : BitVec 1 := Scalar.andi v2277 v2274
  let v2279 : BitVec 32 := Scalar.addi v2273 v2272
  let v2280 : BitVec 32 := Scalar.select v2278 v2279 v2273
  let c1_i32_1375 : BitVec 32 := 1#32
  let v2281 : BitVec 32 := Scalar.muli v2280 c1_i32_1375
  let v2282 : BitVec 32 := Scalar.addi c0_i32_1376 v2281
  v2282.toNat
def k0_dev118 (d0 : Dev nD) : Nat :=
  let c0_i32_1387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1379 : BitVec 32 := 25#32
  let v2289 : BitVec 32 := Scalar.addi v2 c25_i32_1379
  let c32_i32_1380 : BitVec 32 := 32#32
  let c0_i32_1381 : BitVec 32 := 0#32
  let v2290 : BitVec 1 := Scalar.cmpi .eq c32_i32_1380 c0_i32_1381
  let c1_i32_1382 : BitVec 32 := 1#32
  let v2291 : BitVec 32 := Scalar.select v2290 c1_i32_1382 c32_i32_1380
  let v2292 : BitVec 32 := Scalar.remsi v2289 v2291
  let c0_i32_1384 : BitVec 32 := 0#32
  let v2294 : BitVec 1 := Scalar.cmpi .slt v2292 c0_i32_1384
  let c0_i32_1385 : BitVec 32 := 0#32
  let v2295 : BitVec 1 := Scalar.cmpi .slt v2291 c0_i32_1385
  let v2296 : BitVec 1 := Scalar.xori v2294 v2295
  let c0_i32_1383 : BitVec 32 := 0#32
  let v2293 : BitVec 1 := Scalar.cmpi .ne v2292 c0_i32_1383
  let v2297 : BitVec 1 := Scalar.andi v2296 v2293
  let v2298 : BitVec 32 := Scalar.addi v2292 v2291
  let v2299 : BitVec 32 := Scalar.select v2297 v2298 v2292
  let c1_i32_1386 : BitVec 32 := 1#32
  let v2300 : BitVec 32 := Scalar.muli v2299 c1_i32_1386
  let v2301 : BitVec 32 := Scalar.addi c0_i32_1387 v2300
  v2301.toNat
def k0_dev119 (d0 : Dev nD) : Nat :=
  let c0_i32_1398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1390 : BitVec 32 := 26#32
  let v2308 : BitVec 32 := Scalar.addi v2 c26_i32_1390
  let c32_i32_1391 : BitVec 32 := 32#32
  let c0_i32_1392 : BitVec 32 := 0#32
  let v2309 : BitVec 1 := Scalar.cmpi .eq c32_i32_1391 c0_i32_1392
  let c1_i32_1393 : BitVec 32 := 1#32
  let v2310 : BitVec 32 := Scalar.select v2309 c1_i32_1393 c32_i32_1391
  let v2311 : BitVec 32 := Scalar.remsi v2308 v2310
  let c0_i32_1395 : BitVec 32 := 0#32
  let v2313 : BitVec 1 := Scalar.cmpi .slt v2311 c0_i32_1395
  let c0_i32_1396 : BitVec 32 := 0#32
  let v2314 : BitVec 1 := Scalar.cmpi .slt v2310 c0_i32_1396
  let v2315 : BitVec 1 := Scalar.xori v2313 v2314
  let c0_i32_1394 : BitVec 32 := 0#32
  let v2312 : BitVec 1 := Scalar.cmpi .ne v2311 c0_i32_1394
  let v2316 : BitVec 1 := Scalar.andi v2315 v2312
  let v2317 : BitVec 32 := Scalar.addi v2311 v2310
  let v2318 : BitVec 32 := Scalar.select v2316 v2317 v2311
  let c1_i32_1397 : BitVec 32 := 1#32
  let v2319 : BitVec 32 := Scalar.muli v2318 c1_i32_1397
  let v2320 : BitVec 32 := Scalar.addi c0_i32_1398 v2319
  v2320.toNat
def k0_dev120 (d0 : Dev nD) : Nat :=
  let c0_i32_1409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1401 : BitVec 32 := 27#32
  let v2327 : BitVec 32 := Scalar.addi v2 c27_i32_1401
  let c32_i32_1402 : BitVec 32 := 32#32
  let c0_i32_1403 : BitVec 32 := 0#32
  let v2328 : BitVec 1 := Scalar.cmpi .eq c32_i32_1402 c0_i32_1403
  let c1_i32_1404 : BitVec 32 := 1#32
  let v2329 : BitVec 32 := Scalar.select v2328 c1_i32_1404 c32_i32_1402
  let v2330 : BitVec 32 := Scalar.remsi v2327 v2329
  let c0_i32_1406 : BitVec 32 := 0#32
  let v2332 : BitVec 1 := Scalar.cmpi .slt v2330 c0_i32_1406
  let c0_i32_1407 : BitVec 32 := 0#32
  let v2333 : BitVec 1 := Scalar.cmpi .slt v2329 c0_i32_1407
  let v2334 : BitVec 1 := Scalar.xori v2332 v2333
  let c0_i32_1405 : BitVec 32 := 0#32
  let v2331 : BitVec 1 := Scalar.cmpi .ne v2330 c0_i32_1405
  let v2335 : BitVec 1 := Scalar.andi v2334 v2331
  let v2336 : BitVec 32 := Scalar.addi v2330 v2329
  let v2337 : BitVec 32 := Scalar.select v2335 v2336 v2330
  let c1_i32_1408 : BitVec 32 := 1#32
  let v2338 : BitVec 32 := Scalar.muli v2337 c1_i32_1408
  let v2339 : BitVec 32 := Scalar.addi c0_i32_1409 v2338
  v2339.toNat
def k0_dev121 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1412 : BitVec 32 := 28#32
  let v2346 : BitVec 32 := Scalar.addi v2 c28_i32_1412
  let c32_i32_1413 : BitVec 32 := 32#32
  let c0_i32_1414 : BitVec 32 := 0#32
  let v2347 : BitVec 1 := Scalar.cmpi .eq c32_i32_1413 c0_i32_1414
  let c1_i32_1415 : BitVec 32 := 1#32
  let v2348 : BitVec 32 := Scalar.select v2347 c1_i32_1415 c32_i32_1413
  let v2349 : BitVec 32 := Scalar.remsi v2346 v2348
  let c0_i32_1417 : BitVec 32 := 0#32
  let v2351 : BitVec 1 := Scalar.cmpi .slt v2349 c0_i32_1417
  let c0_i32_1418 : BitVec 32 := 0#32
  let v2352 : BitVec 1 := Scalar.cmpi .slt v2348 c0_i32_1418
  let v2353 : BitVec 1 := Scalar.xori v2351 v2352
  let c0_i32_1416 : BitVec 32 := 0#32
  let v2350 : BitVec 1 := Scalar.cmpi .ne v2349 c0_i32_1416
  let v2354 : BitVec 1 := Scalar.andi v2353 v2350
  let v2355 : BitVec 32 := Scalar.addi v2349 v2348
  let v2356 : BitVec 32 := Scalar.select v2354 v2355 v2349
  let c1_i32_1419 : BitVec 32 := 1#32
  let v2357 : BitVec 32 := Scalar.muli v2356 c1_i32_1419
  let v2358 : BitVec 32 := Scalar.addi c0_i32_1420 v2357
  v2358.toNat
def k0_dev122 (d0 : Dev nD) : Nat :=
  let c0_i32_1431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1423 : BitVec 32 := 29#32
  let v2365 : BitVec 32 := Scalar.addi v2 c29_i32_1423
  let c32_i32_1424 : BitVec 32 := 32#32
  let c0_i32_1425 : BitVec 32 := 0#32
  let v2366 : BitVec 1 := Scalar.cmpi .eq c32_i32_1424 c0_i32_1425
  let c1_i32_1426 : BitVec 32 := 1#32
  let v2367 : BitVec 32 := Scalar.select v2366 c1_i32_1426 c32_i32_1424
  let v2368 : BitVec 32 := Scalar.remsi v2365 v2367
  let c0_i32_1428 : BitVec 32 := 0#32
  let v2370 : BitVec 1 := Scalar.cmpi .slt v2368 c0_i32_1428
  let c0_i32_1429 : BitVec 32 := 0#32
  let v2371 : BitVec 1 := Scalar.cmpi .slt v2367 c0_i32_1429
  let v2372 : BitVec 1 := Scalar.xori v2370 v2371
  let c0_i32_1427 : BitVec 32 := 0#32
  let v2369 : BitVec 1 := Scalar.cmpi .ne v2368 c0_i32_1427
  let v2373 : BitVec 1 := Scalar.andi v2372 v2369
  let v2374 : BitVec 32 := Scalar.addi v2368 v2367
  let v2375 : BitVec 32 := Scalar.select v2373 v2374 v2368
  let c1_i32_1430 : BitVec 32 := 1#32
  let v2376 : BitVec 32 := Scalar.muli v2375 c1_i32_1430
  let v2377 : BitVec 32 := Scalar.addi c0_i32_1431 v2376
  v2377.toNat
def k0_dev123 (d0 : Dev nD) : Nat :=
  let c0_i32_1442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1434 : BitVec 32 := 30#32
  let v2384 : BitVec 32 := Scalar.addi v2 c30_i32_1434
  let c32_i32_1435 : BitVec 32 := 32#32
  let c0_i32_1436 : BitVec 32 := 0#32
  let v2385 : BitVec 1 := Scalar.cmpi .eq c32_i32_1435 c0_i32_1436
  let c1_i32_1437 : BitVec 32 := 1#32
  let v2386 : BitVec 32 := Scalar.select v2385 c1_i32_1437 c32_i32_1435
  let v2387 : BitVec 32 := Scalar.remsi v2384 v2386
  let c0_i32_1439 : BitVec 32 := 0#32
  let v2389 : BitVec 1 := Scalar.cmpi .slt v2387 c0_i32_1439
  let c0_i32_1440 : BitVec 32 := 0#32
  let v2390 : BitVec 1 := Scalar.cmpi .slt v2386 c0_i32_1440
  let v2391 : BitVec 1 := Scalar.xori v2389 v2390
  let c0_i32_1438 : BitVec 32 := 0#32
  let v2388 : BitVec 1 := Scalar.cmpi .ne v2387 c0_i32_1438
  let v2392 : BitVec 1 := Scalar.andi v2391 v2388
  let v2393 : BitVec 32 := Scalar.addi v2387 v2386
  let v2394 : BitVec 32 := Scalar.select v2392 v2393 v2387
  let c1_i32_1441 : BitVec 32 := 1#32
  let v2395 : BitVec 32 := Scalar.muli v2394 c1_i32_1441
  let v2396 : BitVec 32 := Scalar.addi c0_i32_1442 v2395
  v2396.toNat
def k0_dev124 (d0 : Dev nD) : Nat :=
  let c0_i32_1453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1445 : BitVec 32 := 31#32
  let v2403 : BitVec 32 := Scalar.addi v2 c31_i32_1445
  let c32_i32_1446 : BitVec 32 := 32#32
  let c0_i32_1447 : BitVec 32 := 0#32
  let v2404 : BitVec 1 := Scalar.cmpi .eq c32_i32_1446 c0_i32_1447
  let c1_i32_1448 : BitVec 32 := 1#32
  let v2405 : BitVec 32 := Scalar.select v2404 c1_i32_1448 c32_i32_1446
  let v2406 : BitVec 32 := Scalar.remsi v2403 v2405
  let c0_i32_1450 : BitVec 32 := 0#32
  let v2408 : BitVec 1 := Scalar.cmpi .slt v2406 c0_i32_1450
  let c0_i32_1451 : BitVec 32 := 0#32
  let v2409 : BitVec 1 := Scalar.cmpi .slt v2405 c0_i32_1451
  let v2410 : BitVec 1 := Scalar.xori v2408 v2409
  let c0_i32_1449 : BitVec 32 := 0#32
  let v2407 : BitVec 1 := Scalar.cmpi .ne v2406 c0_i32_1449
  let v2411 : BitVec 1 := Scalar.andi v2410 v2407
  let v2412 : BitVec 32 := Scalar.addi v2406 v2405
  let v2413 : BitVec 32 := Scalar.select v2411 v2412 v2406
  let c1_i32_1452 : BitVec 32 := 1#32
  let v2414 : BitVec 32 := Scalar.muli v2413 c1_i32_1452
  let v2415 : BitVec 32 := Scalar.addi c0_i32_1453 v2414
  v2415.toNat
def k0_off8 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2423 : Index := Scalar.indexCast v2
  let c0_1458 : Index := 0#32
  let c0_1459 : Index := 0#32
  ![v2423.toNat, 0, 0]
def k0_off9 (d0 : Dev nD) (c1_i32_1460 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2427 : BitVec 32 := Scalar.addi v2 c1_i32_1460
  let c32_i32_1461 : BitVec 32 := 32#32
  let c0_i32_1462 : BitVec 32 := 0#32
  let v2428 : BitVec 1 := Scalar.cmpi .eq c32_i32_1461 c0_i32_1462
  let c1_i32_1463 : BitVec 32 := 1#32
  let v2429 : BitVec 32 := Scalar.select v2428 c1_i32_1463 c32_i32_1461
  let v2430 : BitVec 32 := Scalar.remsi v2427 v2429
  let c0_i32_1465 : BitVec 32 := 0#32
  let v2432 : BitVec 1 := Scalar.cmpi .slt v2430 c0_i32_1465
  let c0_i32_1466 : BitVec 32 := 0#32
  let v2433 : BitVec 1 := Scalar.cmpi .slt v2429 c0_i32_1466
  let v2434 : BitVec 1 := Scalar.xori v2432 v2433
  let c0_i32_1464 : BitVec 32 := 0#32
  let v2431 : BitVec 1 := Scalar.cmpi .ne v2430 c0_i32_1464
  let v2435 : BitVec 1 := Scalar.andi v2434 v2431
  let v2436 : BitVec 32 := Scalar.addi v2430 v2429
  let v2437 : BitVec 32 := Scalar.select v2435 v2436 v2430
  let c0_i32_1469 : BitVec 32 := 0#32
  let c0_i32_1470 : BitVec 32 := 0#32
  ![v2437.toNat, 0, 0]
def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1865 : BitVec 32 := 0#32
  let v3053 : BitVec 1 := Scalar.cmpi .ne v2 c0_i32_1865
  let v3054 : BitVec 32 := Scalar.extui v3053
  let c0_i32_1866 : BitVec 32 := 0#32
  let v3055 : BitVec 1 := Scalar.cmpi .ne v3054 c0_i32_1866
  v3055

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev125 : Nat :=
  let c0_i32_3119 : BitVec 32 := 0#32
  let c0_i32_3117 : BitVec 32 := 0#32
  let c1_i32_3118 : BitVec 32 := 1#32
  let v4813 : BitVec 32 := Scalar.muli c0_i32_3117 c1_i32_3118
  let v4814 : BitVec 32 := Scalar.addi c0_i32_3119 v4813
  v4814.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1867 : BitVec 32 := 1#32
  let v3056 : BitVec 1 := Scalar.cmpi .ne v2 c1_i32_1867
  let v3057 : BitVec 32 := Scalar.extui v3056
  let c0_i32_1868 : BitVec 32 := 0#32
  let v3058 : BitVec 1 := Scalar.cmpi .ne v3057 c0_i32_1868
  v3058

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev126 : Nat :=
  let c0_i32_3119 : BitVec 32 := 0#32
  let c1_i32_3117 : BitVec 32 := 1#32
  let c1_i32_3118 : BitVec 32 := 1#32
  let v4813 : BitVec 32 := Scalar.muli c1_i32_3117 c1_i32_3118
  let v4814 : BitVec 32 := Scalar.addi c0_i32_3119 v4813
  v4814.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1869 : BitVec 32 := 2#32
  let v3059 : BitVec 1 := Scalar.cmpi .ne v2 c2_i32_1869
  let v3060 : BitVec 32 := Scalar.extui v3059
  let c0_i32_1870 : BitVec 32 := 0#32
  let v3061 : BitVec 1 := Scalar.cmpi .ne v3060 c0_i32_1870
  v3061

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev127 : Nat :=
  let c0_i32_3119 : BitVec 32 := 0#32
  let c2_i32_3117 : BitVec 32 := 2#32
  let c1_i32_3118 : BitVec 32 := 1#32
  let v4813 : BitVec 32 := Scalar.muli c2_i32_3117 c1_i32_3118
  let v4814 : BitVec 32 := Scalar.addi c0_i32_3119 v4813
  v4814.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1871 : BitVec 32 := 3#32
  let v3062 : BitVec 1 := Scalar.cmpi .ne v2 c3_i32_1871
  let v3063 : BitVec 32 := Scalar.extui v3062
  let c0_i32_1872 : BitVec 32 := 0#32
  let v3064 : BitVec 1 := Scalar.cmpi .ne v3063 c0_i32_1872
  v3064

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev128 : Nat :=
  let c0_i32_3119 : BitVec 32 := 0#32
  let c3_i32_3117 : BitVec 32 := 3#32
  let c1_i32_3118 : BitVec 32 := 1#32
  let v4813 : BitVec 32 := Scalar.muli c3_i32_3117 c1_i32_3118
  let v4814 : BitVec 32 := Scalar.addi c0_i32_3119 v4813
  v4814.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1873 : BitVec 32 := 4#32
  let v3065 : BitVec 1 := Scalar.cmpi .ne v2 c4_i32_1873
  let v3066 : BitVec 32 := Scalar.extui v3065
  let c0_i32_1874 : BitVec 32 := 0#32
  let v3067 : BitVec 1 := Scalar.cmpi .ne v3066 c0_i32_1874
  v3067

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev129 : Nat :=
  let c0_i32_3119 : BitVec 32 := 0#32
  let c4_i32_3117 : BitVec 32 := 4#32
  let c1_i32_3118 : BitVec 32 := 1#32
  let v4813 : BitVec 32 := Scalar.muli c4_i32_3117 c1_i32_3118
  let v4814 : BitVec 32 := Scalar.addi c0_i32_3119 v4813
  v4814.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1875 : BitVec 32 := 5#32
  let v3068 : BitVec 1 := Scalar.cmpi .ne v2 c5_i32_1875
  let v3069 : BitVec 32 := Scalar.extui v3068
  let c0_i32_1876 : BitVec 32 := 0#32
  let v3070 : BitVec 1 := Scalar.cmpi .ne v3069 c0_i32_1876
  v3070

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev130 : Nat :=
  let c0_i32_3119 : BitVec 32 := 0#32
  let c5_i32_3117 : BitVec 32 := 5#32
  let c1_i32_3118 : BitVec 32 := 1#32
  let v4813 : BitVec 32 := Scalar.muli c5_i32_3117 c1_i32_3118
  let v4814 : BitVec 32 := Scalar.addi c0_i32_3119 v4813
  v4814.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1877 : BitVec 32 := 6#32
  let v3071 : BitVec 1 := Scalar.cmpi .ne v2 c6_i32_1877
  let v3072 : BitVec 32 := Scalar.extui v3071
  let c0_i32_1878 : BitVec 32 := 0#32
  let v3073 : BitVec 1 := Scalar.cmpi .ne v3072 c0_i32_1878
  v3073

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev131 : Nat :=
  let c0_i32_3119 : BitVec 32 := 0#32
  let c6_i32_3117 : BitVec 32 := 6#32
  let c1_i32_3118 : BitVec 32 := 1#32
  let v4813 : BitVec 32 := Scalar.muli c6_i32_3117 c1_i32_3118
  let v4814 : BitVec 32 := Scalar.addi c0_i32_3119 v4813
  v4814.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1879 : BitVec 32 := 7#32
  let v3074 : BitVec 1 := Scalar.cmpi .ne v2 c7_i32_1879
  let v3075 : BitVec 32 := Scalar.extui v3074
  let c0_i32_1880 : BitVec 32 := 0#32
  let v3076 : BitVec 1 := Scalar.cmpi .ne v3075 c0_i32_1880
  v3076

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev132 : Nat :=
  let c0_i32_3119 : BitVec 32 := 0#32
  let c7_i32_3117 : BitVec 32 := 7#32
  let c1_i32_3118 : BitVec 32 := 1#32
  let v4813 : BitVec 32 := Scalar.muli c7_i32_3117 c1_i32_3118
  let v4814 : BitVec 32 := Scalar.addi c0_i32_3119 v4813
  v4814.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1922 : BitVec 32 := 8#32
  let v3132 : BitVec 1 := Scalar.cmpi .ne v2 c8_i32_1922
  let v3133 : BitVec 32 := Scalar.extui v3132
  let c0_i32_1923 : BitVec 32 := 0#32
  let v3134 : BitVec 1 := Scalar.cmpi .ne v3133 c0_i32_1923
  v3134

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev133 : Nat :=
  let c0_i32_3119 : BitVec 32 := 0#32
  let c8_i32_3117 : BitVec 32 := 8#32
  let c1_i32_3118 : BitVec 32 := 1#32
  let v4813 : BitVec 32 := Scalar.muli c8_i32_3117 c1_i32_3118
  let v4814 : BitVec 32 := Scalar.addi c0_i32_3119 v4813
  v4814.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1924 : BitVec 32 := 9#32
  let v3135 : BitVec 1 := Scalar.cmpi .ne v2 c9_i32_1924
  let v3136 : BitVec 32 := Scalar.extui v3135
  let c0_i32_1925 : BitVec 32 := 0#32
  let v3137 : BitVec 1 := Scalar.cmpi .ne v3136 c0_i32_1925
  v3137

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev134 : Nat :=
  let c0_i32_3119 : BitVec 32 := 0#32
  let c9_i32_3117 : BitVec 32 := 9#32
  let c1_i32_3118 : BitVec 32 := 1#32
  let v4813 : BitVec 32 := Scalar.muli c9_i32_3117 c1_i32_3118
  let v4814 : BitVec 32 := Scalar.addi c0_i32_3119 v4813
  v4814.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1926 : BitVec 32 := 10#32
  let v3138 : BitVec 1 := Scalar.cmpi .ne v2 c10_i32_1926
  let v3139 : BitVec 32 := Scalar.extui v3138
  let c0_i32_1927 : BitVec 32 := 0#32
  let v3140 : BitVec 1 := Scalar.cmpi .ne v3139 c0_i32_1927
  v3140

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev135 : Nat :=
  let c0_i32_3119 : BitVec 32 := 0#32
  let c10_i32_3117 : BitVec 32 := 10#32
  let c1_i32_3118 : BitVec 32 := 1#32
  let v4813 : BitVec 32 := Scalar.muli c10_i32_3117 c1_i32_3118
  let v4814 : BitVec 32 := Scalar.addi c0_i32_3119 v4813
  v4814.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1928 : BitVec 32 := 11#32
  let v3141 : BitVec 1 := Scalar.cmpi .ne v2 c11_i32_1928
  let v3142 : BitVec 32 := Scalar.extui v3141
  let c0_i32_1929 : BitVec 32 := 0#32
  let v3143 : BitVec 1 := Scalar.cmpi .ne v3142 c0_i32_1929
  v3143

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev136 : Nat :=
  let c0_i32_3119 : BitVec 32 := 0#32
  let c11_i32_3117 : BitVec 32 := 11#32
  let c1_i32_3118 : BitVec 32 := 1#32
  let v4813 : BitVec 32 := Scalar.muli c11_i32_3117 c1_i32_3118
  let v4814 : BitVec 32 := Scalar.addi c0_i32_3119 v4813
  v4814.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1930 : BitVec 32 := 12#32
  let v3144 : BitVec 1 := Scalar.cmpi .ne v2 c12_i32_1930
  let v3145 : BitVec 32 := Scalar.extui v3144
  let c0_i32_1931 : BitVec 32 := 0#32
  let v3146 : BitVec 1 := Scalar.cmpi .ne v3145 c0_i32_1931
  v3146

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev137 : Nat :=
  let c0_i32_3119 : BitVec 32 := 0#32
  let c12_i32_3117 : BitVec 32 := 12#32
  let c1_i32_3118 : BitVec 32 := 1#32
  let v4813 : BitVec 32 := Scalar.muli c12_i32_3117 c1_i32_3118
  let v4814 : BitVec 32 := Scalar.addi c0_i32_3119 v4813
  v4814.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1932 : BitVec 32 := 13#32
  let v3147 : BitVec 1 := Scalar.cmpi .ne v2 c13_i32_1932
  let v3148 : BitVec 32 := Scalar.extui v3147
  let c0_i32_1933 : BitVec 32 := 0#32
  let v3149 : BitVec 1 := Scalar.cmpi .ne v3148 c0_i32_1933
  v3149

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev138 : Nat :=
  let c0_i32_3119 : BitVec 32 := 0#32
  let c13_i32_3117 : BitVec 32 := 13#32
  let c1_i32_3118 : BitVec 32 := 1#32
  let v4813 : BitVec 32 := Scalar.muli c13_i32_3117 c1_i32_3118
  let v4814 : BitVec 32 := Scalar.addi c0_i32_3119 v4813
  v4814.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1934 : BitVec 32 := 14#32
  let v3150 : BitVec 1 := Scalar.cmpi .ne v2 c14_i32_1934
  let v3151 : BitVec 32 := Scalar.extui v3150
  let c0_i32_1935 : BitVec 32 := 0#32
  let v3152 : BitVec 1 := Scalar.cmpi .ne v3151 c0_i32_1935
  v3152

def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev139 : Nat :=
  let c0_i32_3119 : BitVec 32 := 0#32
  let c14_i32_3117 : BitVec 32 := 14#32
  let c1_i32_3118 : BitVec 32 := 1#32
  let v4813 : BitVec 32 := Scalar.muli c14_i32_3117 c1_i32_3118
  let v4814 : BitVec 32 := Scalar.addi c0_i32_3119 v4813
  v4814.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1936 : BitVec 32 := 15#32
  let v3153 : BitVec 1 := Scalar.cmpi .ne v2 c15_i32_1936
  let v3154 : BitVec 32 := Scalar.extui v3153
  let c0_i32_1937 : BitVec 32 := 0#32
  let v3155 : BitVec 1 := Scalar.cmpi .ne v3154 c0_i32_1937
  v3155

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev140 : Nat :=
  let c0_i32_3119 : BitVec 32 := 0#32
  let c15_i32_3117 : BitVec 32 := 15#32
  let c1_i32_3118 : BitVec 32 := 1#32
  let v4813 : BitVec 32 := Scalar.muli c15_i32_3117 c1_i32_3118
  let v4814 : BitVec 32 := Scalar.addi c0_i32_3119 v4813
  v4814.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1979 : BitVec 32 := 16#32
  let v3211 : BitVec 1 := Scalar.cmpi .ne v2 c16_i32_1979
  let v3212 : BitVec 32 := Scalar.extui v3211
  let c0_i32_1980 : BitVec 32 := 0#32
  let v3213 : BitVec 1 := Scalar.cmpi .ne v3212 c0_i32_1980
  v3213

def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev141 : Nat :=
  let c0_i32_3119 : BitVec 32 := 0#32
  let c16_i32_3117 : BitVec 32 := 16#32
  let c1_i32_3118 : BitVec 32 := 1#32
  let v4813 : BitVec 32 := Scalar.muli c16_i32_3117 c1_i32_3118
  let v4814 : BitVec 32 := Scalar.addi c0_i32_3119 v4813
  v4814.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1981 : BitVec 32 := 17#32
  let v3214 : BitVec 1 := Scalar.cmpi .ne v2 c17_i32_1981
  let v3215 : BitVec 32 := Scalar.extui v3214
  let c0_i32_1982 : BitVec 32 := 0#32
  let v3216 : BitVec 1 := Scalar.cmpi .ne v3215 c0_i32_1982
  v3216

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev142 : Nat :=
  let c0_i32_3119 : BitVec 32 := 0#32
  let c17_i32_3117 : BitVec 32 := 17#32
  let c1_i32_3118 : BitVec 32 := 1#32
  let v4813 : BitVec 32 := Scalar.muli c17_i32_3117 c1_i32_3118
  let v4814 : BitVec 32 := Scalar.addi c0_i32_3119 v4813
  v4814.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1983 : BitVec 32 := 18#32
  let v3217 : BitVec 1 := Scalar.cmpi .ne v2 c18_i32_1983
  let v3218 : BitVec 32 := Scalar.extui v3217
  let c0_i32_1984 : BitVec 32 := 0#32
  let v3219 : BitVec 1 := Scalar.cmpi .ne v3218 c0_i32_1984
  v3219

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev143 : Nat :=
  let c0_i32_3119 : BitVec 32 := 0#32
  let c18_i32_3117 : BitVec 32 := 18#32
  let c1_i32_3118 : BitVec 32 := 1#32
  let v4813 : BitVec 32 := Scalar.muli c18_i32_3117 c1_i32_3118
  let v4814 : BitVec 32 := Scalar.addi c0_i32_3119 v4813
  v4814.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1985 : BitVec 32 := 19#32
  let v3220 : BitVec 1 := Scalar.cmpi .ne v2 c19_i32_1985
  let v3221 : BitVec 32 := Scalar.extui v3220
  let c0_i32_1986 : BitVec 32 := 0#32
  let v3222 : BitVec 1 := Scalar.cmpi .ne v3221 c0_i32_1986
  v3222

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev144 : Nat :=
  let c0_i32_3119 : BitVec 32 := 0#32
  let c19_i32_3117 : BitVec 32 := 19#32
  let c1_i32_3118 : BitVec 32 := 1#32
  let v4813 : BitVec 32 := Scalar.muli c19_i32_3117 c1_i32_3118
  let v4814 : BitVec 32 := Scalar.addi c0_i32_3119 v4813
  v4814.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1987 : BitVec 32 := 20#32
  let v3223 : BitVec 1 := Scalar.cmpi .ne v2 c20_i32_1987
  let v3224 : BitVec 32 := Scalar.extui v3223
  let c0_i32_1988 : BitVec 32 := 0#32
  let v3225 : BitVec 1 := Scalar.cmpi .ne v3224 c0_i32_1988
  v3225

def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev145 : Nat :=
  let c0_i32_3119 : BitVec 32 := 0#32
  let c20_i32_3117 : BitVec 32 := 20#32
  let c1_i32_3118 : BitVec 32 := 1#32
  let v4813 : BitVec 32 := Scalar.muli c20_i32_3117 c1_i32_3118
  let v4814 : BitVec 32 := Scalar.addi c0_i32_3119 v4813
  v4814.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1989 : BitVec 32 := 21#32
  let v3226 : BitVec 1 := Scalar.cmpi .ne v2 c21_i32_1989
  let v3227 : BitVec 32 := Scalar.extui v3226
  let c0_i32_1990 : BitVec 32 := 0#32
  let v3228 : BitVec 1 := Scalar.cmpi .ne v3227 c0_i32_1990
  v3228

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev146 : Nat :=
  let c0_i32_3119 : BitVec 32 := 0#32
  let c21_i32_3117 : BitVec 32 := 21#32
  let c1_i32_3118 : BitVec 32 := 1#32
  let v4813 : BitVec 32 := Scalar.muli c21_i32_3117 c1_i32_3118
  let v4814 : BitVec 32 := Scalar.addi c0_i32_3119 v4813
  v4814.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1991 : BitVec 32 := 22#32
  let v3229 : BitVec 1 := Scalar.cmpi .ne v2 c22_i32_1991
  let v3230 : BitVec 32 := Scalar.extui v3229
  let c0_i32_1992 : BitVec 32 := 0#32
  let v3231 : BitVec 1 := Scalar.cmpi .ne v3230 c0_i32_1992
  v3231

def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev147 : Nat :=
  let c0_i32_3119 : BitVec 32 := 0#32
  let c22_i32_3117 : BitVec 32 := 22#32
  let c1_i32_3118 : BitVec 32 := 1#32
  let v4813 : BitVec 32 := Scalar.muli c22_i32_3117 c1_i32_3118
  let v4814 : BitVec 32 := Scalar.addi c0_i32_3119 v4813
  v4814.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1993 : BitVec 32 := 23#32
  let v3232 : BitVec 1 := Scalar.cmpi .ne v2 c23_i32_1993
  let v3233 : BitVec 32 := Scalar.extui v3232
  let c0_i32_1994 : BitVec 32 := 0#32
  let v3234 : BitVec 1 := Scalar.cmpi .ne v3233 c0_i32_1994
  v3234

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev148 : Nat :=
  let c0_i32_3119 : BitVec 32 := 0#32
  let c23_i32_3117 : BitVec 32 := 23#32
  let c1_i32_3118 : BitVec 32 := 1#32
  let v4813 : BitVec 32 := Scalar.muli c23_i32_3117 c1_i32_3118
  let v4814 : BitVec 32 := Scalar.addi c0_i32_3119 v4813
  v4814.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2036 : BitVec 32 := 24#32
  let v3290 : BitVec 1 := Scalar.cmpi .ne v2 c24_i32_2036
  let v3291 : BitVec 32 := Scalar.extui v3290
  let c0_i32_2037 : BitVec 32 := 0#32
  let v3292 : BitVec 1 := Scalar.cmpi .ne v3291 c0_i32_2037
  v3292

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev149 : Nat :=
  let c0_i32_3119 : BitVec 32 := 0#32
  let c24_i32_3117 : BitVec 32 := 24#32
  let c1_i32_3118 : BitVec 32 := 1#32
  let v4813 : BitVec 32 := Scalar.muli c24_i32_3117 c1_i32_3118
  let v4814 : BitVec 32 := Scalar.addi c0_i32_3119 v4813
  v4814.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2038 : BitVec 32 := 25#32
  let v3293 : BitVec 1 := Scalar.cmpi .ne v2 c25_i32_2038
  let v3294 : BitVec 32 := Scalar.extui v3293
  let c0_i32_2039 : BitVec 32 := 0#32
  let v3295 : BitVec 1 := Scalar.cmpi .ne v3294 c0_i32_2039
  v3295

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev150 : Nat :=
  let c0_i32_3119 : BitVec 32 := 0#32
  let c25_i32_3117 : BitVec 32 := 25#32
  let c1_i32_3118 : BitVec 32 := 1#32
  let v4813 : BitVec 32 := Scalar.muli c25_i32_3117 c1_i32_3118
  let v4814 : BitVec 32 := Scalar.addi c0_i32_3119 v4813
  v4814.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2040 : BitVec 32 := 26#32
  let v3296 : BitVec 1 := Scalar.cmpi .ne v2 c26_i32_2040
  let v3297 : BitVec 32 := Scalar.extui v3296
  let c0_i32_2041 : BitVec 32 := 0#32
  let v3298 : BitVec 1 := Scalar.cmpi .ne v3297 c0_i32_2041
  v3298

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev151 : Nat :=
  let c0_i32_3119 : BitVec 32 := 0#32
  let c26_i32_3117 : BitVec 32 := 26#32
  let c1_i32_3118 : BitVec 32 := 1#32
  let v4813 : BitVec 32 := Scalar.muli c26_i32_3117 c1_i32_3118
  let v4814 : BitVec 32 := Scalar.addi c0_i32_3119 v4813
  v4814.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2042 : BitVec 32 := 27#32
  let v3299 : BitVec 1 := Scalar.cmpi .ne v2 c27_i32_2042
  let v3300 : BitVec 32 := Scalar.extui v3299
  let c0_i32_2043 : BitVec 32 := 0#32
  let v3301 : BitVec 1 := Scalar.cmpi .ne v3300 c0_i32_2043
  v3301

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev152 : Nat :=
  let c0_i32_3119 : BitVec 32 := 0#32
  let c27_i32_3117 : BitVec 32 := 27#32
  let c1_i32_3118 : BitVec 32 := 1#32
  let v4813 : BitVec 32 := Scalar.muli c27_i32_3117 c1_i32_3118
  let v4814 : BitVec 32 := Scalar.addi c0_i32_3119 v4813
  v4814.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2044 : BitVec 32 := 28#32
  let v3302 : BitVec 1 := Scalar.cmpi .ne v2 c28_i32_2044
  let v3303 : BitVec 32 := Scalar.extui v3302
  let c0_i32_2045 : BitVec 32 := 0#32
  let v3304 : BitVec 1 := Scalar.cmpi .ne v3303 c0_i32_2045
  v3304

def k0_off66 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev153 : Nat :=
  let c0_i32_3119 : BitVec 32 := 0#32
  let c28_i32_3117 : BitVec 32 := 28#32
  let c1_i32_3118 : BitVec 32 := 1#32
  let v4813 : BitVec 32 := Scalar.muli c28_i32_3117 c1_i32_3118
  let v4814 : BitVec 32 := Scalar.addi c0_i32_3119 v4813
  v4814.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2046 : BitVec 32 := 29#32
  let v3305 : BitVec 1 := Scalar.cmpi .ne v2 c29_i32_2046
  let v3306 : BitVec 32 := Scalar.extui v3305
  let c0_i32_2047 : BitVec 32 := 0#32
  let v3307 : BitVec 1 := Scalar.cmpi .ne v3306 c0_i32_2047
  v3307

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev154 : Nat :=
  let c0_i32_3119 : BitVec 32 := 0#32
  let c29_i32_3117 : BitVec 32 := 29#32
  let c1_i32_3118 : BitVec 32 := 1#32
  let v4813 : BitVec 32 := Scalar.muli c29_i32_3117 c1_i32_3118
  let v4814 : BitVec 32 := Scalar.addi c0_i32_3119 v4813
  v4814.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2048 : BitVec 32 := 30#32
  let v3308 : BitVec 1 := Scalar.cmpi .ne v2 c30_i32_2048
  let v3309 : BitVec 32 := Scalar.extui v3308
  let c0_i32_2049 : BitVec 32 := 0#32
  let v3310 : BitVec 1 := Scalar.cmpi .ne v3309 c0_i32_2049
  v3310

def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev155 : Nat :=
  let c0_i32_3119 : BitVec 32 := 0#32
  let c30_i32_3117 : BitVec 32 := 30#32
  let c1_i32_3118 : BitVec 32 := 1#32
  let v4813 : BitVec 32 := Scalar.muli c30_i32_3117 c1_i32_3118
  let v4814 : BitVec 32 := Scalar.addi c0_i32_3119 v4813
  v4814.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2050 : BitVec 32 := 31#32
  let v3311 : BitVec 1 := Scalar.cmpi .ne v2 c31_i32_2050
  let v3312 : BitVec 32 := Scalar.extui v3311
  let c0_i32_2051 : BitVec 32 := 0#32
  let v3313 : BitVec 1 := Scalar.cmpi .ne v3312 c0_i32_2051
  v3313

def k0_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_3120 : BitVec 32 := 0#32
  let c0_i32_3121 : BitVec 32 := 0#32
  ![v2.toNat, 0, 0]
def k0_dev156 : Nat :=
  let c0_i32_3119 : BitVec 32 := 0#32
  let c31_i32_3117 : BitVec 32 := 31#32
  let c1_i32_3118 : BitVec 32 := 1#32
  let v4813 : BitVec 32 := Scalar.muli c31_i32_3117 c1_i32_3118
  let v4814 : BitVec 32 := Scalar.addi c0_i32_3119 v4813
  v4814.toNat
def k0_off74 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2052 : BitVec 32 := 16#32
  let v3314 : BitVec 32 := Scalar.muli v2 c16_i32_2052
  let v3315 : Index := Scalar.indexCast v3314
  let c0_2053 : Index := 0#32
  ![v3315.toNat, 0]
def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3317 : Index := Scalar.indexCast v2
  let c0_2054 : Index := 0#32
  let c0_2055 : Index := 0#32
  ![v3317.toNat, 0, 0]
def k0_off76 (d0 : Dev nD) (c1_i32_2056 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3321 : BitVec 32 := Scalar.addi v2 c1_i32_2056
  let c32_i32_2057 : BitVec 32 := 32#32
  let c0_i32_2058 : BitVec 32 := 0#32
  let v3322 : BitVec 1 := Scalar.cmpi .eq c32_i32_2057 c0_i32_2058
  let c1_i32_2059 : BitVec 32 := 1#32
  let v3323 : BitVec 32 := Scalar.select v3322 c1_i32_2059 c32_i32_2057
  let v3324 : BitVec 32 := Scalar.remsi v3321 v3323
  let c0_i32_2061 : BitVec 32 := 0#32
  let v3326 : BitVec 1 := Scalar.cmpi .slt v3324 c0_i32_2061
  let c0_i32_2062 : BitVec 32 := 0#32
  let v3327 : BitVec 1 := Scalar.cmpi .slt v3323 c0_i32_2062
  let v3328 : BitVec 1 := Scalar.xori v3326 v3327
  let c0_i32_2060 : BitVec 32 := 0#32
  let v3325 : BitVec 1 := Scalar.cmpi .ne v3324 c0_i32_2060
  let v3329 : BitVec 1 := Scalar.andi v3328 v3325
  let v3330 : BitVec 32 := Scalar.addi v3324 v3323
  let v3331 : BitVec 32 := Scalar.select v3329 v3330 v3324
  let c0_i32_2066 : BitVec 32 := 0#32
  let c0_i32_2067 : BitVec 32 := 0#32
  ![v3331.toNat, 0, 0]
def k0_off77 (d0 : Dev nD) (c1_i32_2056 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3321 : BitVec 32 := Scalar.addi v2 c1_i32_2056
  let c32_i32_2057 : BitVec 32 := 32#32
  let c0_i32_2058 : BitVec 32 := 0#32
  let v3322 : BitVec 1 := Scalar.cmpi .eq c32_i32_2057 c0_i32_2058
  let c1_i32_2059 : BitVec 32 := 1#32
  let v3323 : BitVec 32 := Scalar.select v3322 c1_i32_2059 c32_i32_2057
  let v3324 : BitVec 32 := Scalar.remsi v3321 v3323
  let c0_i32_2061 : BitVec 32 := 0#32
  let v3326 : BitVec 1 := Scalar.cmpi .slt v3324 c0_i32_2061
  let c0_i32_2062 : BitVec 32 := 0#32
  let v3327 : BitVec 1 := Scalar.cmpi .slt v3323 c0_i32_2062
  let v3328 : BitVec 1 := Scalar.xori v3326 v3327
  let c0_i32_2060 : BitVec 32 := 0#32
  let v3325 : BitVec 1 := Scalar.cmpi .ne v3324 c0_i32_2060
  let v3329 : BitVec 1 := Scalar.andi v3328 v3325
  let v3330 : BitVec 32 := Scalar.addi v3324 v3323
  let v3331 : BitVec 32 := Scalar.select v3329 v3330 v3324
  let c16_i32_2063 : BitVec 32 := 16#32
  let v3332 : BitVec 32 := Scalar.muli v3331 c16_i32_2063
  let c0_i32_2068 : BitVec 32 := 0#32
  ![v3332.toNat, 0]
abbrev stage0_0 : Fin 1 → Memref sig .tc .vmem S16x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S512x512 : Shape := ⟨2, ![512, 512]⟩
abbrev S512x64 : Shape := ⟨2, ![512, 64]⟩
abbrev S64x512x1024 : Shape := ⟨3, ![64, 512, 1024]⟩
abbrev S64x1024x512 : Shape := ⟨3, ![64, 1024, 512]⟩
abbrev S512x2 : Shape := ⟨2, ![512, 2]⟩
abbrev S_ : Shape := ⟨0, ![]⟩
abbrev S512x2x1 : Shape := ⟨3, ![512, 2, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S64x512x512 : Shape := ⟨3, ![64, 512, 512]⟩
abbrev S64 : Shape := ⟨1, ![64]⟩
abbrev S1x1x64 : Shape := ⟨3, ![1, 1, 64]⟩
abbrev S512x2x64 : Shape := ⟨3, ![512, 2, 64]⟩
abbrev S64x512 : Shape := ⟨2, ![64, 512]⟩
abbrev S64x512x1 : Shape := ⟨3, ![64, 512, 1]⟩

abbrev nBuf : Space → Nat
  | .hbm => 69
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x64, .f32⟩
  | .hbm, ⟨2, _⟩ => ⟨S64x512x1024, .f32⟩
  | .hbm, ⟨3, _⟩ => ⟨S64x1024x512, .f32⟩
  | .hbm, ⟨4, _⟩ => ⟨S512x64, .f32⟩
  | .hbm, ⟨5, _⟩ => ⟨S512x64, .f32⟩
  | .hbm, ⟨6, _⟩ => ⟨S512x64, .i32⟩
  | .hbm, ⟨7, _⟩ => ⟨S512x64, .f32⟩
  | .hbm, ⟨8, _⟩ => ⟨S512x64, .i32⟩
  | .hbm, ⟨9, _⟩ => ⟨S512x2, .i32⟩
  | .hbm, ⟨10, _⟩ => ⟨S_, .i32⟩
  | .hbm, ⟨11, _⟩ => ⟨S512x2, .i32⟩
  | .hbm, ⟨12, _⟩ => ⟨S512x2, .i1⟩
  | .hbm, ⟨13, _⟩ => ⟨S_, .i32⟩
  | .hbm, ⟨14, _⟩ => ⟨S512x2, .i32⟩
  | .hbm, ⟨15, _⟩ => ⟨S512x2, .i32⟩
  | .hbm, ⟨16, _⟩ => ⟨S512x2, .i32⟩
  | .hbm, ⟨17, _⟩ => ⟨S512x2x1, .i32⟩
  | .hbm, ⟨18, _⟩ => ⟨S1, .i32⟩
  | .hbm, ⟨19, _⟩ => ⟨S_, .i32⟩
  | .hbm, ⟨20, _⟩ => ⟨S512x2x1, .i32⟩
  | .hbm, ⟨21, _⟩ => ⟨S512x2x1, .i1⟩
  | .hbm, ⟨22, _⟩ => ⟨S1x1x1, .i32⟩
  | .hbm, ⟨23, _⟩ => ⟨S512x2x1, .i32⟩
  | .hbm, ⟨24, _⟩ => ⟨S512x2x1, .i1⟩
  | .hbm, ⟨25, _⟩ => ⟨S512x2x1, .i1⟩
  | .hbm, ⟨26, _⟩ => ⟨S_, .i1⟩
  | .hbm, ⟨27, _⟩ => ⟨S512x2, .i1⟩
  | .hbm, ⟨28, _⟩ => ⟨S512x2, .f32⟩
  | .hbm, ⟨29, _⟩ => ⟨S_, .f32⟩
  | .hbm, ⟨30, _⟩ => ⟨S512x2, .f32⟩
  | .hbm, ⟨31, _⟩ => ⟨S512x2, .f32⟩
  | .hbm, ⟨32, _⟩ => ⟨S_, .f32⟩
  | .hbm, ⟨33, _⟩ => ⟨S512, .f32⟩
  | .hbm, ⟨34, _⟩ => ⟨S512x1, .f32⟩
  | .hbm, ⟨35, _⟩ => ⟨S512x2, .f32⟩
  | .hbm, ⟨36, _⟩ => ⟨S512x2, .f32⟩
  | .hbm, ⟨37, _⟩ => ⟨S512x2, .f32⟩
  | .hbm, ⟨38, _⟩ => ⟨S_, .f32⟩
  | .hbm, ⟨39, _⟩ => ⟨S512, .f32⟩
  | .hbm, ⟨40, _⟩ => ⟨S512x1, .f32⟩
  | .hbm, ⟨41, _⟩ => ⟨S512x2, .f32⟩
  | .hbm, ⟨42, _⟩ => ⟨S512x2, .f32⟩
  | .hbm, ⟨43, _⟩ => ⟨S64x1024x512, .f32⟩
  | .hbm, ⟨44, _⟩ => ⟨S64x512x1024, .f32⟩
  | .hbm, ⟨45, _⟩ => ⟨S_, .f32⟩
  | .hbm, ⟨46, _⟩ => ⟨S64x512x1024, .f32⟩
  | .hbm, ⟨47, _⟩ => ⟨S64x512x1024, .f32⟩
  | .hbm, ⟨48, _⟩ => ⟨S64x512x512, .f32⟩
  | .hbm, ⟨49, _⟩ => ⟨S512x2x1, .i32⟩
  | .hbm, ⟨50, _⟩ => ⟨S64, .i32⟩
  | .hbm, ⟨51, _⟩ => ⟨S1x1x64, .i32⟩
  | .hbm, ⟨52, _⟩ => ⟨S512x2x64, .i32⟩
  | .hbm, ⟨53, _⟩ => ⟨S512x2x64, .i32⟩
  | .hbm, ⟨54, _⟩ => ⟨S512x2x64, .i1⟩
  | .hbm, ⟨55, _⟩ => ⟨S512x2x1, .f32⟩
  | .hbm, ⟨56, _⟩ => ⟨S_, .f32⟩
  | .hbm, ⟨57, _⟩ => ⟨S_, .f32⟩
  | .hbm, ⟨58, _⟩ => ⟨S512x2x64, .f32⟩
  | .hbm, ⟨59, _⟩ => ⟨S512x2x64, .f32⟩
  | .hbm, ⟨60, _⟩ => ⟨S512x2x64, .f32⟩
  | .hbm, ⟨61, _⟩ => ⟨S_, .f32⟩
  | .hbm, ⟨62, _⟩ => ⟨S512x64, .f32⟩
  | .hbm, ⟨63, _⟩ => ⟨S64x512, .f32⟩
  | .hbm, ⟨64, _⟩ => ⟨S64x512x1, .f32⟩
  | .hbm, ⟨65, _⟩ => ⟨S64x512x512, .f32⟩
  | .hbm, ⟨66, _⟩ => ⟨S64x512x512, .f32⟩
  | .hbm, ⟨67, _⟩ => ⟨S_, .f32⟩
  | .hbm, ⟨68, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_2 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v26 : Ref sig .tc := ⟨.hbm, 60, rfl⟩
abbrev main_cst_3 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_4 : Ref sig .tc := ⟨.hbm, 67, rfl⟩
abbrev main_v32 : Ref sig .tc := ⟨.hbm, 68, rfl⟩

abbrev nD : Nat := 1
abbrev τ : Topo := Topo.v7x

variable {F : FTy → Type} [FloatOps F]
-- ==== Proof.IProg.lean ====
/-
# The kernel's body as a short program of loops

The printed body names each of its some six hundred operations. Here it is written as loops over the thirty-one
peers of a device (and over the row blocks of a chunk), first with the offsets as the words the body computes
(`bodyW`, equal to the printed body by unfolding), then with the offsets in closed form (`body`).
-/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.KernelIdealRun

open Cert.KernelIdeal Cert.KernelIdeal.Gen
open Idealize.ShloMosaic
open Idealize.ShloMosaic.TcCoe
open Idealize.SL.Sem

variable {F : FTy → Type} [FloatOps F] [Named F]

/-- A program of the firing TensorCore. -/
abbrev PP (F : FTy → Type) (α : Type) : Type _ := Prog (TpuEff nD τ sig (Elt F) Λ₀ .tc) α

/-- Run `f` on each element of a list, then go on with `k`. -/
def seqK {α β : Type} (l : List α) (f : α → PP F PUnit) (k : PP F β) : PP F β :=
  match l with
  | [] => k
  | a :: l => f a >>= fun _ => seqK l f k

theorem seqK_append {α β : Type} (l l' : List α) (f : α → PP F PUnit) (k : PP F β) :
    seqK (l ++ l') f k = seqK l f (seqK l' f k) := by
  induction l with
  | nil => rfl
  | cons a l ih => simp only [List.cons_append, seqK, ih]

theorem seqK_bind {α β γ : Type} (l : List α) (f : α → PP F PUnit) (k : PP F β) (g : β → PP F γ) :
    (seqK l f k >>= g) = seqK l f (k >>= g) := by
  induction l with
  | nil => rfl
  | cons a l ih => simp only [seqK, bind_assoc, ih]

/-! ## The buffers -/

abbrev xB : Memref sig .tc .vmem S16x512 .f32 := Memref.whole cc0_stg0_0
abbrev wB : Memref sig .tc .vmem S512x2 .f32 := Memref.whole cc0_stg1_0
abbrev w1B : Memref sig .tc .vmem S2x512x1024 .f32 := Memref.whole cc0_stg2_0
abbrev w2B : Memref sig .tc .vmem S2x1024x512 .f32 := Memref.whole cc0_stg3_0
abbrev oB : Memref sig .tc .vmem S16x512 .f32 := Memref.whole cc0_stg4_0
abbrev xbB : Memref sig .tc .vmem S16x512 .bf16 := Memref.whole cc0_scratch0
abbrev rtB : Memref sig .tc .vmem S2x512 .f32 := Memref.whole cc0_scratch1
abbrev xgB : Memref sig .tc .vmem S32x16x512 .bf16 := Memref.whole cc0_scratch2
abbrev rgB : Memref sig .tc .vmem S32x2x512 .f32 := Memref.whole cc0_scratch3
abbrev sgB : Memref sig .tc .vmem S32x16x128 .f32 := Memref.whole cc0_scratch4
abbrev ssB : Memref sig .tc .vmem S16x128 .f32 := Memref.whole cc0_scratch5
abbrev yB : Memref sig .tc .vmem S512x512 .bf16 := Memref.whole cc0_scratch6
abbrev cbB : Memref sig .tc .vmem S32x16x512 .bf16 := Memref.whole cc0_scratch7

theorem whole_xb : xbB.IsWhole := Memref.isWhole_whole _
theorem whole_xg : xgB.IsWhole := Memref.isWhole_whole _
theorem whole_y : yB.IsWhole := Memref.isWhole_whole _
theorem whole_cb : cbB.IsWhole := Memref.isWhole_whole _

/-- One semaphore of an array of thirty-two, at an offset. -/
abbrev semOf (A : DmaSems sig S32) (o : Fin 1 → Nat) (h : ∀ a, o a + S1.size a ≤ S32.size a) : DmaSem sig :=
  ((A.slice (Rect.unit (s := S32) o S1.size h)).squeeze S_ squeezes_S1_S_).sem

/-- One slot of each landing buffer, at an offset. -/
abbrev xgAt (o : Fin 3 → Nat) (h : ∀ a, o a + S1x16x512.size a ≤ S32x16x512.size a) : Memref sig .tc .vmem S16x512 .bf16 :=
  (xgB.slice (Rect.unit (s := S32x16x512) o S1x16x512.size h) (fun _ => rfl)).squeeze S16x512 squeezes_S1x16x512_S16x512
abbrev rgAt (o : Fin 3 → Nat) (h : ∀ a, o a + S1x2x512.size a ≤ S32x2x512.size a) : Memref sig .tc .vmem S2x512 .f32 :=
  (rgB.slice (Rect.unit (s := S32x2x512) o S1x2x512.size h) (fun _ => rfl)).squeeze S2x512 squeezes_S1x2x512_S2x512
abbrev sgAt (o : Fin 3 → Nat) (h : ∀ a, o a + S1x16x128.size a ≤ S32x16x128.size a) : Memref sig .tc .vmem S16x128 .f32 :=
  (sgB.slice (Rect.unit (s := S32x16x128) o S1x16x128.size h) (fun _ => rfl)).squeeze S16x128 squeezes_S1x16x128_S16x128
abbrev cbAt (o : Fin 3 → Nat) (h : ∀ a, o a + S1x16x512.size a ≤ S32x16x512.size a) : Memref sig .tc .vmem S16x512 .bf16 :=
  (cbB.slice (Rect.unit (s := S32x16x512) o S1x16x512.size h) (fun _ => rfl)).squeeze S16x512 squeezes_S1x16x512_S16x512
/-- Sixteen rows of the product buffer. -/
abbrev yAt (o : Fin 2 → Nat) (h : ∀ a, o a + S16x512.size a ≤ S512x512.size a) : Memref sig .tc .vmem S16x512 .bf16 :=
  yB.slice (Rect.unit (s := S512x512) o S16x512.size h) (fun _ => rfl)

/-! ## The operations -/

/-- A transfer of `src` into `dst` on device `d`. -/
def sendOp {s : Shape} {e : EltTy} (src dst : Memref sig .tc .vmem s e) (sS sR : DmaSem sig) (d : Dev nD)
    (h : src.view.WordExact) (h' : dst.view.WordExact) : PP F PUnit :=
  Prog.lift (.enqueueDma src (.remote (Dev.tc d) dst (.dma sS)) (.dma sR) h h' ⟨⟨rfl, Or.inl rfl⟩, trivial⟩)

/-- A transfer within the device. -/
def hereOp {s : Shape} {e : EltTy} (src dst : Memref sig .tc .vmem s e) (sR : DmaSem sig)
    (h : src.view.WordExact) (h' : dst.view.WordExact) : PP F PUnit :=
  Prog.lift (.enqueueDma src (.here dst) (.dma sR) h h' ⟨Or.inl rfl, trivial⟩)

/-- A wait for the amount a transfer into the buffer `b` at a shape and an element type pays. -/
def waitOp (s : DmaSem sig) (b : Ref sig .tc) (sh : Shape) (e : EltTy) (h : b.HasMemref sh e) : PP F PUnit :=
  Prog.lift (.waitDma s b sh e (.inr h))

/-- A signal of one to the barrier semaphore of device `d`. -/
def sigOp (d : Dev nD) : PP F PUnit := semSignalWord d (sig.barrier 0 rfl) 1#32

theorem sendOp_congr {s : Shape} {e : EltTy} {src src' dst dst' : Memref sig .tc .vmem s e} {sS sS' sR sR' : DmaSem sig}
    {d d' : Dev nD} {h : src.view.WordExact} {h' : dst.view.WordExact} {g : src'.view.WordExact} {g' : dst'.view.WordExact}
    (e₁ : src = src') (e₂ : dst = dst') (e₃ : sS = sS') (e₄ : sR = sR') (e₅ : d = d') :
    (sendOp src dst sS sR d h h' : PP F PUnit) = sendOp src' dst' sS' sR' d' g g' := by
  subst e₁ e₂ e₃ e₄ e₅; rfl

theorem hereOp_congr {s : Shape} {e : EltTy} {src src' dst dst' : Memref sig .tc .vmem s e} {sR sR' : DmaSem sig}
    {h : src.view.WordExact} {h' : dst.view.WordExact} {g : src'.view.WordExact} {g' : dst'.view.WordExact}
    (e₁ : src = src') (e₂ : dst = dst') (e₄ : sR = sR') :
    (hereOp src dst sR h h' : PP F PUnit) = hereOp src' dst' sR' g g' := by
  subst e₁ e₂ e₄; rfl

/-! ## The body with the offsets as words -/

/-- The word of the `i`-th peer's distance, and the peer as the body computes it. -/
abbrev wd (i : Fin 31) : BitVec 32 := BitVec.ofNat 32 (1 + i.val)

def meW (c : Dev nD) : BitVec 32 := Scalar.remsi (Scalar.divsi (Dev.word c) 1#32) 32#32

def peerW (c : Dev nD) (w : BitVec 32) : Nat :=
  let v4 : BitVec 32 := Scalar.addi (meW c) w
  let v5 : BitVec 1 := Scalar.cmpi .eq 32#32 0#32
  let v6 : BitVec 32 := Scalar.select v5 1#32 32#32
  let v7 : BitVec 32 := Scalar.remsi v4 v6
  let v9 : BitVec 1 := Scalar.cmpi .slt v7 0#32
  let v10 : BitVec 1 := Scalar.cmpi .slt v6 0#32
  let v11 : BitVec 1 := Scalar.xori v9 v10
  let v8 : BitVec 1 := Scalar.cmpi .ne v7 0#32
  let v12 : BitVec 1 := Scalar.andi v11 v8
  let v13 : BitVec 32 := Scalar.addi v7 v6
  let v14 : BitVec 32 := Scalar.select v12 v13 v7
  (Scalar.addi 0#32 (Scalar.muli v14 1#32)).toNat

theorem peerW_lt : ∀ (c : Dev nD) (i : Fin 31), peerW c (wd i) < nD := by decide +kernel

def condW (c : Dev nD) (d : Fin 32) : BitVec 1 :=
  let v : BitVec 1 := Scalar.cmpi .ne (meW c) (BitVec.ofNat 32 d.val)
  Scalar.cmpi .ne (Scalar.extui v : BitVec 32) 0#32

def toW (d : Fin 32) : Nat := (Scalar.addi 0#32 (Scalar.muli (BitVec.ofNat 32 d.val) 1#32)).toNat

theorem toW_lt : ∀ d : Fin 32, toW d < nD := by decide +kernel

theorem inb_sem (d : Fin 32) : ∀ a, (![d.val] : Fin 1 → Nat) a + S1.size a ≤ S32.size a := by
  revert d; decide +kernel
theorem inb_xg (d : Fin 32) : ∀ a, (![d.val, 0, 0] : Fin 3 → Nat) a + S1x16x512.size a ≤ S32x16x512.size a := by
  revert d; decide +kernel
theorem inb_rg (d : Fin 32) : ∀ a, (![d.val, 0, 0] : Fin 3 → Nat) a + S1x2x512.size a ≤ S32x2x512.size a := by
  revert d; decide +kernel
theorem inb_sg (d : Fin 32) : ∀ a, (![d.val, 0, 0] : Fin 3 → Nat) a + S1x16x128.size a ≤ S32x16x128.size a := by
  revert d; decide +kernel
theorem inb_y (d : Fin 32) : ∀ a, (![16 * d.val, 0] : Fin 2 → Nat) a + S16x512.size a ≤ S512x512.size a := by
  revert d; decide +kernel
theorem words_xg (d : Fin 32) : (Rect.unit (s := S32x16x512) ![d.val, 0, 0] S1x16x512.size (inb_xg d)).WholeWords (EltTy.packing .bf16) := by
  revert d; decide +kernel
theorem words_y (d : Fin 32) : (Rect.unit (s := S512x512) ![16 * d.val, 0] S16x512.size (inb_y d)).WholeWords (EltTy.packing .bf16) := by
  revert d; decide +kernel

section words
variable (c : Dev nD)

def sigW (i : Fin 31) : PP F PUnit := sigOp ⟨peerW c (wd i), peerW_lt c i⟩

def sendRW (i : Fin 31) : PP F PUnit :=
  sendOp rtB (rgAt (k0_off3 c) (k0_off3_inb c)) (semOf cc0_scratch10 (k0_off1 c (wd i)) (k0_off1_inb c i))
    (semOf cc0_scratch11 (k0_off2 c) (k0_off2_inb c)) ⟨peerW c (wd i), peerW_lt c i⟩
    (Memref.isWhole_whole _).wordExact ((View.wordExact_bits rfl).reshape _ _)

def sendXW (i : Fin 31) : PP F PUnit :=
  sendOp xbB (xgAt (k0_off4 c) (k0_off4_inb c)) (semOf cc0_scratch8 (k0_off1 c (wd i)) (k0_off1_inb c i))
    (semOf cc0_scratch9 (k0_off2 c) (k0_off2_inb c)) ⟨peerW c (wd i), peerW_lt c i⟩
    whole_xb.wordExact ((whole_xg.wordExact_slice rfl _ (k0_off4_wordsbf16 c)).reshape _ _)

def sendSW (i : Fin 31) : PP F PUnit :=
  sendOp ssB (sgAt (k0_off7 c) (k0_off7_inb c)) (semOf cc0_scratch12 (k0_off1 c (wd i)) (k0_off1_inb c i))
    (semOf cc0_scratch13 (k0_off2 c) (k0_off2_inb c)) ⟨peerW c (wd i), peerW_lt c i⟩
    (Memref.isWhole_whole _).wordExact ((View.wordExact_bits rfl).reshape _ _)

def hereXW : PP F PUnit :=
  hereOp xbB (xgAt (k0_off4 c) (k0_off4_inb c)) (semOf cc0_scratch9 (k0_off2 c) (k0_off2_inb c))
    whole_xb.wordExact ((whole_xg.wordExact_slice rfl _ (k0_off4_wordsbf16 c)).reshape _ _)

theorem hasM_xg : (cc0_scratch2 : Ref sig .tc).HasMemref S16x512 .bf16 :=
  (xgAt ![0, 0, 0] (inb_xg 0)).hasMemref
theorem hasM_rg : (cc0_scratch3 : Ref sig .tc).HasMemref S2x512 .f32 :=
  (rgAt ![0, 0, 0] (inb_rg 0)).hasMemref
theorem hasM_sg : (cc0_scratch4 : Ref sig .tc).HasMemref S16x128 .f32 :=
  (sgAt ![0, 0, 0] (inb_sg 0)).hasMemref
theorem hasM_cb : (cc0_scratch7 : Ref sig .tc).HasMemref S16x512 .bf16 :=
  (cbAt ![0, 0, 0] (inb_xg 0)).hasMemref
theorem hasM_xb : (cc0_scratch0 : Ref sig .tc).HasMemref S16x512 .bf16 := xbB.hasMemref
theorem hasM_rt : (cc0_scratch1 : Ref sig .tc).HasMemref S2x512 .f32 := rtB.hasMemref
theorem hasM_ss : (cc0_scratch5 : Ref sig .tc).HasMemref S16x128 .f32 := ssB.hasMemref
theorem hasM_y : (cc0_scratch6 : Ref sig .tc).HasMemref S16x512 .bf16 :=
  (yAt ![0, 0] (inb_y 0)).hasMemref

abbrev peerSem (A : DmaSems sig S32) (i : Fin 31) : DmaSem sig := semOf A (k0_off1 c (wd i)) (k0_off1_inb c i)

def waitRW (i : Fin 31) : PP F PUnit := waitOp (peerSem c cc0_scratch11 i) cc0_scratch3 S2x512 .f32 hasM_rg
def waitSW (i : Fin 31) : PP F PUnit := waitOp (peerSem c cc0_scratch13 i) cc0_scratch4 S16x128 .f32 hasM_sg
def waitXW (d : Fin 32) : PP F PUnit := waitOp (semOf cc0_scratch9 ![d.val] (inb_sem d)) cc0_scratch2 S16x512 .bf16 hasM_xg
def waitCW (i : Fin 31) : PP F PUnit := waitOp (peerSem c cc0_scratch15 i) cc0_scratch7 S16x512 .bf16 hasM_cb

/-- The four waits for the device's own transfers to a peer: three, and the last. -/
def drain3W {α : Type} (i : Fin 31) (k : PP F α) : PP F α :=
  waitOp (peerSem c cc0_scratch10 i) cc0_scratch1 S2x512 .f32 hasM_rt >>= fun _ =>
  waitOp (peerSem c cc0_scratch8 i) cc0_scratch0 S16x512 .bf16 hasM_xb >>= fun _ =>
  waitOp (peerSem c cc0_scratch12 i) cc0_scratch5 S16x128 .f32 hasM_ss >>= fun _ => k
def drain1W (i : Fin 31) : PP F PUnit := waitOp (peerSem c cc0_scratch14 i) cc0_scratch6 S16x512 .bf16 hasM_y
def drainW (i : Fin 31) : PP F PUnit := drain3W c i (drain1W c i)

theorem inb_cb (c : Dev nD) : ∀ a, (![(meW c).toNat, 0, 0] : Fin 3 → Nat) a + S1x16x512.size a ≤ S32x16x512.size a := by
  revert c; decide +kernel
theorem inb_cs (c : Dev nD) : ∀ a, (![(meW c).toNat] : Fin 1 → Nat) a + S1.size a ≤ S32.size a := by
  revert c; decide +kernel
theorem words_cb (c : Dev nD) : (Rect.unit (s := S32x16x512) ![(meW c).toNat, 0, 0] S1x16x512.size (inb_cb c)).WholeWords (EltTy.packing .bf16) := by
  revert c; decide +kernel

/-- The transfer of the sixteen product rows of device `d`, to `d`, unless `d` is the device itself; then `k`. -/
def sendYK {α : Type} (d : Fin 32) (k : PP F α) : PP F α :=
  if h : condW c d = 1#1 then
    (sendOp (yAt ![16 * d.val, 0] (inb_y d)) (cbAt ![(meW c).toNat, 0, 0] (inb_cb c))
      (semOf cc0_scratch14 ![d.val] (inb_sem d)) (semOf cc0_scratch15 ![(meW c).toNat] (inb_cs c))
      ⟨toW d, toW_lt d⟩ (whole_y.wordExact_slice rfl _ (words_y d))
      ((whole_cb.wordExact_slice rfl _ (words_cb c)).reshape _ _)) >>= fun _ => k
  else k

def seqYK {α : Type} (l : List (Fin 32)) (k : PP F α) : PP F α :=
  match l with
  | [] => k
  | d :: l => sendYK c d (seqYK l k)

end words

abbrev all31 : List (Fin 31) := [0, 1, 2, 3, 4, 5, 6, 7, 8, 9, 10, 11, 12, 13, 14, 15, 16, 17, 18, 19, 20, 21, 22, 23, 24,
  25, 26, 27, 28, 29, 30]

/-- The sizes' rectangles from an offset: the whole of each buffer, and the parts the body reads and writes. -/
abbrev rX : Rect S16x512 := Rect.unit (s := S16x512) ![0, 0] S16x512.size inb_S16x512_S16x512_0_0
abbrev rW : Rect S512x2 := Rect.unit (s := S512x2) ![0, 0] S512x2.size inb_S512x2_S512x2_0_0
abbrev rRT : Rect S2x512 := Rect.unit (s := S2x512) ![0, 0] S2x512.size inb_S2x512_S2x512_0_0
abbrev rRG : Rect S32x2x512 := Rect.unit (s := S32x2x512) ![0, 0, 0] S32x2x512.size inb_S32x2x512_S32x2x512_0_0_0
abbrev rSS4 : Rect S16x128 := Rect.unit (s := S16x128) ![0, 0] S16x4.size inb_S16x128_S16x4_0_0
abbrev rSS : Rect S16x128 := Rect.unit (s := S16x128) ![0, 0] S16x128.size inb_S16x128_S16x128_0_0
abbrev rSG : Rect S32x16x128 := Rect.unit (s := S32x16x128) ![0, 0, 0] S32x16x128.size inb_S32x16x128_S32x16x128_0_0_0
abbrev rCB : Rect S32x16x512 := Rect.unit (s := S32x16x512) ![0, 0, 0] S32x16x512.size inb_S32x16x512_S32x16x512_0_0_0

theorem inb_w1 (e : Fin 2) : ∀ a, (![e.val, 0, 0] : Fin 3 → Nat) a + S1x512x1024.size a ≤ S2x512x1024.size a := by
  revert e; decide +kernel
theorem inb_w2 (e : Fin 2) : ∀ a, (![e.val, 0, 0] : Fin 3 → Nat) a + S1x1024x512.size a ≤ S2x1024x512.size a := by
  revert e; decide +kernel
theorem inb_xk (k : Fin 4) : ∀ a, (![8 * k.val, 0, 0] : Fin 3 → Nat) a + S8x16x512.size a ≤ S32x16x512.size a := by
  revert k; decide +kernel
theorem inb_yk (k : Fin 4) : ∀ a, (![128 * k.val, 0] : Fin 2 → Nat) a + S128x512.size a ≤ S512x512.size a := by
  revert k; decide +kernel
theorem packed_yk (k : Fin 4) : (Rect.unit (s := S512x512) ![128 * k.val, 0] S128x512.size (inb_yk k)).PackedRows (EltTy.packing .bf16) := by
  revert k; decide +kernel

abbrev rW1 (e : Fin 2) : Rect S2x512x1024 := Rect.unit (s := S2x512x1024) ![e.val, 0, 0] S1x512x1024.size (inb_w1 e)
abbrev rW2 (e : Fin 2) : Rect S2x1024x512 := Rect.unit (s := S2x1024x512) ![e.val, 0, 0] S1x1024x512.size (inb_w2 e)
abbrev rXK (k : Fin 4) : Rect S32x16x512 := Rect.unit (s := S32x16x512) ![8 * k.val, 0, 0] S8x16x512.size (inb_xk k)
abbrev rYK (k : Fin 4) : Rect S512x512 := Rect.unit (s := S512x512) ![128 * k.val, 0] S128x512.size (inb_yk k)

/-- The first part: the handshake, the casts, the sends of both, and the own slots. -/
def headW {α : Type} (c : Dev nD) (k : PP F α) : PP F α :=
  seqK all31 (sigW c) <|
  semWaitWord (sig.barrier 0 rfl) 31#32 >>= fun _ =>
  Prog.lift (.load xB rX.toLoadRect (View.loadsAt_vmem h_S16x512)) >>= fun v407 =>
  Prog.lift (.load xbB rX.toLoadRect (View.loadsAt_vmem h_S16x512)) >>= fun _ =>
  Prog.lift (.store xbB rX (k0_pay1 v407) Finset.univ (View.stores_vmem h_S16x512 (whole_xb.storeExact_slice rfl _ packedbf16_S16x512_S16x512_0_0) (fun _ => rfl)) (.inl rfl)) >>= fun _ =>
  Prog.lift (.load wB rW.toLoadRect (View.loadsAt_vmem h_S512x2)) >>= fun v413 =>
  Prog.lift (.load rtB rRT.toLoadRect (View.loadsAt_vmem h_S2x512)) >>= fun _ =>
  Prog.lift (.store rtB rRT (k0_pay2 v413) Finset.univ (View.stores_vmem_bits_univ h_S2x512 rfl) (.inl rfl)) >>= fun _ =>
  seqK all31 (fun i => sendRW c i >>= fun _ => sendXW c i) <|
  hereXW c >>= fun _ =>
  Prog.lift (.load rtB rRT.toLoadRect (View.loadsAt_vmem h_S2x512)) >>= fun v1260 =>
  Prog.lift (.load rgB (Rect.unit (s := S32x2x512) (k0_off5 c) S1x2x512.size (k0_off5_inb c)).toLoadRect (View.loadsAt_vmem h_S1x2x512)) >>= fun _ =>
  Prog.lift (.store rgB (Rect.unit (s := S32x2x512) (k0_off5 c) S1x2x512.size (k0_off5_inb c)) (k0_pay3 v1260) Finset.univ (View.stores_vmem_bits_univ h_S1x2x512 rfl) (.inl rfl)) >>= fun _ =>
  seqK all31 (waitRW c) <|
  Prog.lift (.load rgB rRG.toLoadRect (View.loadsAt_vmem h_S32x2x512)) >>= fun v1792 =>
  Prog.lift (.load xB rX.toLoadRect (View.loadsAt_vmem h_S16x512)) >>= fun v1794 =>
  Prog.lift (.load ssB rSS4.toLoadRect (View.loadsAt_vmem h_S16x4)) >>= fun _ =>
  Prog.lift (.store ssB rSS4 (k0_pay4 v1792 v1794) Finset.univ (View.stores_vmem_bits_univ h_S16x4 rfl) (.inl rfl)) >>= fun _ =>
  seqK [0, 1, 2, 3, 4, 5, 6, 7, 8, 9, 10, 11, 12, 13, 14] (sendSW c) k

/-- The rest of the score exchange. -/
def midW {α : Type} (c : Dev nD) (k : PP F α) : PP F α :=
  seqK [15, 16, 17, 18, 19, 20, 21, 22, 23, 24, 25, 26, 27, 28, 29, 30] (sendSW c) <|
  Prog.lift (.load ssB rSS.toLoadRect (View.loadsAt_vmem h_S16x128)) >>= fun v2422 =>
  Prog.lift (.load sgB (Rect.unit (s := S32x16x128) (k0_off8 c) S1x16x128.size (k0_off8_inb c)).toLoadRect (View.loadsAt_vmem h_S1x16x128)) >>= fun _ =>
  Prog.lift (.store sgB (Rect.unit (s := S32x16x128) (k0_off8 c) S1x16x128.size (k0_off8_inb c)) (k0_pay5 v2422) Finset.univ (View.stores_vmem_bits_univ h_S1x16x128 rfl) (.inl rfl)) >>= fun _ =>
  seqK all31 (waitSW c) k

/-- The loads of the scores and of the device's two experts' weights. -/
def loadsW {α : Type} (c : Dev nD) (k : Vec F S32x16x128 .f32 → Vec F S1x512x1024 .f32 → Vec F S1x512x1024 .f32 → Vec F S1x1024x512 .f32 →
    Vec F S1x1024x512 .f32 → PP F α) : PP F α :=
  Prog.lift (.load sgB rSG.toLoadRect (View.loadsAt_vmem h_S32x16x128)) >>= fun v2954 =>
  Prog.lift (.load w1B (rW1 0).toLoadRect (View.loadsAt_vmem h_S1x512x1024)) >>= fun v2986 =>
  Prog.lift (.load w1B (rW1 1).toLoadRect (View.loadsAt_vmem h_S1x512x1024)) >>= fun v2989 =>
  Prog.lift (.load w2B (rW2 0).toLoadRect (View.loadsAt_vmem h_S1x1024x512)) >>= fun v2992 =>
  Prog.lift (.load w2B (rW2 1).toLoadRect (View.loadsAt_vmem h_S1x1024x512)) >>= fun v2995 =>
  k v2954 v2986 v2989 v2992 v2995

/-- One chunk's rows of the product, from the scores, the weights and the eight slots of rows. -/
def payK (c : Dev nD) (k : Fin 4) (v2954 : Vec F S32x16x128 .f32) (v2986 v2989 : Vec F S1x512x1024 .f32)
    (v2992 v2995 : Vec F S1x1024x512 .f32) (v : Vec F S8x16x512 .bf16) : FVec F S128x512 .bf16 :=
  match k with
  | 0 => k0_pay16 (k0_pay10 (meW c) v2954) (k0_pay11 (meW c) v2954) (k0_pay12 v2986) (k0_pay13 v2989) (k0_pay14 v2992) (k0_pay15 v2995) v
  | 1 => k0_pay17 (k0_pay10 (meW c) v2954) (k0_pay11 (meW c) v2954) (k0_pay12 v2986) (k0_pay13 v2989) (k0_pay14 v2992) (k0_pay15 v2995) v
  | 2 => k0_pay22 (k0_pay19 (k0_pay13 v2989) (k0_pay15 v2995) v) (k0_pay20 (k0_pay10 (meW c) v2954) (k0_pay12 v2986) (k0_pay14 v2992) v) (k0_pay21 (k0_pay11 (meW c) v2954))
  | 3 => k0_pay23 (k0_pay10 (meW c) v2954) (k0_pay11 (meW c) v2954) (k0_pay12 v2986) (k0_pay13 v2989) (k0_pay14 v2992) (k0_pay15 v2995) v

/-- One chunk after its eight slots have arrived: its product rows computed and stored. -/
def chunkOp (f : Vec F S8x16x512 .bf16 → FVec F S128x512 .bf16) (k : Fin 4) : PP F PUnit :=
  Prog.lift (.load xgB (rXK k).toLoadRect (View.loadsAt_vmem h_S8x16x512)) >>= fun v =>
  Prog.lift (.load yB (rYK k).toLoadRect (View.loadsAt_vmem h_S128x512)) >>= fun _ =>
  Prog.lift (.store yB (rYK k) (f v) Finset.univ (View.stores_vmem h_S128x512 (whole_y.storeExact_slice rfl _ (packed_yk k)) (fun _ => rfl)) (.inl rfl))

/-- The own slot of the last exchange, its arrivals, the sum, and the drains. -/
def ownCW (c : Dev nD) : PP F PUnit :=
  Prog.lift (.load yB (Rect.unit (s := S512x512) (k0_off74 c) S16x512.size (k0_off74_inb c)).toLoadRect (View.loadsAt_vmem h_S16x512)) >>= fun v3316 =>
  Prog.lift (.load cbB (Rect.unit (s := S32x16x512) (k0_off75 c) S1x16x512.size (k0_off75_inb c)).toLoadRect (View.loadsAt_vmem h_S1x16x512)) >>= fun _ =>
  Prog.lift (.store cbB (Rect.unit (s := S32x16x512) (k0_off75 c) S1x16x512.size (k0_off75_inb c)) (k0_pay24 v3316) Finset.univ (View.stores_vmem h_S1x16x512 (whole_cb.storeExact_slice rfl _ (k0_off75_packedbf16 c)) (fun _ => rfl)) (.inl rfl))

def tailW {α : Type} (c : Dev nD) (k : PP F α) : PP F α :=
  seqK all31 (waitCW c) <|
  Prog.lift (.load cbB rCB.toLoadRect (View.loadsAt_vmem h_S32x16x512)) >>= fun v3910 =>
  Prog.lift (.load oB rX.toLoadRect (View.loadsAt_vmem h_S16x512)) >>= fun _ =>
  Prog.lift (.store oB rX (k0_pay25 v3910) Finset.univ (View.stores_vmem_bits_univ h_S16x512 rfl) (.inl rfl)) >>= fun _ =>
  seqK [0, 1, 2, 3, 4, 5, 6, 7] (drainW c) <| drain3W c 8 k

def endW (c : Dev nD) : PP F PUnit :=
  drain1W c 8 >>= fun _ => seqK [9, 10, 11, 12, 13, 14, 15, 16, 17, 18, 19, 20, 21, 22, 23, 24, 25, 26, 27, 28, 29, 30] (drainW c) (pure ⟨⟩)

/-- The eight blocks of a chunk. -/
abbrev blk (k : Fin 4) : List (Fin 32) :=
  match k with
  | 0 => [0, 1, 2, 3, 4, 5, 6, 7]
  | 1 => [8, 9, 10, 11, 12, 13, 14, 15]
  | 2 => [16, 17, 18, 19, 20, 21, 22, 23]
  | 3 => [24, 25, 26, 27, 28, 29, 30, 31]

/-- The chunks: each one's eight slots awaited, its rows computed, and sent to their owners. -/
def chunksW {α : Type} (c : Dev nD) (f : Fin 4 → Vec F S8x16x512 .bf16 → FVec F S128x512 .bf16) (l : List (Fin 4)) (z : PP F α) : PP F α :=
  match l with
  | [] => z
  | k :: l => seqK (blk k) waitXW <| chunkOp (f k) k >>= fun _ => seqYK c (blk k) <| chunksW c f l z

section parts
variable (c : Dev nD) (w w' w'' : BitVec 32) (b : BitVec 1)
variable (c0 c1 : FVec F S512x1 .f32) (u0 u1 : FVec F S512x1024 .bf16) (d0 d1 : FVec F S1024x512 .bf16) (p0 p1 p2 : FVec F S128x512 .f32)

theorem part87 : (k0_part87_skel xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 c w w' : PP F PUnit) = seqYK c (blk 0) (waitXW 8 >>= fun _ => pure ⟨⟩) := by
  unfold k0_part87_skel
  rfl

theorem part89 : (k0_part89_skel xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 c w c0 c1 u0 u1 d0 d1 : PP F _) =
    chunkOp (fun v => k0_pay17 c0 c1 u0 u1 d0 d1 v) 1 >>= fun _ => seqYK c [8, 9, 10, 11] (pure (Scalar.cmpi .ne w 12#32)) := by
  unfold k0_part89_skel
  rfl

theorem part90 : (k0_part90_skel xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 c w b : PP F _) =
    seqYK c [12, 13, 14, 15] (seqK [16, 17, 18, 19] waitXW (pure ⟨⟩)) := by
  unfold k0_part90_skel
  rfl

theorem part92 : (k0_part92_skel xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 c w p0 p1 p2 : PP F _) =
    Prog.lift (.load yB (rYK 2).toLoadRect (View.loadsAt_vmem h_S128x512)) >>= fun _ =>
    Prog.lift (.store yB (rYK 2) (k0_pay22 p0 p1 p2) Finset.univ (View.stores_vmem h_S128x512 (whole_y.storeExact_slice rfl _ (packed_yk 2)) (fun _ => rfl)) (.inl rfl)) >>= fun _ =>
    seqYK c (blk 2) (pure ⟨⟩) := by
  unfold k0_part92_skel
  rfl

theorem part94 : (k0_part94_skel xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 c w c0 c1 u0 u1 d0 d1 : PP F _) =
    waitXW 31 >>= fun _ => chunkOp (fun v => k0_pay23 c0 c1 u0 u1 d0 d1 v) 3 >>= fun _ =>
    seqYK c [24, 25] (pure ⟨Scalar.extui (Scalar.cmpi .ne w 26#32), 0#32⟩) := by
  unfold k0_part94_skel
  rfl

theorem part95 : (k0_part95_skel xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 c w w' w'' : PP F _) = seqYK c [26, 27, 28, 29, 30, 31] (ownCW c >>= fun _ => pure ⟨Scalar.select (Scalar.cmpi .eq 32#32 0#32) 1#32 32#32, Scalar.remsi (Scalar.addi w 1#32) (Scalar.select (Scalar.cmpi .eq 32#32 0#32) 1#32 32#32), Scalar.andi (Scalar.xori (Scalar.cmpi .slt (Scalar.remsi (Scalar.addi w 1#32) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (Scalar.addi w 1#32) (Scalar.select (Scalar.cmpi .eq 32#32 0#32) 1#32 32#32)) 0#32)⟩) := by
  unfold k0_part95_skel
  rfl

theorem sendYK_bind {α β : Type} (d : Fin 32) (k : PP F α) (g : α → PP F β) :
    (sendYK c d k >>= g) = sendYK c d (k >>= g) := by
  unfold sendYK
  split
  · rfl
  · rfl

theorem seqYK_bind {α β : Type} (l : List (Fin 32)) (k : PP F α) (g : α → PP F β) :
    (seqYK c l k >>= g) = seqYK c l (k >>= g) := by
  induction l with
  | nil => rfl
  | cons d l ih => simp only [seqYK, sendYK_bind, ih]
end parts

set_option maxRecDepth 65536 in
theorem part140 : ∃ r : Dev nD → BitVec 32, (k0_part140_skel xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 : PP F _) =
    Prog.lift .deviceId >>= fun c => headW c (pure ⟨c, meW c, r c, 1#32⟩) := by
  unfold k0_part140_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton,
    k0_part15_eq_skeleton, k0_part16_eq_skeleton, k0_part17_eq_skeleton, k0_part18_eq_skeleton,
    k0_part19_eq_skeleton, k0_part20_eq_skeleton, k0_part21_eq_skeleton, k0_part22_eq_skeleton,
    k0_part23_eq_skeleton, k0_part24_eq_skeleton, k0_part25_eq_skeleton, k0_part26_eq_skeleton,
    k0_part27_eq_skeleton, k0_part28_eq_skeleton, k0_part29_eq_skeleton, k0_part30_eq_skeleton,
    k0_part31_eq_skeleton, k0_part32_eq_skeleton, k0_part33_eq_skeleton, k0_part34_eq_skeleton,
    k0_part35_eq_skeleton, k0_part36_eq_skeleton, k0_part37_eq_skeleton, k0_part38_eq_skeleton,
    k0_part39_eq_skeleton, k0_part40_eq_skeleton, k0_part41_eq_skeleton, k0_part42_eq_skeleton,
    k0_part43_eq_skeleton, k0_part44_eq_skeleton, k0_part45_eq_skeleton, k0_part46_eq_skeleton,
    k0_part47_eq_skeleton, k0_part48_eq_skeleton, k0_part49_eq_skeleton, k0_part50_eq_skeleton,
    k0_part51_eq_skeleton, k0_part52_eq_skeleton, k0_part53_eq_skeleton, k0_part54_eq_skeleton,
    k0_part55_eq_skeleton, k0_part56_eq_skeleton, k0_part57_eq_skeleton, k0_part58_eq_skeleton,
    k0_part59_eq_skeleton, k0_part60_eq_skeleton]
  dsimp only [k0_part1_skel, k0_part2_skel, k0_part3_skel, k0_part4_skel, k0_part5_skel, k0_part6_skel, k0_part7_skel,
    k0_part8_skel, k0_part9_skel, k0_part10_skel, k0_part11_skel, k0_part12_skel, k0_part13_skel, k0_part14_skel,
    k0_part15_skel, k0_part16_skel, k0_part17_skel, k0_part18_skel, k0_part19_skel, k0_part20_skel,
    k0_part21_skel, k0_part22_skel, k0_part23_skel, k0_part24_skel, k0_part25_skel, k0_part26_skel,
    k0_part27_skel, k0_part28_skel, k0_part29_skel, k0_part30_skel, k0_part31_skel, k0_part32_skel,
    k0_part33_skel, k0_part34_skel, k0_part35_skel, k0_part36_skel, k0_part37_skel, k0_part38_skel,
    k0_part39_skel, k0_part40_skel, k0_part41_skel, k0_part42_skel, k0_part43_skel, k0_part44_skel,
    k0_part45_skel, k0_part46_skel, k0_part47_skel, k0_part48_skel, k0_part49_skel, k0_part50_skel,
    k0_part51_skel, k0_part52_skel, k0_part53_skel, k0_part54_skel, k0_part55_skel, k0_part56_skel,
    k0_part57_skel, k0_part58_skel, k0_part59_skel, k0_part60_skel, Prog.lift, Prog.bind_op, Prog.bind_ret, Prog.pure_eq_ret, semSignalWord, semWaitWord, headW, seqK, sigW, sigOp,
    sendRW, sendXW, hereXW, sendSW, waitRW, waitSW, sendOp, hereOp, waitOp]
  exact ⟨_, rfl⟩

set_option maxRecDepth 65536 in
theorem part141 (c : Dev nD) (w w' : BitVec 32) : (k0_part141_skel xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 c (meW c) w w' : PP F _) =
    midW c (loadsW c fun v2954 v2986 v2989 v2992 v2995 =>
      chunksW c (fun k => payK c k v2954 v2986 v2989 v2992 v2995) [0, 1, 2, 3] (ownCW c >>= fun _ => tailW c (pure ⟨⟩))) := by
  unfold k0_part141_skel
  simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton]
  simp only [part87, part89, part90, part92, part94, part95, seqYK_bind, bind_assoc, pure_bind]
  dsimp only [k0_part61_skel, k0_part62_skel, k0_part63_skel, k0_part64_skel, k0_part65_skel, k0_part66_skel, k0_part67_skel, k0_part68_skel, k0_part69_skel, k0_part70_skel, k0_part71_skel, k0_part72_skel, k0_part73_skel, k0_part74_skel, k0_part75_skel, k0_part76_skel, k0_part77_skel, k0_part78_skel, k0_part79_skel, k0_part80_skel, k0_part81_skel, k0_part82_skel, k0_part83_skel, k0_part84_skel, k0_part85_skel, k0_part86_skel, k0_part88_skel, k0_part91_skel, k0_part93_skel, k0_part96_skel, k0_part97_skel, k0_part98_skel, k0_part99_skel, k0_part100_skel, k0_part101_skel, k0_part102_skel, k0_part103_skel, k0_part104_skel, k0_part105_skel, k0_part106_skel, k0_part107_skel, k0_part108_skel, k0_part109_skel, k0_part110_skel, k0_part111_skel, k0_part112_skel, k0_part113_skel, k0_part114_skel, k0_part115_skel, k0_part116_skel, k0_part117_skel, k0_part118_skel, k0_part119_skel, k0_part120_skel, Prog.lift, Prog.bind_op, Prog.bind_ret, Prog.pure_eq_ret, midW, seqK, seqYK,
    sendSW, waitSW, loadsW, chunksW, chunkOp, waitXW, payK, ownCW, tailW, waitCW, drainW, drain1W, drain3W, sendOp, waitOp, blk, all31]
  rfl

set_option maxRecDepth 65536 in
theorem part142 (c : Dev nD) (w : BitVec 32) : ∃ r : PSigma fun (_ : BitVec 32) => BitVec 32, (k0_part142_skel xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 c w : PP F _) =
    (drain1W c 8 >>= fun _ => seqK [9, 10, 11, 12, 13, 14, 15, 16, 17, 18, 19, 20, 21, 22, 23, 24, 25, 26, 27, 28, 29] (drainW c) (drain3W c 30 (pure r))) := by
  unfold k0_part142_skel
  simp only [k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton]
  dsimp only [k0_part121_skel, k0_part122_skel, k0_part123_skel, k0_part124_skel, k0_part125_skel, k0_part126_skel, k0_part127_skel, k0_part128_skel, k0_part129_skel, k0_part130_skel, k0_part131_skel, k0_part132_skel, k0_part133_skel, k0_part134_skel, k0_part135_skel, k0_part136_skel, k0_part137_skel, k0_part138_skel, k0_part139_skel, Prog.lift, Prog.bind_op, Prog.bind_ret, Prog.pure_eq_ret, seqK, drainW, drain1W, drain3W, waitOp]
  exact ⟨_, rfl⟩
/-! ## The whole body -/

/-- The printed body, on the buffers it is called with, offsets as words. -/
def bodyW : PP F PUnit :=
  Prog.lift .deviceId >>= fun c => headW c <| midW c <| loadsW c fun v2954 v2986 v2989 v2992 v2995 =>
    chunksW c (fun k => payK c k v2954 v2986 v2989 v2992 v2995) [0, 1, 2, 3] <| ownCW c >>= fun _ => tailW c (endW c)

section binds
variable {α β : Type} (c : Dev nD) (g : α → PP F β)

theorem headW_bind (k : PP F α) : (headW c k >>= g) = headW c (k >>= g) := by
  simp only [headW, seqK_bind, bind_assoc]
theorem midW_bind (k : PP F α) : (midW c k >>= g) = midW c (k >>= g) := by
  simp only [midW, seqK_bind, bind_assoc]
theorem loadsW_bind (k : Vec F S32x16x128 .f32 → Vec F S1x512x1024 .f32 → Vec F S1x512x1024 .f32 → Vec F S1x1024x512 .f32 →
    Vec F S1x1024x512 .f32 → PP F α) : (loadsW c k >>= g) = loadsW c (fun a b d e h => k a b d e h >>= g) := by
  simp only [loadsW, bind_assoc]
theorem chunksW_bind (f : Fin 4 → Vec F S8x16x512 .bf16 → FVec F S128x512 .bf16) (l : List (Fin 4)) (k : PP F α) :
    (chunksW c f l k >>= g) = chunksW c f l (k >>= g) := by
  induction l with
  | nil => rfl
  | cons a l ih => simp only [chunksW, seqK_bind, bind_assoc, seqYK_bind, ih]
theorem tailW_bind (k : PP F α) : (tailW c k >>= g) = tailW c (k >>= g) := by
  simp only [tailW, seqK_bind, bind_assoc, drain3W]
end binds

theorem body_eq_bodyW : (cc0_body xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 : PP F PUnit) = bodyW := by
  rw [cc0_body_eq_skeleton]
  unfold cc0_body_skel
  rw [k0_part140_eq_skeleton, k0_part141_eq_skeleton, k0_part142_eq_skeleton]
  obtain ⟨r, hr⟩ := part140 (F := F)
  rw [hr, bind_assoc]
  unfold bodyW
  refine congrArg _ (funext fun c => ?_)
  rw [headW_bind]
  refine congrArg _ ?_
  rw [pure_bind]
  show (k0_part141_skel xB (Memref.isWhole_whole _) wB (Memref.isWhole_whole _) w1B (Memref.isWhole_whole _) w2B (Memref.isWhole_whole _)
    oB (Memref.isWhole_whole _) xbB (Memref.isWhole_whole _) rtB (Memref.isWhole_whole _) xgB (Memref.isWhole_whole _)
    rgB (Memref.isWhole_whole _) sgB (Memref.isWhole_whole _) ssB (Memref.isWhole_whole _) yB (Memref.isWhole_whole _)
    cbB (Memref.isWhole_whole _) cc0_scratch8 cc0_scratch9 cc0_scratch10 cc0_scratch11 cc0_scratch12 cc0_scratch13
    cc0_scratch14 cc0_scratch15 c (meW c) (r c) 1#32 >>= _) = _
  rw [part141, midW_bind, loadsW_bind]
  refine congrArg _ (congrArg _ (funext fun a => funext fun b => funext fun d => funext fun e => funext fun h => ?_))
  rw [chunksW_bind, bind_assoc]
  refine congrArg _ (congrArg _ (funext fun _ => ?_))
  rw [tailW_bind, pure_bind]
  refine congrArg _ ?_
  obtain ⟨r', hr'⟩ := part142 (F := F) c (meW c)
  rw [hr', bind_assoc]
  unfold endW
  refine congrArg _ (funext fun _ => ?_)
  rw [seqK_bind]
  rfl

/-! ## Offsets in closed form -/

/-- The peer at distance `i + 1`. -/
def peer (c : Dev nD) (i : Fin 31) : Dev nD := ⟨(c.val + 1 + i.val) % 32, Nat.mod_lt _ (by decide)⟩

/-- The peers in the order the body visits them. -/
def peers (c : Dev nD) : List (Dev nD) := all31.map (peer c)

theorem peers_nodup : ∀ c : Dev nD, (peers c).Nodup := by decide +kernel
theorem mem_peers : ∀ c d : Dev nD, d ∈ peers c ↔ d ≠ c := by decide +kernel

theorem meW_eq : ∀ c : Dev nD, (meW c).toNat = c.val := by decide +kernel
theorem peerW_eq : ∀ (c : Dev nD) (i : Fin 31), peerW c (wd i) = (peer c i).val := by decide +kernel
theorem off1_eq : ∀ (c : Dev nD) (i : Fin 31), k0_off1 c (wd i) = ![(peer c i).val] := by decide +kernel
theorem condW_eq : ∀ (c : Dev nD) (d : Fin 32), condW c d = 1#1 ↔ d ≠ c := by decide +kernel
theorem toW_eq : ∀ d : Fin 32, toW d = d.val := by decide +kernel

/-- The semaphores: `k` says which array (the send and receive arrays of the row exchange, of the router's, of the
    scores', of the products'), `d` which of the thirty-two. -/
def dsem (k : Fin 8) (d : Fin 32) : DmaSem sig := ⟨5 + 32 * k.val + d.val, by show _ < 261; omega⟩

theorem semOf_0 : ∀ d : Fin 32, semOf cc0_scratch8 ![d.val] (inb_sem d) = dsem 0 d := by decide +kernel
theorem semOf_1 : ∀ d : Fin 32, semOf cc0_scratch9 ![d.val] (inb_sem d) = dsem 1 d := by decide +kernel
theorem semOf_2 : ∀ d : Fin 32, semOf cc0_scratch10 ![d.val] (inb_sem d) = dsem 2 d := by decide +kernel
theorem semOf_3 : ∀ d : Fin 32, semOf cc0_scratch11 ![d.val] (inb_sem d) = dsem 3 d := by decide +kernel
theorem semOf_4 : ∀ d : Fin 32, semOf cc0_scratch12 ![d.val] (inb_sem d) = dsem 4 d := by decide +kernel
theorem semOf_5 : ∀ d : Fin 32, semOf cc0_scratch13 ![d.val] (inb_sem d) = dsem 5 d := by decide +kernel
theorem semOf_6 : ∀ d : Fin 32, semOf cc0_scratch14 ![d.val] (inb_sem d) = dsem 6 d := by decide +kernel
theorem semOf_7 : ∀ d : Fin 32, semOf cc0_scratch15 ![d.val] (inb_sem d) = dsem 7 d := by decide +kernel

theorem semOf_congr (A : DmaSems sig S32) {o o' : Fin 1 → Nat} (h : ∀ a, o a + S1.size a ≤ S32.size a)
    (h' : ∀ a, o' a + S1.size a ≤ S32.size a) (e : o = o') : semOf A o h = semOf A o' h' := by subst e; rfl

/-- The slots. -/
abbrev xgS (d : Dev nD) := xgAt ![d.val, 0, 0] (inb_xg d)
abbrev rgS (d : Dev nD) := rgAt ![d.val, 0, 0] (inb_rg d)
abbrev sgS (d : Dev nD) := sgAt ![d.val, 0, 0] (inb_sg d)
abbrev cbS (d : Dev nD) := cbAt ![d.val, 0, 0] (inb_xg d)
abbrev yS (d : Dev nD) := yAt ![16 * d.val, 0] (inb_y d)

theorem xgAt_congr {o o' : Fin 3 → Nat} (h : ∀ a, o a + S1x16x512.size a ≤ S32x16x512.size a) (h' : ∀ a, o' a + S1x16x512.size a ≤ S32x16x512.size a)
    (e : o = o') : xgAt o h = xgAt o' h' := by subst e; rfl
theorem rgAt_congr {o o' : Fin 3 → Nat} (h : ∀ a, o a + S1x2x512.size a ≤ S32x2x512.size a) (h' : ∀ a, o' a + S1x2x512.size a ≤ S32x2x512.size a)
    (e : o = o') : rgAt o h = rgAt o' h' := by subst e; rfl
theorem sgAt_congr {o o' : Fin 3 → Nat} (h : ∀ a, o a + S1x16x128.size a ≤ S32x16x128.size a) (h' : ∀ a, o' a + S1x16x128.size a ≤ S32x16x128.size a)
    (e : o = o') : sgAt o h = sgAt o' h' := by subst e; rfl
theorem cbAt_congr {o o' : Fin 3 → Nat} (h : ∀ a, o a + S1x16x512.size a ≤ S32x16x512.size a) (h' : ∀ a, o' a + S1x16x512.size a ≤ S32x16x512.size a)
    (e : o = o') : cbAt o h = cbAt o' h' := by subst e; rfl

theorem exact_xb : xbB.view.WordExact := whole_xb.wordExact
theorem exact_xgS (d : Dev nD) : (xgS d).view.WordExact := (whole_xg.wordExact_slice rfl _ (words_xg d)).reshape _ _
theorem exact_cbS (d : Dev nD) : (cbS d).view.WordExact := (whole_cb.wordExact_slice rfl _ (words_xg d)).reshape _ _
theorem exact_yS (d : Dev nD) : (yS d).view.WordExact := whole_y.wordExact_slice rfl _ (words_y d)
theorem exact_rt : rtB.view.WordExact := (Memref.isWhole_whole _).wordExact
theorem exact_ss : ssB.view.WordExact := (Memref.isWhole_whole _).wordExact
theorem exact_rgS (d : Dev nD) : (rgS d).view.WordExact := (View.wordExact_bits rfl).reshape _ _
theorem exact_sgS (d : Dev nD) : (sgS d).view.WordExact := (View.wordExact_bits rfl).reshape _ _

/-- The transfers of device `c` to device `d`, and its own copy. -/
def sendR (c d : Dev nD) : PP F PUnit := sendOp rtB (rgS c) (dsem 2 d) (dsem 3 c) d exact_rt (exact_rgS c)
def sendX (c d : Dev nD) : PP F PUnit := sendOp xbB (xgS c) (dsem 0 d) (dsem 1 c) d exact_xb (exact_xgS c)
def sendS (c d : Dev nD) : PP F PUnit := sendOp ssB (sgS c) (dsem 4 d) (dsem 5 c) d exact_ss (exact_sgS c)
def sendY (c d : Dev nD) : PP F PUnit :=
  if d = c then pure ⟨⟩ else sendOp (yS d) (cbS c) (dsem 6 d) (dsem 7 c) d (exact_yS d) (exact_cbS c)
def hereX (c : Dev nD) : PP F PUnit := hereOp xbB (xgS c) (dsem 1 c) exact_xb (exact_xgS c)
def waitR (d : Dev nD) : PP F PUnit := waitOp (dsem 3 d) cc0_scratch3 S2x512 .f32 hasM_rg
def waitX (d : Dev nD) : PP F PUnit := waitOp (dsem 1 d) cc0_scratch2 S16x512 .bf16 hasM_xg
def waitS (d : Dev nD) : PP F PUnit := waitOp (dsem 5 d) cc0_scratch4 S16x128 .f32 hasM_sg
def waitC (d : Dev nD) : PP F PUnit := waitOp (dsem 7 d) cc0_scratch7 S16x512 .bf16 hasM_cb
def drain (d : Dev nD) : PP F PUnit :=
  waitOp (dsem 2 d) cc0_scratch1 S2x512 .f32 hasM_rt >>= fun _ =>
  waitOp (dsem 0 d) cc0_scratch0 S16x512 .bf16 hasM_xb >>= fun _ =>
  waitOp (dsem 4 d) cc0_scratch5 S16x128 .f32 hasM_ss >>= fun _ =>
  waitOp (dsem 6 d) cc0_scratch6 S16x512 .bf16 hasM_y

section clean
variable (c : Dev nD)

theorem dev_eq (i : Fin 31) : (⟨peerW c (wd i), peerW_lt c i⟩ : Dev nD) = peer c i := Fin.ext (peerW_eq c i)

theorem sigW_eq (i : Fin 31) : (sigW c i : PP F PUnit) = sigOp (peer c i) := by
  unfold sigW; rw [dev_eq]

theorem peerSem_eq (A : DmaSems sig S32) (i : Fin 31) : peerSem c A i = semOf A ![(peer c i).val] (inb_sem (peer c i)) :=
  semOf_congr A _ _ (off1_eq c i)

theorem sendRW_eq (i : Fin 31) : (sendRW c i : PP F PUnit) = sendR c (peer c i) :=
  sendOp_congr rfl (rgAt_congr _ _ (k0_off3_eq c)) ((peerSem_eq c _ i).trans (semOf_2 _))
    ((semOf_congr _ _ _ (k0_off2_eq c)).trans (semOf_3 _)) (dev_eq c i)
theorem sendXW_eq (i : Fin 31) : (sendXW c i : PP F PUnit) = sendX c (peer c i) :=
  sendOp_congr rfl (xgAt_congr _ _ (k0_off4_eq c)) ((peerSem_eq c _ i).trans (semOf_0 _))
    ((semOf_congr _ _ _ (k0_off2_eq c)).trans (semOf_1 _)) (dev_eq c i)
theorem sendSW_eq (i : Fin 31) : (sendSW c i : PP F PUnit) = sendS c (peer c i) :=
  sendOp_congr rfl (sgAt_congr _ _ (k0_off7_eq c)) ((peerSem_eq c _ i).trans (semOf_4 _))
    ((semOf_congr _ _ _ (k0_off2_eq c)).trans (semOf_5 _)) (dev_eq c i)
theorem hereXW_eq : (hereXW c : PP F PUnit) = hereX c :=
  hereOp_congr rfl (xgAt_congr _ _ (k0_off4_eq c)) ((semOf_congr _ _ _ (k0_off2_eq c)).trans (semOf_1 _))
theorem waitOp_congr {s s' : DmaSem sig} {b : Ref sig .tc} {sh : Shape} {e : EltTy} {h : b.HasMemref sh e} (hs : s = s') :
    (waitOp s b sh e h : PP F PUnit) = waitOp s' b sh e h := by subst hs; rfl
theorem waitRW_eq (i : Fin 31) : (waitRW c i : PP F PUnit) = waitR (peer c i) :=
  waitOp_congr ((peerSem_eq c _ i).trans (semOf_3 _))
theorem waitSW_eq (i : Fin 31) : (waitSW c i : PP F PUnit) = waitS (peer c i) :=
  waitOp_congr ((peerSem_eq c _ i).trans (semOf_5 _))
theorem waitCW_eq (i : Fin 31) : (waitCW c i : PP F PUnit) = waitC (peer c i) :=
  waitOp_congr ((peerSem_eq c _ i).trans (semOf_7 _))
theorem waitXW_eq (d : Fin 32) : (waitXW d : PP F PUnit) = waitX d := waitOp_congr (semOf_1 d)
theorem drainW_eq (i : Fin 31) : (drainW c i : PP F PUnit) = drain (peer c i) := by
  unfold drainW drain3W drain1W drain
  rw [peerSem_eq, peerSem_eq, peerSem_eq, peerSem_eq, semOf_0, semOf_2, semOf_4, semOf_6]

theorem seqYK_eq {α : Type} (l : List (Fin 32)) (k : PP F α) : seqYK c l k = seqK l (sendY c) k := by
  induction l with
  | nil => rfl
  | cons d l ih =>
    simp only [seqYK, seqK, ih, sendYK, sendY]
    by_cases h : d = c
    · rw [dif_neg (fun h' => ((condW_eq c d).1 h') h), if_pos h]; rfl
    · rw [dif_pos ((condW_eq c d).2 h), if_neg h]
      refine congrArg (· >>= _) ?_
      exact sendOp_congr rfl (cbAt_congr _ _ (by rw [meW_eq])) (semOf_6 d)
        ((semOf_congr _ _ _ (by rw [meW_eq])).trans (semOf_7 c)) (Fin.ext (toW_eq d))

end clean

theorem seqK_peers {β : Type} (c : Dev nD) (f : Fin 31 → PP F PUnit) (g : Dev nD → PP F PUnit) (h : ∀ i, f i = g (peer c i)) (k : PP F β) :
    seqK all31 f k = seqK (peers c) g k := by
  unfold peers
  generalize all31 = l
  induction l with
  | nil => rfl
  | cons a l ih => simp only [List.map_cons, seqK, ih, h]

end Cert.KernelIdealRun
-- ==== Proof.ISched.lean ====
/-
# The schedule of the exchanges

What every buffer holds when it is full, the semaphores with their one round of duties, what each duty hands over,
what each device owes at launch, and in which order the semaphores may be waited for.
-/
module

public import proofs.«01_k».proof.Proof.IProg
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers
public import Idealize.ShloMosaic.Lib.Rounds

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

/-- The four staged inputs of every device. -/
structure Ins (F : FTy → Type) where
  x : Dev nD → Vec F S16x512 .f32
  w : Dev nD → Vec F S512x2 .f32
  a : Dev nD → Vec F S2x512x1024 .f32
  b : Dev nD → Vec F S2x1024x512 .f32

variable (I : Ins F)

/-- The cast rows and the transposed router columns of a device. -/
def xbV (c : Dev nD) : Vec F S16x512 .bf16 := k0_pay1 (I.x c)
def rtV (c : Dev nD) : Vec F S2x512 .f32 := k0_pay2 (I.w c)
/-- The gathered rows and router columns: slot `d` holds device `d`'s. -/
def xgV : Vec F S32x16x512 .bf16 := fun i => xbV I (i 0) (fun a => i a.succ)
def rgV : Vec F S32x2x512 .f32 := fun i => rtV I (i 0) (fun a => i a.succ)
/-- The scores of a device's rows, and the lanes in front of which they are stored. -/
def scV (c : Dev nD) : Vec F S16x4 .f32 := k0_pay4 (rgV I) (I.x c)
def ssV (c : Dev nD) : Vec F S16x128 .f32 := fun i =>
  if h : (i 1).val < 4 then scV I c (fun a => match a with | ⟨0, _⟩ => i 0 | ⟨1, _⟩ => ⟨(i 1).val, h⟩) else Scalar.ofBits .f32 0#32
def sgV : Vec F S32x16x128 .f32 := fun i => ssV I (i 0) (fun a => i a.succ)

/-- Contents of the score buffers are right when their first four lanes are. -/
def SsOK (c : Dev nD) (f : Vec F S16x128 .f32) : Prop := ∀ i, (i 1).val < 4 → f i = ssV I c i
def SgOK (f : Vec F S32x16x128 .f32) (S : Finset S32x16x128.Idx) : Prop := ∀ i ∈ S, (i 2).val < 4 → f i = sgV I i

/-- The chunk of product rows of a device, from the gathered rows and the scores. -/
def ldW1 (c : Dev nD) (e : Fin 2) : Vec F S1x512x1024 .f32 := w1B.view.readAt (Elt F) (rW1 e).toLoadRect (I.a c)
def ldW2 (c : Dev nD) (e : Fin 2) : Vec F S1x1024x512 .f32 := w2B.view.readAt (Elt F) (rW2 e).toLoadRect (I.b c)
def chV (c : Dev nD) (k : Fin 4) : Vec F S128x512 .bf16 :=
  payK c k (sgV I) (ldW1 I c 0) (ldW1 I c 1) (ldW2 I c 0) (ldW2 I c 1) (xgB.view.readAt (Elt F) (rXK k).toLoadRect (xgV I))
/-- All product rows of a device: rows `16 d ..` are those of device `d`. -/
def yV (c : Dev nD) : Vec F S512x512 .bf16 := fun i =>
  chV I c ⟨(i 0).val / 128, by have h : (i 0).val < 512 := (i 0).isLt; omega⟩ (fun a => match a with | ⟨0, _⟩ => ⟨(i 0).val % 128, Nat.mod_lt _ (by decide)⟩ | ⟨1, _⟩ => i 1)
/-- The sixteen product rows that device `d` computed for device `c`. -/
def pcV (c d : Dev nD) : Vec F S16x512 .bf16 := fun i =>
  yV I d (fun a => match a with | ⟨0, _⟩ => ⟨16 * c.val + (i 0).val, by have h : (i 0).val < 16 := (i 0).isLt; have h' : c.val < 32 := c.isLt; show _ < 512; omega⟩ | ⟨1, _⟩ => i 1)
/-- What device `c` receives last: slot `d` holds device `d`'s product rows of `c`'s own rows. -/
def cbV (c : Dev nD) : Vec F S32x16x512 .bf16 := fun i => pcV I c (i 0) (fun a => i a.succ)
/-- The result of device `c`. -/
def outV (c : Dev nD) : Vec F S16x512 .f32 := k0_pay25 (cbV I c)

/-! ## The cells -/

abbrev barS : Sem sig := sig.barrier 0 rfl

/-- The kernel's semaphores on a device: the barrier's, and `k`-th array's `d`-th. -/
abbrev CK : Type := Unit ⊕ (Fin 8 × Fin 32)
def csem : CK → SemLoc sig
  | .inl _ => .reg barS
  | .inr (k, d) => .dma (dsem k d)
/-- Which of them a semaphore is. -/
def code : SemLoc sig → Option CK
  | .reg s => if s = barS then some (.inl ()) else none
  | .dma q => if h : 5 ≤ q.val then
      some (.inr (⟨(q.val - 5) / 32, by have := q.isLt; have h2 : q.val < 261 := this; omega⟩, ⟨(q.val - 5) % 32, Nat.mod_lt _ (by decide)⟩)) else none

theorem code_csem (k : CK) : code (csem k) = some k := by
  rcases k with ⟨⟩ | ⟨k, d⟩
  · rfl
  · have h1 : (dsem k d).val = 5 + 32 * k.val + d.val := rfl
    have h2 := d.isLt
    simp only [csem, code]
    rw [dif_pos (by omega)]
    congr 2
    refine Prod.ext (Fin.ext ?_) (Fin.ext ?_) <;> simp only [h1] <;> omega

theorem csem_inj : Function.Injective csem := fun a b h => by
  have := congrArg code h; rw [code_csem, code_csem] at this; exact Option.some.inj this

abbrev kcell (p : Dev nD × CK) : GSem nD τ sig := ((p.1 : Thread nD τ), csem p.2)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

abbrev ckK (k : Fin 8) (d : Dev nD) : CK := .inr (k, d)
abbrev ckB : CK := .inl ()

/-- The amounts the transfers pay. -/
def NX : ℕ := xbB.view.dmaCredit
def NR : ℕ := rtB.view.dmaCredit
def NS : ℕ := ssB.view.dmaCredit
def amt : CK → ℕ
  | .inl _ => 1
  | .inr (k, _) => match k with
    | 0 => NX | 1 => NX | 2 => NR | 3 => NR | 4 => NS | 5 => NS | 6 => NX | 7 => NX

theorem NX_pos : 0 < NX := View.dmaCredit_pos _ (by decide)
theorem NR_pos : 0 < NR := View.dmaCredit_pos _ (by decide)
theorem NS_pos : 0 < NS := View.dmaCredit_pos _ (by decide)
theorem amt_pos : ∀ k, 0 < amt k
  | .inl _ => Nat.one_pos
  | .inr (k, _) => by
    fin_cases k
    exacts [NX_pos, NX_pos, NR_pos, NR_pos, NS_pos, NS_pos, NX_pos, NX_pos]

/-- The duties of a device's cells: on the barrier's every other device's; on a transfer's the one its index names. -/
def dut (c : Dev nD) : CK → Finset (Dev nD)
  | .inl _ => Finset.univ.erase c
  | .inr (k, d) => if d = c ∧ k ≠ 1 then ∅ else {d}

/-! ## What the duties hand over -/

/-- The part of a buffer that is dealt to a peer. -/
def shr (d : Dev nD) : PosShare TreeShare := Transfers.dealOf fullShare (Finset.univ : Finset (Dev nD)) d

section pts
variable (c d : Dev nD)

/-- Slot `d` of the landing buffers of device `c`, and the rows for device `d` of its product buffer. -/
def xgP (f : Vec F S32x16x512 .bf16) : sProp 𝕄 := (xgS d).view.loc (c : Thread nD τ) ↦[(xgS d).view.set]{fullShare} f
def rgP (f : Vec F S32x2x512 .f32) : sProp 𝕄 := (rgS d).view.loc (c : Thread nD τ) ↦[(rgS d).view.set]{fullShare} f
def sgP (f : Vec F S32x16x128 .f32) : sProp 𝕄 := (sgS d).view.loc (c : Thread nD τ) ↦[(sgS d).view.set]{fullShare} f
def cbP (f : Vec F S32x16x512 .bf16) : sProp 𝕄 := (cbS d).view.loc (c : Thread nD τ) ↦[(cbS d).view.set]{fullShare} f
def yP (f : Vec F S512x512 .bf16) : sProp 𝕄 := (yS d).view.loc (c : Thread nD τ) ↦[(yS d).view.set]{fullShare} f
/-- The `d`-th share of the buffers that are sent whole. -/
def xbP (f : Vec F S16x512 .bf16) : sProp 𝕄 := xbB.view.loc (c : Thread nD τ) ↦[xbB.view.set]{shr d} f
def rtP (f : Vec F S2x512 .f32) : sProp 𝕄 := rtB.view.loc (c : Thread nD τ) ↦[rtB.view.set]{shr d} f
def ssP (f : Vec F S16x128 .f32) : sProp 𝕄 := ssB.view.loc (c : Thread nD τ) ↦[ssB.view.set]{shr d} f

/-- What device `d` hands device `c` with its barrier signal: its slots `c`. -/
def barPay : sProp 𝕄 := iprop((∃ f, rgP d c f) ∗ (∃ f, xgP d c f) ∗ (∃ f, sgP d c f) ∗ (∃ f, cbP d c f))

end pts

/-- What each duty of device `c` hands over. -/
def pay (c : Dev nD) : CK → Dev nD → sProp 𝕄
  | .inl _, d => barPay c d
  | .inr (k, d), _ => match k with
    | 0 => xbP c d (xbV I c)
    | 1 => iprop(xgP c d (xgV I) ∗ (if d = c then xbP c d (xbV I c) else iprop(emp)))
    | 2 => rtP c d (rtV I c)
    | 3 => rgP c d (rgV I)
    | 4 => iprop(∃ f, ⌜SsOK I c f⌝ ∗ ssP c d f)
    | 5 => iprop(∃ f, ⌜SgOK I f (sgS d).view.set⌝ ∗ sgP c d f)
    | 6 => yP c d (yV I c)
    | 7 => cbP c d (cbV I c)

instance pay_storable (c : Dev nD) (k : CK) (d : Dev nD) : BI.Storable (upEmb : UEmb _ 𝕄) (pay I c k d) := by
  rcases k with ⟨⟩ | ⟨k, e⟩
  · show BI.Storable upEmb (barPay c d); unfold barPay rgP xgP sgP cbP; infer_instance
  · fin_cases k
    · show BI.Storable upEmb (xbP c e (xbV I c)); unfold xbP; infer_instance
    · show BI.Storable upEmb iprop(xgP c e (xgV I) ∗ (if e = c then xbP c e (xbV I c) else iprop(emp)))
      unfold xgP xbP; split <;> infer_instance
    · show BI.Storable upEmb (rtP c e (rtV I c)); unfold rtP; infer_instance
    · show BI.Storable upEmb (rgP c e (rgV I)); unfold rgP; infer_instance
    · show BI.Storable upEmb iprop(∃ f, ⌜SsOK I c f⌝ ∗ ssP c e f); unfold ssP; infer_instance
    · show BI.Storable upEmb iprop(∃ f, ⌜SgOK I f (sgS e).view.set⌝ ∗ sgP c e f); unfold sgP; infer_instance
    · show BI.Storable upEmb (yP c e (yV I c)); unfold yP; infer_instance
    · show BI.Storable upEmb (cbP c e (cbV I c)); unfold cbP; infer_instance

/-- The schedule: one round. -/
def Rd : Rounds.Schedule (GSem nD τ sig) (Dev nD) 𝕄 where
  duties g r := if r = 0 ∧ g.1.2 = .tc then (match code g.2 with | some k => dut g.1.1 k | none => ∅) else ∅
  unitless _ := False
  amount g _ _ := match code g.2 with | some k => amt k | none => 1
  payload g _ d := match code g.2 with | some k => pay I g.1.1 k d | none => iprop(emp)
  amount_pos g _ _ _ := by
    cases code g.2 with
    | none => exact Nat.one_pos
    | some k => exact amt_pos k

instance Rd_storable (g : GSem nD τ sig) (r : ℕ) (d : Dev nD) : BI.Storable (upEmb : UEmb _ 𝕄) ((Rd I).payload g r d) := by
  show BI.Storable upEmb (match code g.2 with | some k => pay I g.1.1 k d | none => iprop(emp))
  split <;> infer_instance

section sched
variable (c : Dev nD) (k : CK)

theorem duties_eq : (Rd I).duties (kcell (c, k)) 0 = dut c k := by
  dsimp only [Rd]; rw [if_pos ⟨rfl, rfl⟩, code_csem]
theorem duties_later (g : GSem nD τ sig) : ∀ r, 1 ≤ r → (Rd I).duties g r = ∅ :=
  fun r hr => by dsimp only [Rd]; rw [if_neg fun h => by omega]
theorem duties_none (d : Dev nD) (h : k = ckK 0 c ∨ k = ckK 2 c ∨ k = ckK 3 c ∨ k = ckK 4 c ∨ k = ckK 5 c ∨ k = ckK 6 c ∨ k = ckK 7 c) :
    ∀ r, 0 ≤ r → (Rd I).duties (kcell (c, k)) r = ∅ := fun r _ => by
  rcases r with _ | r
  · rw [duties_eq]
    rcases h with h | h | h | h | h | h | h <;> subst h <;> exact if_pos ⟨rfl, by decide⟩
  · exact duties_later I _ _ (by omega)
theorem amount_eq (d : Dev nD) : (Rd I).amount (kcell (c, k)) 0 d = amt k := by dsimp only [Rd]; rw [code_csem]
theorem payload_eq (d : Dev nD) : (Rd I).payload (kcell (c, k)) 0 d = pay I c k d := by dsimp only [Rd]; rw [code_csem]

theorem dut_send (k : Fin 8) {d : Dev nD} (h : d ≠ c ∨ k = 1) : dut c (ckK k d) = {d} :=
  if_neg fun h' => h.elim (fun h => h h'.1) (fun h => h'.2 h)

theorem expect_bar : (Rd I).expect (kcell (c, ckB)) 0 = 31 := by
  unfold Schedule.expect Schedule.amountOf
  rw [duties_eq, Finset.sum_congr rfl fun d _ => amount_eq I c _ d]
  show ∑ _ ∈ Finset.univ.erase c, 1 = 31
  rw [Finset.sum_const, Finset.card_erase_of_mem (Finset.mem_univ _)]; rfl
theorem expect_send (k : Fin 8) {d : Dev nD} (h : d ≠ c ∨ k = 1) : (Rd I).expect (kcell (c, ckK k d)) 0 = amt (ckK k d) := by
  unfold Schedule.expect Schedule.amountOf; rw [duties_eq, dut_send c k h, Finset.sum_singleton, amount_eq]
theorem rest_send (k : Fin 8) {d : Dev nD} (h : d ≠ c ∨ k = 1) :
    bigSep ((Rd I).duties (kcell (c, ckK k d)) 0 \ ∅) (fun e => (Rd I).payload (kcell (c, ckK k d)) 0 e) = pay I c (ckK k d) d := by
  rw [Finset.sdiff_empty, duties_eq, dut_send c k h, bigSep_singleton, payload_eq]
theorem rest_bar :
    bigSep ((Rd I).duties (kcell (c, ckB)) 0 \ ∅) (fun e => (Rd I).payload (kcell (c, ckB)) 0 e) = bigSep (Finset.univ.erase c) fun d => barPay (F := F) c d := by
  rw [Finset.sdiff_empty, duties_eq]
  exact bigSep_congr fun d _ => payload_eq I c _ d

end sched

/-! ## What a device owes, and the order of the waits -/

/-- One amount of each of a list of cells. -/
def owe (l : List (Dev nD × CK)) : CellTallies nD τ sig Unit :=
  match l with
  | [] => 0
  | p :: l => owe l + tallyAt (kcell p) () (amt p.2)

open Classical in
theorem owe_kcell {l : List (Dev nD × CK)} (hl : l.Nodup) (p : Dev nD × CK) : owe l (kcell p) () = if p ∈ l then amt p.2 else 0 := by
  induction l with
  | nil => rw [if_neg (List.not_mem_nil)]; rfl
  | cons q l ih =>
    have hq := List.nodup_cons.mp hl
    unfold owe
    rw [Pi.add_apply, Finsupp.add_apply, ih hq.2, tallyAt_apply]
    by_cases h : p = q
    · subst h; rw [if_neg hq.1, if_pos ⟨rfl, rfl⟩, if_pos List.mem_cons_self, Nat.zero_add]
    · rw [if_neg (c := kcell p = kcell q ∧ () = ()) (fun h' => h (kcell_inj h'.1)), Nat.add_zero]
      by_cases hp : p ∈ l
      · rw [if_pos hp, if_pos (List.mem_cons_of_mem _ hp)]
      · rw [if_neg hp, if_neg (fun h' => (List.mem_cons.mp h').elim h hp)]

theorem owe_pos {l : List (Dev nD × CK)} {g : GSem nD τ sig} {u : Unit} (h : 0 < owe l g u) : ∃ p ∈ l, g = kcell p := by
  induction l with
  | nil => exact absurd h (Nat.lt_irrefl 0)
  | cons q l ih =>
    unfold owe at h
    rw [Pi.add_apply, Finsupp.add_apply, tallyAt_apply] at h
    by_cases hq : g = kcell q ∧ u = ()
    · exact ⟨q, List.mem_cons_self, hq.1⟩
    · rw [if_neg hq] at h
      obtain ⟨p, hp, e⟩ := ih h
      exact ⟨p, List.mem_cons_of_mem _ hp, e⟩

/-- What is owed for the signals, the first two transfers, the scores' and the products', to each of a list of devices. -/
def dB (l : List (Dev nD)) : List (Dev nD × CK) := l.map fun d => (d, ckB)
def dRX (c : Dev nD) (l : List (Dev nD)) : List (Dev nD × CK) := l.flatMap fun d => [(d, ckK 3 c), (d, ckK 1 c)]
def dS (c : Dev nD) (l : List (Dev nD)) : List (Dev nD × CK) := l.map fun d => (d, ckK 5 c)
def dY (c : Dev nD) (l : List (Dev nD)) : List (Dev nD × CK) := l.flatMap fun d => if d = c then [] else [(d, ckK 7 c)]

abbrev all32 : List (Dev nD) := blk 0 ++ (blk 1 ++ (blk 2 ++ (blk 3 ++ [])))

def debts (c : Dev nD) : List (Dev nD × CK) := dB (peers c) ++ (dRX c (peers c) ++ (dS c (peers c) ++ dY c all32))

def O₀ (c : Dev nD) : CellTallies nD τ sig Unit := owe (debts c)

/-- The level of a cell: a device waits for it only while it owes higher ones. -/
def lev : CK → ℕ
  | .inl _ => 1
  | .inr (k, _) => match k with
    | 0 => 0 | 1 => 2 | 2 => 0 | 3 => 2 | 4 => 0 | 5 => 3 | 6 => 0 | 7 => 4

def L (g : GSem nD τ sig) : Finset Unit := if g.1.2 = .tc then {()} else ∅
def lv (g : GSem nD τ sig) (_ : Unit) : ℕ := match code g.2 with | some k => lev k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (p : Dev nD × CK) (u : Unit) : lv (kcell p) u = lev p.2 := by unfold lv; rw [code_csem]

/-- A wait at a cell of level at most `n` while owing cells of greater levels only. -/
theorem mayWait (c : Dev nD) (sm : SemLoc sig) (n : ℕ) (hn : lv ((c : Thread nD τ), sm) () ≤ n) (l : List (Dev nD × CK)) (hl : ∀ p ∈ l, n < lev p.2) :
    (levAts L lv : sProp 𝕄) ⊢ MayWait (c : Thread nD τ) sm () (owe l) :=
  MayOwe.of_cut (L := L) (lev := lv) n (fun p hp => by rw [Finset.mem_singleton.mp hp, L_tc]; exact Finset.mem_singleton_self _)
    (fun g u hg => by obtain ⟨p, -, rfl⟩ := owe_pos hg; rw [L_tc]; exact Finset.mem_singleton_self _)
    (fun p hp => by rw [Finset.mem_singleton.mp hp]; exact hn)
    (fun g u hg => by obtain ⟨p, hp, rfl⟩ := owe_pos hg; rw [lv_kcell]; exact hl p hp)

theorem lev_dB {l : List (Dev nD)} : ∀ p ∈ dB l, lev p.2 = 1 := fun p hp => by
  obtain ⟨d, -, rfl⟩ := List.mem_map.mp hp; rfl
theorem lev_dRX {c : Dev nD} {l : List (Dev nD)} : ∀ p ∈ dRX c l, lev p.2 = 2 := fun p hp => by
  obtain ⟨d, -, h⟩ := List.mem_flatMap.mp hp
  rcases List.mem_pair.mp h with rfl | rfl <;> rfl
theorem lev_dS {c : Dev nD} {l : List (Dev nD)} : ∀ p ∈ dS c l, lev p.2 = 3 := fun p hp => by
  obtain ⟨d, -, rfl⟩ := List.mem_map.mp hp; rfl
theorem lev_dY {c : Dev nD} {l : List (Dev nD)} : ∀ p ∈ dY c l, lev p.2 = 4 := fun p hp => by
  obtain ⟨d, -, h⟩ := List.mem_flatMap.mp hp
  by_cases hd : d = c
  · rw [if_pos hd] at h; cases h
  · rw [if_neg hd] at h; rw [List.mem_singleton.mp h]; rfl

theorem mem_dRX {c : Dev nD} {l : List (Dev nD)} {p : Dev nD × CK} : p ∈ dRX c l ↔ p.1 ∈ l ∧ (p.2 = ckK 3 c ∨ p.2 = ckK 1 c) := by
  obtain ⟨d, k⟩ := p
  simp only [dRX, List.mem_flatMap, List.mem_cons, List.not_mem_nil, or_false, Prod.mk.injEq]
  constructor
  · rintro ⟨e, he, ⟨rfl, rfl⟩ | ⟨rfl, rfl⟩⟩ <;> simp [he]
  · rintro ⟨h, rfl | rfl⟩ <;> exact ⟨d, h, by simp⟩

theorem mem_all32 : ∀ d : Dev nD, d ∈ all32 := by decide

theorem mem_debts {c : Dev nD} {p : Dev nD × CK} :
    p ∈ debts c ↔ p.1 ≠ c ∧ (p.2 = ckB ∨ p.2 = ckK 3 c ∨ p.2 = ckK 1 c ∨ p.2 = ckK 5 c ∨ p.2 = ckK 7 c) := by
  obtain ⟨d, k⟩ := p
  have hY : (d, k) ∈ dY c all32 ↔ d ≠ c ∧ k = ckK 7 c := by
    simp only [dY, List.mem_flatMap]
    constructor
    · rintro ⟨e, -, h⟩
      by_cases he : e = c
      · rw [if_pos he] at h; cases h
      · rw [if_neg he] at h; have := List.mem_singleton.mp h; cases this; exact ⟨he, rfl⟩
    · rintro ⟨h, rfl⟩; exact ⟨d, mem_all32 d, by rw [if_neg h]; exact List.mem_singleton_self _⟩
  have hB : (d, k) ∈ dB (peers c) ↔ d ≠ c ∧ k = ckB := by
    simp only [dB, List.mem_map, mem_peers, Prod.mk.injEq]
    constructor
    · rintro ⟨e, he, rfl, rfl⟩; exact ⟨he, rfl⟩
    · rintro ⟨h, rfl⟩; exact ⟨d, h, rfl, rfl⟩
  have hS : (d, k) ∈ dS c (peers c) ↔ d ≠ c ∧ k = ckK 5 c := by
    simp only [dS, List.mem_map, mem_peers, Prod.mk.injEq]
    constructor
    · rintro ⟨e, he, rfl, rfl⟩; exact ⟨he, rfl⟩
    · rintro ⟨h, rfl⟩; exact ⟨d, h, rfl, rfl⟩
  simp only [debts, List.mem_append, hB, mem_dRX, hS, hY, mem_peers]
  tauto

theorem dB_nodup (c : Dev nD) : (dB (peers c)).Nodup :=
  (peers_nodup c).map fun a b h => congrArg Prod.fst h
theorem dS_nodup (c : Dev nD) : (dS c (peers c)).Nodup :=
  (peers_nodup c).map fun a b h => congrArg Prod.fst h
theorem dRX_nodup (c : Dev nD) : (dRX c (peers c)).Nodup := by
  refine List.nodup_flatMap.mpr ⟨fun d _ => ?_, (peers_nodup c).imp fun {a b} h => ?_⟩
  · simp [ckK]
  · intro p hp hp'
    have h1 : p.1 = a := by rcases List.mem_pair.mp hp with rfl | rfl <;> rfl
    have h2 : p.1 = b := by rcases List.mem_pair.mp hp' with rfl | rfl <;> rfl
    exact h (h1.symm.trans h2)
theorem all32_nodup : (all32 : List (Dev nD)).Nodup := by decide
theorem dY_nodup (c : Dev nD) : (dY c all32).Nodup := by
  refine List.nodup_flatMap.mpr ⟨fun d _ => ?_, all32_nodup.imp fun {a b} h => ?_⟩
  · split <;> simp
  · have key : ∀ (e : Dev nD) (p : Dev nD × CK), p ∈ (if e = c then [] else [(e, ckK 7 c)]) → p.1 = e := fun e p hp => by
      by_cases he : e = c
      · rw [if_pos he] at hp; cases hp
      · rw [if_neg he] at hp; rw [List.mem_singleton.mp hp]
    intro p hp hp'
    exact h ((key a p hp).symm.trans (key b p hp'))
theorem disjoint_lev {l l' : List (Dev nD × CK)} (n : ℕ) (h : ∀ p ∈ l, lev p.2 = n) (h' : ∀ p ∈ l', n < lev p.2) : List.Disjoint l l' :=
  fun p hp hp' => by have := h p hp; have := h' p hp'; omega

theorem debts_nodup (c : Dev nD) : (debts c).Nodup := by
  have h3 : ∀ p ∈ dY c all32, 3 < lev p.2 := fun p hp => by rw [lev_dY p hp]; decide
  have h2 : ∀ p ∈ dS c (peers c) ++ dY c all32, 2 < lev p.2 := fun p hp => by
    rcases List.mem_append.mp hp with hp | hp
    · rw [lev_dS p hp]; decide
    · have := h3 p hp; omega
  have h1 : ∀ p ∈ dRX c (peers c) ++ (dS c (peers c) ++ dY c all32), 1 < lev p.2 := fun p hp => by
    rcases List.mem_append.mp hp with hp | hp
    · rw [lev_dRX p hp]; decide
    · have := h2 p hp; omega
  exact (dB_nodup c).append ((dRX_nodup c).append ((dS_nodup c).append (dY_nodup c) (disjoint_lev 3 lev_dS h3))
    (disjoint_lev 2 lev_dRX h2)) (disjoint_lev 1 lev_dB h1)

/-- The launch credit of a cell: what all devices owe it together. -/
theorem launch_bar (c : Dev nD) : ∑ d : Dev nD, O₀ d (kcell (c, ckB)) () = 31 := by
  have h : ∀ d ∈ (Finset.univ : Finset (Dev nD)), O₀ d (kcell (c, ckB)) () = if d ≠ c then 1 else 0 := fun d _ => by
    unfold O₀; rw [owe_kcell (debts_nodup d)]
    by_cases hd : d = c
    · subst hd; simp [mem_debts]
    · rw [if_pos (mem_debts.mpr ⟨fun h => hd h.symm, Or.inl rfl⟩), if_pos hd]; rfl
  rw [Finset.sum_congr rfl h]; clear h; revert c; decide +kernel
theorem launch_dma (c d : Dev nD) (k : Fin 8) (hk : k = 1 ∨ k = 3 ∨ k = 5 ∨ k = 7) (hd : d ≠ c) :
    ∑ e : Dev nD, O₀ e (kcell (c, ckK k d)) () = amt (ckK k d) := by
  have h : ∀ e ∈ (Finset.univ : Finset (Dev nD)), O₀ e (kcell (c, ckK k d)) () = if e = d then amt (ckK k d) else 0 := fun e _ => by
    unfold O₀; rw [owe_kcell (debts_nodup e)]
    by_cases he : e = d
    · subst he
      rw [if_pos (mem_debts.mpr ⟨fun h => hd h.symm, ?_⟩), if_pos rfl]
      rcases hk with rfl | rfl | rfl | rfl <;> simp
    · rw [if_neg he, if_neg]
      rw [mem_debts]; rintro ⟨-, h⟩
      rcases h with h | h | h | h | h <;> first | exact he (congrArg Prod.snd (Sum.inr.inj h)).symm | cases h
  rw [Finset.sum_congr rfl h, Finset.sum_ite_eq', if_pos (Finset.mem_univ _)]

end Cert.KernelIdealRun
-- ==== Proof.IVals.lean ====
/-
# The slots of the landing buffers

Which elements a slot is, what a landing transfer or a store leaves in it, and how the slots make up their buffer.
-/
module

public import proofs.«01_k».proof.Proof.ISched
public import Idealize.ShloMosaic.Lib.Pipeline.Value

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F)

/-- Writing what another buffer reads leaves that buffer's contents on the view's elements. -/
theorem write_on {κ : Kind} {sp : Space} {s : Shape} {e : EltTy} (v : View sig κ sp s e) (f g : v.ty.Contents (Elt F)) (w : s.Idx → Elt F e)
    (h : v.read (Elt F) g = w) : ∀ i ∈ v.set, v.write (Elt F) f w Finset.univ i = g i := fun i hi => by
  rw [← h, View.write_read_eq_piecewise, View.setOn_univ, Finset.piecewise_eq_of_mem _ _ _ hi]

/-- An index of a buffer of slots, from a slot and an index of its shape. -/
abbrev cns {a b : ℕ} (d : Fin 32) (x : (⟨2, ![a, b]⟩ : Shape).Idx) : (⟨3, ![32, a, b]⟩ : Shape).Idx :=
  fun k => match k with | ⟨0, _⟩ => d | ⟨1, _⟩ => x 0 | ⟨2, _⟩ => x 1

theorem squeeze_idx {a b : ℕ} (h : (⟨2, ![a, b]⟩ : Shape).numel = (⟨3, ![1, a, b]⟩ : Shape).numel) (x : (⟨2, ![a, b]⟩ : Shape).Idx) :
    Shape.reshapeEquiv h x = (fun k => match k with | ⟨0, _⟩ => ⟨0, Nat.one_pos⟩ | ⟨1, _⟩ => x 0 | ⟨2, _⟩ => x 1 : (⟨3, ![1, a, b]⟩ : Shape).Idx) := by
  refine Shape.reshapeEquiv_eq_of_rowMajor h ?_
  rw [Shape.rowMajor_val_three, Shape.rowMajor_val_two]
  show (0 * _ + (x 0).val) * b + (x 1).val = (x 0).val * b + (x 1).val
  rw [Nat.zero_mul, Nat.zero_add]

theorem emb_xg (d : Dev nD) (x : S16x512.Idx) : (xgS d).view.emb x = cns d x := by
  show (Rect.unit (s := S32x16x512) ![d.val, 0, 0] S1x16x512.size (inb_xg d)).emb (Shape.reshapeEquiv _ x) = _
  rw [squeeze_idx]
  funext k; apply Fin.ext; rw [Rect.emb_apply]
  fin_cases k <;> simp [cns]
theorem emb_cb (d : Dev nD) (x : S16x512.Idx) : (cbS d).view.emb x = cns d x := emb_xg d x
theorem emb_rg (d : Dev nD) (x : S2x512.Idx) : (rgS d).view.emb x = cns d x := by
  show (Rect.unit (s := S32x2x512) ![d.val, 0, 0] S1x2x512.size (inb_rg d)).emb (Shape.reshapeEquiv _ x) = _
  rw [squeeze_idx]
  funext k; apply Fin.ext; rw [Rect.emb_apply]
  fin_cases k <;> simp [cns]
theorem emb_sg (d : Dev nD) (x : S16x128.Idx) : (sgS d).view.emb x = cns d x := by
  show (Rect.unit (s := S32x16x128) ![d.val, 0, 0] S1x16x128.size (inb_sg d)).emb (Shape.reshapeEquiv _ x) = _
  rw [squeeze_idx]
  funext k; apply Fin.ext; rw [Rect.emb_apply]
  fin_cases k <;> simp [cns]

abbrev sub {a b : ℕ} (i : (⟨3, ![32, a, b]⟩ : Shape).Idx) : (⟨2, ![a, b]⟩ : Shape).Idx := fun k => match k with | ⟨0, _⟩ => i 1 | ⟨1, _⟩ => i 2
theorem cns_sub {a b : ℕ} (i : (⟨3, ![32, a, b]⟩ : Shape).Idx) (d : Fin 32) (h : i 0 = d) : i = cns d (sub i) := by
  subst h; funext k; fin_cases k <;> rfl

theorem mem_xg (d : Dev nD) (i : S32x16x512.Idx) : i ∈ (xgS d).view.set ↔ i 0 = d := by
  constructor
  · intro h; obtain ⟨x, -, rfl⟩ := Finset.mem_map.mp h; rw [emb_xg]
  · intro h; rw [cns_sub i d h, ← emb_xg]; exact View.emb_mem_set _ _
theorem mem_cb (d : Dev nD) (i : S32x16x512.Idx) : i ∈ (cbS d).view.set ↔ i 0 = d := mem_xg d i
theorem mem_rg (d : Dev nD) (i : S32x2x512.Idx) : i ∈ (rgS d).view.set ↔ i 0 = d := by
  constructor
  · intro h; obtain ⟨x, -, rfl⟩ := Finset.mem_map.mp h; rw [emb_rg]
  · intro h; rw [cns_sub i d h, ← emb_rg]; exact View.emb_mem_set _ _
theorem mem_sg (d : Dev nD) (i : S32x16x128.Idx) : i ∈ (sgS d).view.set ↔ i 0 = d := by
  constructor
  · intro h; obtain ⟨x, -, rfl⟩ := Finset.mem_map.mp h; rw [emb_sg]
  · intro h; rw [cns_sub i d h, ← emb_sg]; exact View.emb_mem_set _ _

/-! ## What lands -/

theorem land_xg (d : Dev nD) (f : Vec F S32x16x512 .bf16) :
    ∀ i ∈ (xgS d).view.set, (xgS d).view.write (Elt F) f (xbB.view.read (Elt F) (xbV I d)) Finset.univ i = xgV I i := by
  have h : (xgS d).view.read (Elt F) (xgV I) = xbB.view.read (Elt F) (xbV I d) := by
    funext x
    show xgV I ((xgS d).view.emb x) = xbV I d x
    rw [emb_xg]; exact congrArg (xbV I d) (by funext k; fin_cases k <;> rfl)
  exact write_on (F := F) (xgS d).view f (xgV I) (xbB.view.read (Elt F) (xbV I d)) h
theorem land_rg (d : Dev nD) (f : Vec F S32x2x512 .f32) :
    ∀ i ∈ (rgS d).view.set, (rgS d).view.write (Elt F) f (rtB.view.read (Elt F) (rtV I d)) Finset.univ i = rgV I i := by
  have h : (rgS d).view.read (Elt F) (rgV I) = rtB.view.read (Elt F) (rtV I d) := by
    funext x
    show rgV I ((rgS d).view.emb x) = rtV I d x
    rw [emb_rg]; exact congrArg (rtV I d) (by funext k; fin_cases k <;> rfl)
  exact write_on (F := F) (rgS d).view f (rgV I) (rtB.view.read (Elt F) (rtV I d)) h
theorem land_sg (d : Dev nD) (f : Vec F S32x16x128 .f32) (g : Vec F S16x128 .f32) (hg : SsOK I d g) :
    SgOK I ((sgS d).view.write (Elt F) f (ssB.view.read (Elt F) g) Finset.univ) (sgS d).view.set := by
  intro i hi h4
  obtain ⟨x, -, rfl⟩ := Finset.mem_map.mp hi
  rw [View.write_emb_of_mem _ _ (Finset.mem_univ _)]
  show g x = _
  rw [emb_sg] at h4 ⊢
  rw [hg x h4]
  exact congrArg _ (by funext k; fin_cases k <;> rfl)

theorem emb_y (d : Dev nD) (x : S16x512.Idx) :
    (yS d).view.emb x = (fun a => match a with | ⟨0, _⟩ => ⟨16 * d.val + (x 0).val, by have h : (x 0).val < 16 := (x 0).isLt; have h' : d.val < 32 := d.isLt; show _ < 512; omega⟩ | ⟨1, _⟩ => x 1 : S512x512.Idx) := by
  show (Rect.unit (s := S512x512) ![16 * d.val, 0] S16x512.size (inb_y d)).emb x = _
  funext k; apply Fin.ext; rw [Rect.emb_apply]
  fin_cases k <;> simp
theorem mem_y (d : Dev nD) (i : S512x512.Idx) : i ∈ (yS d).view.set ↔ (i 0).val / 16 = d.val := by
  constructor
  · intro h; obtain ⟨x, -, rfl⟩ := Finset.mem_map.mp h; rw [emb_y]
    have h : (x 0).val < 16 := (x 0).isLt
    show (16 * d.val + (x 0).val) / 16 = d.val
    omega
  · intro h
    have : i = (yS d).view.emb (fun a => match a with | ⟨0, _⟩ => ⟨(i 0).val % 16, Nat.mod_lt _ (by decide)⟩ | ⟨1, _⟩ => i 1 : S16x512.Idx) := by
      rw [emb_y]; funext k; apply Fin.ext; fin_cases k
      · show (i 0).val = 16 * d.val + (i 0).val % 16; omega
      · rfl
    rw [this]; exact View.emb_mem_set _ _
theorem read_y (c d : Dev nD) : (yS d).view.read (Elt F) (yV I c) = pcV I d c := by
  funext x
  show yV I c ((yS d).view.emb x) = _
  rw [emb_y]; rfl
theorem land_cb (c d : Dev nD) (f : Vec F S32x16x512 .bf16) :
    ∀ i ∈ (cbS c).view.set, (cbS c).view.write (Elt F) f ((yS d).view.read (Elt F) (yV I c)) Finset.univ i = cbV I d i := by
  have h : (cbS c).view.read (Elt F) (cbV I d) = (yS d).view.read (Elt F) (yV I c) := by
    rw [read_y]
    funext x
    show cbV I d ((cbS c).view.emb x) = pcV I d c x
    rw [emb_cb]; exact congrArg (pcV I d c) (by funext k; fin_cases k <;> rfl)
  exact write_on (F := F) (cbS c).view f (cbV I d) ((yS d).view.read (Elt F) (yV I c)) h

/-! ## The own slots, stored -/

abbrev rOR (c : Dev nD) : Rect S32x2x512 := Rect.unit (s := S32x2x512) (k0_off5 c) S1x2x512.size (k0_off5_inb c)
abbrev rOS (c : Dev nD) : Rect S32x16x128 := Rect.unit (s := S32x16x128) (k0_off8 c) S1x16x128.size (k0_off8_inb c)
abbrev rOY (c : Dev nD) : Rect S512x512 := Rect.unit (s := S512x512) (k0_off74 c) S16x512.size (k0_off74_inb c)
abbrev rOC (c : Dev nD) : Rect S32x16x512 := Rect.unit (s := S32x16x512) (k0_off75 c) S1x16x512.size (k0_off75_inb c)

abbrev tl {a b : ℕ} (x : (⟨3, ![1, a, b]⟩ : Shape).Idx) : (⟨2, ![a, b]⟩ : Shape).Idx := fun k => match k with | ⟨0, _⟩ => x 1 | ⟨1, _⟩ => x 2

theorem unsqueeze_apply {α : Type} {a b : ℕ} (v : (⟨2, ![a, b]⟩ : Shape).Idx → α) (h : (⟨2, ![a, b]⟩ : Shape).ShapeCasts (⟨3, ![1, a, b]⟩ : Shape))
    (x : (⟨3, ![1, a, b]⟩ : Shape).Idx) : shapeCast (⟨3, ![1, a, b]⟩ : Shape) v h x = v (tl x) := by
  refine shapeCast_apply _ _ _ _ ?_
  rw [Shape.rowMajor_val_three, Shape.rowMajor_val_two]
  have : (x 0).val = 0 := by have h : (x 0).val < 1 := (x 0).isLt; omega
  rw [this]
  show (x 1).val * b + (x 2).val = (0 * _ + (x 1).val) * b + (x 2).val
  rw [Nat.zero_mul, Nat.zero_add]

theorem emb_or (c : Dev nD) (x : S1x2x512.Idx) : (rgB.access (rOR c)).emb x = cns c (tl x) := by
  show (rOR c).emb x = _
  have h0 : (x 0).val = 0 := by have h : (x 0).val < 1 := (x 0).isLt; omega
  funext k; apply Fin.ext; rw [Rect.emb_apply]
  show (k0_off5 c) k + 1 * _ = _
  rw [k0_off5_eq]
  fin_cases k <;> simp [cns, h0]
theorem emb_os (c : Dev nD) (x : S1x16x128.Idx) : (sgB.access (rOS c)).emb x = cns c (tl x) := by
  show (rOS c).emb x = _
  have h0 : (x 0).val = 0 := by have h : (x 0).val < 1 := (x 0).isLt; omega
  funext k; apply Fin.ext; rw [Rect.emb_apply]
  show (k0_off8 c) k + 1 * _ = _
  rw [k0_off8_eq]
  fin_cases k <;> simp [cns, h0]
theorem emb_oc (c : Dev nD) (x : S1x16x512.Idx) : (cbB.access (rOC c)).emb x = cns c (tl x) := by
  show (rOC c).emb x = _
  have h0 : (x 0).val = 0 := by have h : (x 0).val < 1 := (x 0).isLt; omega
  funext k; apply Fin.ext; rw [Rect.emb_apply]
  show (k0_off75 c) k + 1 * _ = _
  rw [k0_off75_eq]
  fin_cases k <;> simp [cns, h0]
theorem emb_oy (c : Dev nD) (x : S16x512.Idx) : (yB.access (rOY c)).emb x = (yS c).view.emb x := by
  show (rOY c).emb x = (Rect.unit (s := S512x512) ![16 * c.val, 0] S16x512.size (inb_y c)).emb x
  funext k; apply Fin.ext; rw [Rect.emb_apply, Rect.emb_apply]
  show (k0_off74 c) k + 1 * _ = _
  rw [k0_off74_eq]; rfl

theorem set_or (c : Dev nD) : (rgB.access (rOR c)).set ⊆ (rgS c).view.set := fun i hi => by
  obtain ⟨x, -, rfl⟩ := Finset.mem_map.mp hi; rw [emb_or]; exact (mem_rg c _).mpr rfl
theorem set_os (c : Dev nD) : (sgB.access (rOS c)).set ⊆ (sgS c).view.set := fun i hi => by
  obtain ⟨x, -, rfl⟩ := Finset.mem_map.mp hi; rw [emb_os]; exact (mem_sg c _).mpr rfl
theorem set_oc (c : Dev nD) : (cbB.access (rOC c)).set ⊆ (cbS c).view.set := fun i hi => by
  obtain ⟨x, -, rfl⟩ := Finset.mem_map.mp hi; rw [emb_oc]; exact (mem_cb c _).mpr rfl
theorem set_oy (c : Dev nD) : (yB.access (rOY c)).set ⊆ (yS c).view.set := fun i hi => by
  obtain ⟨x, -, rfl⟩ := Finset.mem_map.mp hi; rw [emb_oy]; exact View.emb_mem_set _ _
theorem set_or' (c : Dev nD) : (rgS c).view.set ⊆ (rgB.access (rOR c)).set := fun i hi => by
  have h := (mem_rg c i).mp hi
  have : i = (rgB.access (rOR c)).emb (fun k => match k with | ⟨0, _⟩ => ⟨0, Nat.one_pos⟩ | ⟨1, _⟩ => i 1 | ⟨2, _⟩ => i 2 : S1x2x512.Idx) := by
    rw [emb_or, ← h]; funext k; fin_cases k <;> rfl
  rw [this]; exact View.emb_mem_set _ _
theorem set_os' (c : Dev nD) : (sgS c).view.set ⊆ (sgB.access (rOS c)).set := fun i hi => by
  have h := (mem_sg c i).mp hi
  have : i = (sgB.access (rOS c)).emb (fun k => match k with | ⟨0, _⟩ => ⟨0, Nat.one_pos⟩ | ⟨1, _⟩ => i 1 | ⟨2, _⟩ => i 2 : S1x16x128.Idx) := by
    rw [emb_os, ← h]; funext k; fin_cases k <;> rfl
  rw [this]; exact View.emb_mem_set _ _
theorem set_oc' (c : Dev nD) : (cbS c).view.set ⊆ (cbB.access (rOC c)).set := fun i hi => by
  have h := (mem_cb c i).mp hi
  have : i = (cbB.access (rOC c)).emb (fun k => match k with | ⟨0, _⟩ => ⟨0, Nat.one_pos⟩ | ⟨1, _⟩ => i 1 | ⟨2, _⟩ => i 2 : S1x16x512.Idx) := by
    rw [emb_oc, ← h]; funext k; fin_cases k <;> rfl
  rw [this]; exact View.emb_mem_set _ _

theorem own_rg (c : Dev nD) (f : Vec F S32x2x512 .f32) :
    ∀ i ∈ (rgS c).view.set, (rgB.access (rOR c)).write (Elt F) f (k0_pay3 (rtV I c)) Finset.univ i = rgV I i := fun i hi => by
  have h : (rgB.access (rOR c)).read (Elt F) (rgV I) = k0_pay3 (rtV I c) := by
    funext x
    show rgV I ((rgB.access (rOR c)).emb x) = _
    unfold k0_pay3
    rw [emb_or]; refine Eq.trans ?_ (unsqueeze_apply (rtV I c) _ x).symm
    exact congrArg (rtV I c) (by funext k; fin_cases k <;> rfl)
  exact write_on (rgB.access (rOR c)) f (rgV I) _ h i (set_or' c hi)
theorem own_sg (c : Dev nD) (f : Vec F S32x16x128 .f32) (g : Vec F S16x128 .f32) (hg : SsOK I c g) :
    SgOK I ((sgB.access (rOS c)).write (Elt F) f (k0_pay5 g) Finset.univ) (sgS c).view.set := by
  intro i hi h4
  obtain ⟨x, -, rfl⟩ := Finset.mem_map.mp (set_os' c hi)
  rw [View.write_emb_of_mem _ _ (Finset.mem_univ _)]
  rw [emb_os] at h4 ⊢
  refine Eq.trans (show _ = g (tl x) from unsqueeze_apply g _ x) ?_
  rw [hg _ h4]
  exact congrArg _ (by funext k; fin_cases k <;> rfl)
theorem own_cb (c : Dev nD) (f : Vec F S32x16x512 .bf16) :
    ∀ i ∈ (cbS c).view.set, (cbB.access (rOC c)).write (Elt F) f (k0_pay24 ((yB.access (rOY c)).read (Elt F) (yV I c))) Finset.univ i = cbV I c i := fun i hi => by
  have h : (cbB.access (rOC c)).read (Elt F) (cbV I c) = k0_pay24 ((yB.access (rOY c)).read (Elt F) (yV I c)) := by
    funext x
    show cbV I c ((cbB.access (rOC c)).emb x) = _
    unfold k0_pay24
    rw [emb_oc]; refine Eq.trans ?_ (unsqueeze_apply _ _ x).symm
    show _ = yV I c ((yB.access (rOY c)).emb (tl x))
    rw [emb_oy, emb_y]; rfl
  exact write_on (cbB.access (rOC c)) f (cbV I c) _ h i (set_oc' c hi)

/-! ## The chunks, and the scores' lanes -/

theorem emb_yk (k : Fin 4) (x : S128x512.Idx) :
    (yB.access (rYK k)).emb x = (fun a => match a with | ⟨0, _⟩ => ⟨128 * k.val + (x 0).val, by have h : (x 0).val < 128 := (x 0).isLt; have h' : k.val < 4 := k.isLt; show _ < 512; omega⟩ | ⟨1, _⟩ => x 1 : S512x512.Idx) := by
  show (rYK k).emb x = _
  funext a; apply Fin.ext; rw [Rect.emb_apply]
  fin_cases a <;> simp

theorem mem_yk (k : Fin 4) (i : S512x512.Idx) : i ∈ (yB.access (rYK k)).set ↔ (i 0).val / 128 = k.val := by
  constructor
  · intro h; obtain ⟨x, -, rfl⟩ := Finset.mem_map.mp h; rw [emb_yk]
    have h : (x 0).val < 128 := (x 0).isLt
    show (128 * k.val + (x 0).val) / 128 = k.val
    omega
  · intro h
    have : i = (yB.access (rYK k)).emb (fun a => match a with | ⟨0, _⟩ => ⟨(i 0).val % 128, Nat.mod_lt _ (by decide)⟩ | ⟨1, _⟩ => i 1 : S128x512.Idx) := by
      rw [emb_yk]; funext a; apply Fin.ext; fin_cases a
      · show (i 0).val = 128 * k.val + (i 0).val % 128; omega
      · rfl
    rw [this]; exact View.emb_mem_set _ _

attribute [local irreducible] chV

theorem yV_at (c : Dev nD) (k : Fin 4) (x : S128x512.Idx) : yV I c ((yB.access (rYK k)).emb x) = chV I c k x := by
  rw [emb_yk]
  have h : (x 0).val < 128 := (x 0).isLt
  unfold yV
  refine congrArg₂ (fun a b => chV I c a b) (Fin.ext ?_) (funext fun a => Fin.ext ?_)
  · show (128 * k.val + (x 0).val) / 128 = k.val; omega
  · fin_cases a
    · show (128 * k.val + (x 0).val) % 128 = (x 0).val; omega
    · rfl

theorem chunk_y (c : Dev nD) (k : Fin 4) (f : Vec F S512x512 .bf16) :
    ∀ i ∈ (yB.access (rYK k)).set, (yB.access (rYK k)).write (Elt F) f (chV I c k) Finset.univ i = yV I c i := by
  have h : (yB.access (rYK k)).read (Elt F) (yV I c) = chV I c k := funext fun x => yV_at I c k x
  exact write_on (F := F) (yB.access (rYK k)) f (yV I c) (chV I c k) h

theorem own_ss (c : Dev nD) (f : Vec F S16x128 .f32) : SsOK I c ((ssB.access rSS4).write (Elt F) f (scV I c) Finset.univ) := by
  intro i h4
  have hi : (ssB.access rSS4).emb (fun a => match a with | ⟨0, _⟩ => i 0 | ⟨1, _⟩ => ⟨(i 1).val, h4⟩ : S16x4.Idx) = i := by
    show rSS4.emb _ = i
    funext a; apply Fin.ext; rw [Rect.emb_apply]
    fin_cases a <;> simp
  have hw := View.write_emb_of_mem (v := ssB.access rSS4) (Val := Elt F) f (scV I c) (M := Finset.univ)
    (x := (fun a => match a with | ⟨0, _⟩ => i 0 | ⟨1, _⟩ => ⟨(i 1).val, h4⟩ : S16x4.Idx)) (Finset.mem_univ _)
  rw [hi] at hw
  refine hw.trans ?_
  unfold ssV; rw [dif_pos h4]; rfl

/-! ## Only the first four lanes are read -/

theorem lane_congr (f g : Vec F S32x16x128 .f32) (h : ∀ i, (i 2).val < 4 → f i = g i) :
    k0_pay6 f = k0_pay6 g ∧ k0_pay7 f = k0_pay7 g ∧ k0_pay8 f = k0_pay8 g ∧ k0_pay9 f = k0_pay9 g := by
  have key (k : ℕ) (hk : k < 4) (hs : S32x16x128.Slices ![0, 0, k] S32x16x1) :
      extractStridedSlice S32x16x1 ![0, 0, k] f hs = extractStridedSlice S32x16x1 ![0, 0, k] g hs := by
    funext y
    refine h _ ?_
    have hy : (y 2).val < 1 := (y 2).isLt
    show k + (y 2).val < 4
    omega
  unfold k0_pay6 k0_pay7 k0_pay8 k0_pay9
  dsimp only
  rw [key 0 (by decide), key 1 (by decide), key 2 (by decide), key 3 (by decide)]
  exact ⟨rfl, rfl, rfl, rfl⟩

theorem payK_congr (c : Dev nD) (k : Fin 4) (f g : Vec F S32x16x128 .f32) (h : ∀ i, (i 2).val < 4 → f i = g i)
    (a b : Vec F S1x512x1024 .f32) (a' b' : Vec F S1x1024x512 .f32) (v : Vec F S8x16x512 .bf16) :
    payK c k f a b a' b' v = payK c k g a b a' b' v := by
  obtain ⟨h6, h7, h8, h9⟩ := lane_congr f g h
  have h10 : k0_pay10 (meW c) f = k0_pay10 (meW c) g := by unfold k0_pay10; rw [h6, h7, h8, h9]
  have h11 : k0_pay11 (meW c) f = k0_pay11 (meW c) g := by unfold k0_pay11; rw [h6, h7, h8, h9]
  unfold payK
  rw [h10, h11]

end Cert.KernelIdealRun
-- ==== Proof.ISteps.lean ====
/-
# The steps of the body

One rule for each operation of the exchanges, at the schedule's cells, and one for a loop.
-/
module

public import proofs.«01_k».proof.Proof.IVals

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

section big
theorem big_insert {ι : Type} [DecidableEq ι] {Φ : ι → sProp 𝕄} {i : ι} {s : Finset ι} (h : i ∉ s) : bigSep (insert i s) Φ = iprop(Φ i ∗ bigSep s Φ) := bigSep_insert h
theorem big_union {ι : Type} [DecidableEq ι] {Φ : ι → sProp 𝕄} {s t : Finset ι} (h : Disjoint s t) : bigSep (s ∪ t) Φ = iprop(bigSep s Φ ∗ bigSep t Φ) := bigSep_union h
theorem big_erase {ι : Type} [DecidableEq ι] {Φ : ι → sProp 𝕄} {s : Finset ι} {i : ι} (h : i ∈ s) : bigSep s Φ = iprop(Φ i ∗ bigSep (s.erase i) Φ) := bigSep_erase h
theorem big_elim {ι : Type} [DecidableEq ι] {Φ : ι → sProp 𝕄} {s : Finset ι} {i : ι} (h : i ∈ s) : bigSep s Φ ⊢ Φ i := bigSep_elim h
theorem big_sep {ι : Type} [DecidableEq ι] (s : Finset ι) (Φ Ψ : ι → sProp 𝕄) : bigSep s (fun i => iprop(Φ i ∗ Ψ i)) = iprop(bigSep s Φ ∗ bigSep s Ψ) := bigSep_sep' s Φ Ψ
end big

abbrev 𝒱₀ : Variants := Variants.none

variable (I : Ins F) (K : Dev nD × CK → ℕ)

/-- The invariants of all cells, and that each has reached its round. -/
def records : sProp 𝕄 :=
  iprop((bigSep Finset.univ fun p : Dev nD × CK => cellInv ER (Rd I) (K p) (kcell p))
    ∗ bigSep Finset.univ fun p : Dev nD × CK => reached ER (kcell p) 0)
instance records_persistent : BI.Persistent (records I K) := by unfold records; infer_instance

/-- The levels, as one name. -/
def levs : sProp 𝕄 := levAts L lv
instance levs_persistent : BI.Persistent (levs (F := F)) := by unfold levs; infer_instance
theorem levs_mayWait (c : Dev nD) (sm : SemLoc sig) (n : ℕ) (hn : lv ((c : Thread nD τ), sm) () ≤ n) (l : List (Dev nD × CK)) (hl : ∀ p ∈ l, n < lev p.2) :
    levs (F := F) ⊢ MayWait (c : Thread nD τ) sm () (owe l) := mayWait (F := F) c sm n hn l hl
def ctx : sProp 𝕄 := iprop(records I K ∗ levs)
instance ctx_persistent : BI.Persistent (ctx I K) := by unfold ctx; infer_instance

theorem ctx_inv (p : Dev nD × CK) : ctx I K ⊢ cellInv ER (Rd I) (K p) (kcell p) := by
  have h : ctx I K ⊢ bigSep Finset.univ fun p : Dev nD × CK => (cellInv ER (Rd I) (K p) (kcell p) : sProp 𝕄) := by
    unfold ctx records
    iintro ⟨⟨H, -⟩, -⟩; iexact H
  exact BI.Entails.trans h (big_elim (Finset.mem_univ p))
theorem ctx_reached (p : Dev nD × CK) : ctx I K ⊢ reached ER (kcell p) 0 := by
  have h : ctx I K ⊢ bigSep Finset.univ fun p : Dev nD × CK => (reached ER (kcell p) 0 : sProp 𝕄) := by
    unfold ctx records
    iintro ⟨⟨-, H⟩, -⟩; iexact H
  exact BI.Entails.trans h (big_elim (Finset.mem_univ p))
theorem ctx_mayWait (c : Dev nD) (sm : SemLoc sig) (n : ℕ) (hn : lv ((c : Thread nD τ), sm) () ≤ n) (l : List (Dev nD × CK)) (hl : ∀ p ∈ l, n < lev p.2) :
    ctx I K ⊢ MayWait (c : Thread nD τ) sm () (owe l) := by
  have h := levs_mayWait (F := F) c sm n hn l hl
  unfold ctx
  iintro ⟨-, H⟩
  iapply h
  iexact H

abbrev WP {β : Type} (c : Dev nD) (p : PP F β) (Q : β → sProp 𝕄) : sProp 𝕄 := wp frame (wpE (defs₀ (F := F)) 𝒱₀ (c : Thread nD τ) none) Set.univ p Q

/-- What device `c` owes: one amount of each of a list of cells. -/
def ow (c : Dev nD) (l : List (Dev nD × CK)) : sProp 𝕄 := iprop(∃ W, owes (c : Thread nD τ) (owe l) W)

section steps
variable {β : Type} (c : Dev nD)

/-- A loop: from the state at the list and each element's part, each step taking its element's part to the part after it. -/
theorem wp_seqK {Q : β → sProp 𝕄} {α : Type} [DecidableEq α] (f : α → PP F PUnit) (S : List α → sProp 𝕄) (Pre Post : α → sProp 𝕄) (l : List α) (hn : l.Nodup)
    (hstep : ∀ a ∈ l, ∀ (t : List α) (k' : PP F β), iprop(S (a :: t) ∗ Pre a)
      ⊢ iprop(((S t ∗ Post a) -∗ WP c k' Q) -∗ WP c (f a >>= fun _ => k') Q)) (k : PP F β) :
    iprop(S l ∗ bigSep l.toFinset Pre) ⊢ iprop(((S [] ∗ bigSep l.toFinset Post) -∗ WP c k Q) -∗ WP c (seqK l f k) Q) := by
  induction l with
  | nil =>
    iintro ⟨HS, HP⟩ Hk
    iapply Hk
    isplitl [HS]; · iexact HS
    iexact HP
  | cons a l ih =>
    have hc := List.nodup_cons.mp hn
    have ha : a ∉ l.toFinset := fun h => hc.1 (List.mem_toFinset.mp h)
    rw [List.toFinset_cons, big_insert ha, big_insert ha, show seqK (a :: l) f k = (f a >>= fun _ => seqK l f k) from rfl]
    iintro ⟨HS, Ha, HP⟩ Hk
    iapply (hstep a List.mem_cons_self l (seqK l f k)) $$ [HS Ha]
    · isplitl [HS] <;> iassumption
    iintro ⟨HS, Ha⟩
    iapply (ih hc.2 (fun a ha => hstep a (List.mem_cons_of_mem _ ha))) $$ [HS HP]
    · isplitl [HS] <;> iassumption
    iintro ⟨HS, HP⟩
    iapply Hk
    isplitl [HS]; · iexact HS
    isplitl [Ha] <;> iassumption

theorem step_sig {Q : β → sProp 𝕄} (d : Dev nD) (hd : d ≠ c) (l : List (Dev nD × CK)) (k : PUnit → PP F β) :
    iprop(ctx I K ∗ ow c ((d, ckB) :: l) ∗ dutyTok ER (kcell (d, ckB)) 0 c ∗ barPay d c)
      ⊢ iprop((ow c l -∗ WP c (k ⟨⟩) Q) -∗ WP c (sigOp d >>= k) Q) := by
  unfold sigOp ow
  simp only [semSignalWord, Prog.lift, Prog.bind_op, Prog.bind_ret, Prog.pure_eq_ret]
  have hpay : (barPay d c : sProp 𝕄) ⊢ (Rd I).payload ((d : Thread nD τ), SemLoc.reg barS) 0 c := Entails.of_eq (payload_eq I d ckB c).symm
  iintro ⟨#Hc, ⟨%W, HO⟩, Ht, Hp⟩ Hk
  iapply (Rounds.wp_signal 𝒱₀ ER (Rd I) (c : Thread nD τ) none (dst := (d : Thread nD τ)) (sem := barS) (κ := K (d, ckB)) (r := 0)
      (d := c) (by rw [show (((d : Thread nD τ), SemLoc.reg barS) : GSem nD τ sig) = kcell (d, ckB) from rfl, duties_eq]; exact Finset.mem_erase.mpr ⟨hd.symm, Finset.mem_univ _⟩)
      ((amount_eq I d ckB c).trans rfl) () (O₀ := owe ((d, ckB) :: l)) (owe l) rfl) $$ [HO Ht Hp]
  · isplitr; · iapply (ctx_inv I K (d, ckB)); iexact Hc
    isplitl [HO]; · iexact HO
    isplitl [Ht]; · iexact Ht
    isplitl [Hp]; · iapply hpay; iexact Hp
    iapply (ctx_reached I K (d, ckB)); iexact Hc
  iintro HO
  iapply Hk
  iexists W; iexact HO

theorem step_bar {Q : β → sProp 𝕄} (l : List (Dev nD × CK)) (hl : ∀ p ∈ l, 1 < lev p.2) (k : PUnit → PP F β) :
    iprop(ctx I K ∗ ow c l ∗ cred (tallyAt (kcell (c, ckB)) () 31) ∗ atPos ER (kcell (c, ckB)) 0 ∅ 0)
      ⊢ iprop(((ow c l ∗ bigSep (Finset.univ.erase c) (fun d => barPay (F := F) c d) ∗ semVal (kcell (c, ckB)) 0) -∗ WP c (k ⟨⟩) Q)
          -∗ WP c (semWaitWord (sig.barrier 0 rfl) 31#32 >>= k) Q) := by
  unfold ow
  simp only [semWaitWord, Prog.lift, Prog.bind_op, Prog.bind_ret, Prog.pure_eq_ret]
  have hlv : lv ((c : Thread nD τ), SemLoc.reg barS) () ≤ 1 := by
    rw [show ((c : Thread nD τ), SemLoc.reg barS) = kcell (c, ckB) from rfl, lv_kcell]; exact le_refl _
  have hmw : ctx I K ⊢ MayWait (c : Thread nD τ) (SemLoc.reg barS) () (owe l) := ctx_mayWait I K c (SemLoc.reg barS) 1 hlv l hl
  have hrest : bigSep ((Rd I).duties ((c : Thread nD τ), SemLoc.reg (sig.barrier 0 rfl)) 0 \ ∅) (fun e => (Rd I).payload ((c : Thread nD τ), SemLoc.reg (sig.barrier 0 rfl)) 0 e) ⊢ bigSep (Finset.univ.erase c) fun d => barPay (F := F) c d := Entails.of_eq (rest_bar I c)
  iintro ⟨#Hc, ⟨%W, HO⟩, Hcr, Hat⟩ Hk
  iapply (Rounds.wp_wait_rest_token 𝒱₀ ER (Rd I) (c : Thread nD τ) none (κ := K (c, ckB))
      (wpE_semWait_eq 𝒱₀ (c : Thread nD τ) none Set.univ) (Set.mem_univ _) () (O := owe l) (W := W) (R := 0) (m := 0) (T := ∅)
      ((expect_bar I c).symm ▸ by decide)) $$ [Hcr HO Hat]
  · isplitr; · iapply (ctx_inv I K (c, ckB)); iexact Hc
    isplitl [Hcr]; · iexact Hcr
    isplitl [HO]; · iexact HO
    isplitr; · iapply (hmw); iexact Hc
    iexact Hat
  iintro ⟨HO, Hat, -, Hpay⟩
  ihave Hp := hrest $$ Hpay
  imod (Rounds.cell_close ER (Rd I) (Set.mem_univ (K (c, ckB))) (fun h => h) (R := 0 + 1) (duties_later I (kcell (c, ckB)))) $$ [Hat] with Hz
  · isplitr; · iapply (ctx_inv I K (c, ckB)); iexact Hc
    iexact Hat
  iapply Hk
  isplitl [HO]; · iexists _; iexact HO
  isplitl [Hp] <;> iassumption

/-- A wait at a transfer's cell: what the transfer hands over, and the counter, the cell being used no more. -/
theorem step_wait {Q : β → sProp 𝕄} (j : Fin 8) (d : Dev nD) (hd : d ≠ c ∨ j = 1) {b : Ref sig .tc} {sh : Shape} {e : EltTy} (hb : b.HasMemref sh e)
    (hN : b.dmaCredit sh e = amt (ckK j d)) (l : List (Dev nD × CK)) (hl : ∀ p ∈ l, lev (ckK j d) < lev p.2) (k : PUnit → PP F β) :
    iprop(ctx I K ∗ ow c l ∗ cred (tallyAt (kcell (c, ckK j d)) () (amt (ckK j d))) ∗ atPos ER (kcell (c, ckK j d)) 0 ∅ 0)
      ⊢ iprop(((ow c l ∗ pay I c (ckK j d) d ∗ semVal (kcell (c, ckK j d)) 0) -∗ WP c (k ⟨⟩) Q)
          -∗ WP c (waitOp (dsem j d) b sh e hb >>= k) Q) := by
  unfold ow waitOp
  simp only [Prog.lift, Prog.bind_op, Prog.bind_ret, Prog.pure_eq_ret]
  rw [← hN]
  have hlv : lv ((c : Thread nD τ), SemLoc.dma (dsem j d)) () ≤ lev (ckK j d) := by
    rw [show ((c : Thread nD τ), SemLoc.dma (dsem j d)) = kcell (c, ckK j d) from rfl, lv_kcell]
  have hmw : ctx I K ⊢ MayWait (c : Thread nD τ) (SemLoc.dma (dsem j d)) () (owe l) := ctx_mayWait I K c (SemLoc.dma (dsem j d)) (lev (ckK j d)) hlv l hl
  have hrest : bigSep ((Rd I).duties ((c : Thread nD τ), SemLoc.dma (dsem j d)) 0 \ ∅) (fun e => (Rd I).payload ((c : Thread nD τ), SemLoc.dma (dsem j d)) 0 e) ⊢ pay I c (ckK j d) d := Entails.of_eq (rest_send I c j hd)
  iintro ⟨#Hc, ⟨%W, HO⟩, Hcr, Hat⟩ Hk
  iapply (Rounds.wp_wait_rest_token 𝒱₀ ER (Rd I) (c : Thread nD τ) none (κ := K (c, ckK j d))
      (wpE_waitDma_eq 𝒱₀ (c : Thread nD τ) none Set.univ) (Set.mem_univ _) () (O := owe l) (W := W) (R := 0) (m := 0) (T := ∅)
      (by rw [Nat.zero_add, hN]; exact (expect_send I c j hd).symm)) $$ [Hcr HO Hat]
  · isplitr; · iapply (ctx_inv I K (c, ckK j d)); iexact Hc
    isplitl [Hcr]; · iexact Hcr
    isplitl [HO]; · iexact HO
    isplitr; · iapply (hmw); iexact Hc
    iexact Hat
  iintro ⟨HO, Hat, -, Hpay⟩
  ihave Hp := hrest $$ Hpay
  imod (Rounds.cell_close ER (Rd I) (Set.mem_univ (K (c, ckK j d))) (fun h => h) (R := 0 + 1) (duties_later I (kcell (c, ckK j d)))) $$ [Hat] with Hz
  · isplitr; · iapply (ctx_inv I K (c, ckK j d)); iexact Hc
    iexact Hat
  iapply Hk
  isplitl [HO]; · iexists _; iexact HO
  isplitl [Hp] <;> iassumption

/-- A transfer to another device. -/
theorem step_send {Q : β → sProp 𝕄} {s : Shape} {e : EltTy} (src dst : Memref sig .tc .vmem s e) (j j' : Fin 8) (d : Dev nD) (hd : d ≠ c)
    (h : src.view.WordExact) (h' : dst.view.WordExact) (q : PosShare TreeShare) (fs : Buf (Elt F) (src.view.loc (c : Thread nD τ)))
    (fd : Buf (Elt F) (dst.view.loc (d : Thread nD τ))) (l : List (Dev nD × CK))
    (hN : dst.view.dmaCredit = amt (ckK j' c)) (hk : amt (ckK j d) = amt (ckK j' c))
    (hp₁ : (src.view.loc (c : Thread nD τ) ↦[src.view.set]{q} fs) ⊢ pay I c (ckK j d) d)
    (hp₂ : (dst.view.loc (d : Thread nD τ) ↦[dst.view.set]{fullShare} (dst.view.write (Elt F) fd (src.view.read (Elt F) fs) Finset.univ)) ⊢ pay I d (ckK j' c) c)
    (k : PUnit → PP F β) :
    iprop(ctx I K ∗ (src.view.loc (c : Thread nD τ) ↦[src.view.set]{q} fs) ∗ (dst.view.loc (d : Thread nD τ) ↦[dst.view.set]{fullShare} fd)
        ∗ ow c ((d, ckK j' c) :: l) ∗ dutyTok ER (kcell (c, ckK j d)) 0 d ∗ dutyTok ER (kcell (d, ckK j' c)) 0 c)
      ⊢ iprop(((cred (tallyAt (kcell (c, ckK j d)) () (amt (ckK j d))) ∗ ow c l) -∗ WP c (k ⟨⟩) Q)
          -∗ WP c (sendOp src dst (dsem j d) (dsem j' c) d h h' >>= k) Q) := by
  unfold ow sendOp
  simp only [Prog.lift, Prog.bind_op, Prog.bind_ret, Prog.pure_eq_ret]
  iintro ⟨#Hc, Hs, Hd, ⟨%W, HO⟩, Ht, Ht'⟩ Hk
  iapply (Rounds.wp_send_pointsTo 𝒱₀ ER (Rd I) (c : Thread nD τ) none (c' := (d : Thread nD τ)) (src := src) (dst := dst) (sS := .dma (dsem j d)) (sem := .dma (dsem j' c))
      (κ₁ := K (c, ckK j d)) (κ₂ := K (d, ckK j' c)) (r₁ := 0) (r₂ := 0) (d₁ := d) (d₂ := c) (q := q) (fs := fs) (fd := fd)
      (by rw [show (((c : Thread nD τ), SemLoc.dma (dsem j d)) : GSem nD τ sig) = kcell (c, ckK j d) from rfl, duties_eq, dut_send c j (Or.inl hd)]; exact Finset.mem_singleton_self _)
      (by rw [show (((d : Thread nD τ), SemLoc.dma (dsem j' c)) : GSem nD τ sig) = kcell (d, ckK j' c) from rfl, duties_eq, dut_send d j' (Or.inl hd.symm)]; exact Finset.mem_singleton_self _)
      () () (amt (ckK j d)) (hN.trans hk.symm) (amount_eq I c (ckK j d) d) ((amount_eq I d (ckK j' c) c).trans hk.symm)
      (O₀ := owe ((d, ckK j' c) :: l)) (owe l) (by rw [hk]; rfl) (W := W)
      (hp₁.trans (Entails.of_eq (payload_eq I c (ckK j d) d).symm)) (hp₂.trans (Entails.of_eq (payload_eq I d (ckK j' c) c).symm))) $$ [Hs Hd HO Ht Ht']
  · isplitr; · iapply (ctx_inv I K (c, ckK j d)); iexact Hc
    isplitr; · iapply (ctx_inv I K (d, ckK j' c)); iexact Hc
    isplitl [Hs]; · iexact Hs
    isplitl [Hd]; · iexact Hd
    isplitl [HO]; · iexact HO
    isplitl [Ht]; · iexact Ht
    isplitr; · iapply (ctx_reached I K (c, ckK j d)); iexact Hc
    isplitl [Ht']; · iexact Ht'
    iapply (ctx_reached I K (d, ckK j' c)); iexact Hc
  iintro ⟨Hcr, HO⟩
  iapply Hk
  isplitl [Hcr]; · iexact Hcr
  iexists W; iexact HO

theorem pt_mono {ℓ : Loc nD τ sig} {S : Finset (Idx ℓ)} {q : PosShare TreeShare} {f g : Buf (Elt F) ℓ} (h : ∀ i ∈ S, f i = g i) :
    (ℓ ↦[S]{q} f : sProp 𝕄) ⊢ ℓ ↦[S]{q} g := Entails.of_eq (pointsTo_congr h)

theorem step_sendR {Q : β → sProp 𝕄} (d : Dev nD) (hd : d ≠ c) (f : Vec F S32x2x512 .f32) (l : List (Dev nD × CK)) (k : PUnit → PP F β) :
    iprop(ctx I K ∗ rtP c d (rtV I c) ∗ rgP d c f ∗ ow c ((d, ckK 3 c) :: l) ∗ dutyTok ER (kcell (c, ckK 2 d)) 0 d ∗ dutyTok ER (kcell (d, ckK 3 c)) 0 c)
      ⊢ iprop(((cred (tallyAt (kcell (c, ckK 2 d)) () (amt (ckK 2 d))) ∗ ow c l) -∗ WP c (k ⟨⟩) Q) -∗ WP c (sendR c d >>= k) Q) :=
  step_send I K c rtB (rgS c) 2 3 d hd _ _ (shr d) (rtV I c) f l rfl rfl (BI.Entails.refl _) (pt_mono (land_rg I c f)) k

theorem step_sendX {Q : β → sProp 𝕄} (d : Dev nD) (hd : d ≠ c) (f : Vec F S32x16x512 .bf16) (l : List (Dev nD × CK)) (k : PUnit → PP F β) :
    iprop(ctx I K ∗ xbP c d (xbV I c) ∗ xgP d c f ∗ ow c ((d, ckK 1 c) :: l) ∗ dutyTok ER (kcell (c, ckK 0 d)) 0 d ∗ dutyTok ER (kcell (d, ckK 1 c)) 0 c)
      ⊢ iprop(((cred (tallyAt (kcell (c, ckK 0 d)) () (amt (ckK 0 d))) ∗ ow c l) -∗ WP c (k ⟨⟩) Q) -∗ WP c (sendX c d >>= k) Q) :=
  step_send I K c xbB (xgS c) 0 1 d hd _ _ (shr d) (xbV I c) f l rfl rfl (BI.Entails.refl _) (by
    show _ ⊢ iprop(xgP d c (xgV I) ∗ (if c = d then xbP d c (xbV I d) else iprop(emp)))
    rw [if_neg hd.symm]
    exact BI.Entails.trans (pt_mono (land_xg I c f)) (by
      show xgP d c (xgV I) ⊢ _
      iintro H; isplitl; · iexact H
      iempintro)) k

theorem step_sendS {Q : β → sProp 𝕄} (d : Dev nD) (hd : d ≠ c) (g : Vec F S16x128 .f32) (hg : SsOK I c g) (f : Vec F S32x16x128 .f32) (l : List (Dev nD × CK)) (k : PUnit → PP F β) :
    iprop(ctx I K ∗ ssP c d g ∗ sgP d c f ∗ ow c ((d, ckK 5 c) :: l) ∗ dutyTok ER (kcell (c, ckK 4 d)) 0 d ∗ dutyTok ER (kcell (d, ckK 5 c)) 0 c)
      ⊢ iprop(((cred (tallyAt (kcell (c, ckK 4 d)) () (amt (ckK 4 d))) ∗ ow c l) -∗ WP c (k ⟨⟩) Q) -∗ WP c (sendS c d >>= k) Q) :=
  step_send I K c ssB (sgS c) 4 5 d hd _ _ (shr d) g f l rfl rfl (by
    show ssP c d g ⊢ iprop(∃ f, ⌜SsOK I c f⌝ ∗ ssP c d f)
    iintro H; iexists g; isplitr; · ipureintro; exact hg
    iexact H) (by
    show sgP d c ((sgS c).view.write (Elt F) f (ssB.view.read (Elt F) g) Finset.univ) ⊢ iprop(∃ f, ⌜SgOK I f (sgS c).view.set⌝ ∗ sgP d c f)
    iintro H; iexists ((sgS c).view.write (Elt F) f (ssB.view.read (Elt F) g) Finset.univ); isplitr; · ipureintro; exact land_sg I c f g hg
    iexact H) k

theorem step_sendY {Q : β → sProp 𝕄} (d : Dev nD) (hd : d ≠ c) (f : Vec F S32x16x512 .bf16) (l : List (Dev nD × CK)) (k : PUnit → PP F β) :
    iprop(ctx I K ∗ yP c d (yV I c) ∗ cbP d c f ∗ ow c ((d, ckK 7 c) :: l) ∗ dutyTok ER (kcell (c, ckK 6 d)) 0 d ∗ dutyTok ER (kcell (d, ckK 7 c)) 0 c)
      ⊢ iprop(((cred (tallyAt (kcell (c, ckK 6 d)) () (amt (ckK 6 d))) ∗ ow c l) -∗ WP c (k ⟨⟩) Q) -∗ WP c (sendY c d >>= k) Q) := by
  unfold sendY; rw [if_neg hd]
  exact step_send I K c (yS d) (cbS c) 6 7 d hd _ _ fullShare (yV I c) f l rfl rfl (BI.Entails.refl _) (pt_mono (land_cb I c d f)) k

theorem step_hereX {Q : β → sProp 𝕄} (f : Vec F S32x16x512 .bf16) (k : PUnit → PP F β) :
    iprop(ctx I K ∗ xbP c c (xbV I c) ∗ xgP c c f ∗ dutyTok ER (kcell (c, ckK 1 c)) 0 c)
      ⊢ iprop((cred (tallyAt (kcell (c, ckK 1 c)) () (amt (ckK 1 c))) -∗ WP c (k ⟨⟩) Q) -∗ WP c (hereX c >>= k) Q) := by
  unfold hereX hereOp
  simp only [Prog.lift, Prog.bind_op, Prog.bind_ret, Prog.pure_eq_ret]
  unfold xbP xgP
  iintro ⟨#Hc, Hs, Hd, Ht⟩ Hk
  iapply (Rounds.wp_copy_pointsTo 𝒱₀ ER (Rd I) (c : Thread nD τ) none (src := xbB) (dst := xgS c) (sem := .dma (dsem 1 c))
      (κ := K (c, ckK 1 c)) (r := 0) (d := c) (q := shr c) (fs := xbV I c) (fd := f)
      (by rw [show (((c : Thread nD τ), SemLoc.dma (dsem 1 c)) : GSem nD τ sig) = kcell (c, ckK 1 c) from rfl, duties_eq, dut_send c 1 (Or.inr rfl)]; exact Finset.mem_singleton_self _)
      () (amt (ckK 1 c)) rfl (amount_eq I c (ckK 1 c) c)
      (by
        refine BI.Entails.trans ?_ (Entails.of_eq (payload_eq I c (ckK 1 c) c).symm)
        show iprop(xgP c c ((xgS c).view.write (Elt F) f (xbB.view.read (Elt F) (xbV I c)) Finset.univ) ∗ xbP c c (xbV I c))
          ⊢ iprop(xgP c c (xgV I) ∗ (if c = c then xbP c c (xbV I c) else iprop(emp)))
        rw [if_pos rfl]
        have h1 : (xgP c c ((xgS c).view.write (Elt F) f (xbB.view.read (Elt F) (xbV I c)) Finset.univ) : sProp 𝕄) ⊢ xgP c c (xgV I) := pt_mono (land_xg I c f)
        iintro ⟨H1, H2⟩
        isplitl [H1]
        · iapply h1; iexact H1
        · iexact H2)) $$ [Hs Hd Ht]
  · isplitr; · iapply (ctx_inv I K (c, ckK 1 c)); iexact Hc
    isplitl [Hs]; · iexact Hs
    isplitl [Hd]; · iexact Hd
    isplitl [Ht]; · iexact Ht
    iapply (ctx_reached I K (c, ckK 1 c)); iexact Hc
  iexact Hk

end steps

end Cert.KernelIdealRun
-- ==== Proof.ILoops.lean ====
/-
# The loops of the body

Each exchange over all peers, from the rule of its one operation.
-/
module

public import proofs.«01_k».proof.Proof.ISteps

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD × CK → ℕ)

theorem peers_fin (c : Dev nD) : (peers c).toFinset = Finset.univ.erase c := by
  ext d; rw [List.mem_toFinset, mem_peers, Finset.mem_erase]; exact ⟨fun h => ⟨h, Finset.mem_univ _⟩, fun h => h.1⟩

section loops
variable {β : Type} (c : Dev nD)

/-- A loop whose debts are those of the elements left, each of its steps having the records. -/
theorem wp_loop {Q : β → sProp 𝕄} {α : Type} [DecidableEq α] (f : α → PP F PUnit) (debt : List α → List (Dev nD × CK)) (Pre Post : α → sProp 𝕄) (l : List α) (hn : l.Nodup)
    (hstep : ∀ d ∈ l, ∀ (t : List α) (k' : PP F β), iprop(ctx I K ∗ ow c (debt (d :: t)) ∗ Pre d)
      ⊢ iprop(((ow c (debt t) ∗ Post d) -∗ WP c k' Q) -∗ WP c (f d >>= fun _ => k') Q)) (k : PP F β) :
    iprop(ctx I K ∗ ow c (debt l) ∗ bigSep l.toFinset Pre)
      ⊢ iprop(((ow c (debt []) ∗ bigSep l.toFinset Post) -∗ WP c k Q) -∗ WP c (seqK l f k) Q) := by
  have h := wp_seqK (F := F) (Q := Q) c f (fun t => iprop(ctx I K ∗ ow c (debt t))) Pre Post l hn (fun d hd t k' => by
    have hs := hstep d hd t k'
    iintro ⟨⟨#Hc, Ho⟩, HP⟩ Hk
    iapply hs $$ [Ho HP]
    · isplitr; · iexact Hc
      isplitl [Ho] <;> iassumption
    iintro ⟨Ho, HP⟩
    iapply Hk
    isplitl [Ho]
    · isplitr; · iexact Hc
      iexact Ho
    iexact HP) k
  iintro ⟨#Hc, Ho, HP⟩ Hk
  iapply h $$ [Ho HP]
  · isplitl [Ho]
    · isplitr; · iexact Hc
      iexact Ho
    iexact HP
  iintro ⟨⟨-, Ho⟩, HP⟩
  iapply Hk
  isplitl [Ho] <;> iassumption

/-- A token of device `c` for the `k`-th cell `d` of device `e`, of its name `n`. -/
abbrev tok (e : Dev nD) (k : CK) (n : Dev nD) : sProp 𝕄 := dutyTok ER (kcell (e, k)) 0 n
/-- The right to take what a cell's duties hand over, and the position to wait from. -/
def rcv (k : CK) : sProp 𝕄 := iprop(cred (tallyAt (kcell (c, k)) () (amt k)) ∗ atPos ER (kcell (c, k)) 0 ∅ 0)
abbrev crd (k : CK) : sProp 𝕄 := cred (tallyAt (kcell (c, k)) () (amt k))
abbrev pos (k : CK) : sProp 𝕄 := atPos ER (kcell (c, k)) 0 ∅ 0
abbrev zer (k : CK) : sProp 𝕄 := semVal (kcell (c, k)) 0

theorem loop_sig {Q : β → sProp 𝕄} (l : List (Dev nD × CK)) (k : PP F β) :
    iprop(ctx I K ∗ ow c (dB (peers c) ++ l) ∗ bigSep (Finset.univ.erase c) fun d => iprop(tok d ckB c ∗ barPay d c))
      ⊢ iprop((ow c l -∗ WP c k Q) -∗ WP c (seqK (peers c) sigOp k) Q) := by
  have h := wp_loop (F := F) (Q := Q) I K c sigOp (fun t => dB t ++ l) (fun d => iprop(tok d ckB c ∗ barPay d c)) (fun _ => iprop(emp)) (peers c) (peers_nodup c)
    (fun d hd t k' => by
      have hs := step_sig (F := F) (Q := Q) I K c d ((mem_peers c d).mp hd) (dB t ++ l) (fun _ => k')
      iintro ⟨#Hc, Ho, Ht, Hp⟩ Hk
      iapply hs $$ [Ho Ht Hp]
      · isplitr; · iexact Hc
        isplitl [Ho]; · iexact Ho
        isplitl [Ht] <;> iassumption
      iintro Ho
      iapply Hk
      isplitl [Ho]; · iexact Ho
      iempintro) k
  rw [peers_fin] at h
  iintro ⟨#Hc, Ho, HP⟩ Hk
  iapply h $$ [Ho HP]
  · isplitr; · iexact Hc
    isplitl [Ho] <;> iassumption
  iintro ⟨Ho, -⟩
  iapply Hk
  iexact Ho

def preRX (d : Dev nD) : sProp 𝕄 :=
  iprop((rtP c d (rtV I c) ∗ (∃ f, rgP d c f) ∗ tok c (ckK 2 d) d ∗ tok d (ckK 3 c) c) ∗ (xbP c d (xbV I c) ∗ (∃ f, xgP d c f) ∗ tok c (ckK 0 d) d ∗ tok d (ckK 1 c) c))

theorem loop_sendRX {Q : β → sProp 𝕄} (l : List (Dev nD × CK)) (k : PP F β) :
    iprop(ctx I K ∗ ow c (dRX c (peers c) ++ l) ∗ bigSep (Finset.univ.erase c) fun d => preRX I c d)
      ⊢ iprop(((ow c l ∗ bigSep (Finset.univ.erase c) fun d => iprop(crd (F := F) c (ckK 2 d) ∗ crd (F := F) c (ckK 0 d))) -∗ WP c k Q)
        -∗ WP c (seqK (peers c) (fun d => sendR c d >>= fun _ => sendX c d) k) Q) := by
  have h := wp_loop (F := F) (Q := Q) I K c (fun d => sendR c d >>= fun _ => sendX c d) (fun t => dRX c t ++ l) (fun d => preRX I c d)
    (fun d => iprop(crd c (ckK 2 d) ∗ crd c (ckK 0 d))) (peers c) (peers_nodup c)
    (fun d hd t k' => by
      have hdc := (mem_peers c d).mp hd
      have h1 := fun f => step_sendR (F := F) (Q := Q) I K c d hdc f ((d, ckK 1 c) :: (dRX c t ++ l)) (fun _ => sendX c d >>= fun _ => k')
      have h2 := fun f => step_sendX (F := F) (Q := Q) I K c d hdc f (dRX c t ++ l) (fun _ => k')
      unfold preRX
      rw [bind_assoc]
      iintro ⟨#Hc, Ho, ⟨Hs, ⟨%f, Hd⟩, Ht, Ht'⟩, ⟨Hs2, ⟨%f2, Hd2⟩, Ht2, Ht2'⟩⟩ Hk
      iapply (h1 f) $$ [Hs Hd Ho Ht Ht']
      · isplitr; · iexact Hc
        isplitl [Hs]; · iexact Hs
        isplitl [Hd]; · iexact Hd
        isplitl [Ho]; · iexact Ho
        isplitl [Ht] <;> iassumption
      iintro ⟨Hr, Ho⟩
      iapply (h2 f2) $$ [Hs2 Hd2 Ho Ht2 Ht2']
      · isplitr; · iexact Hc
        isplitl [Hs2]; · iexact Hs2
        isplitl [Hd2]; · iexact Hd2
        isplitl [Ho]; · iexact Ho
        isplitl [Ht2] <;> iassumption
      iintro ⟨Hr2, Ho⟩
      iapply Hk
      isplitl [Ho]; · iexact Ho
      isplitl [Hr] <;> iassumption) k
  rw [peers_fin] at h
  exact h

theorem loop_sendS {Q : β → sProp 𝕄} (g : Vec F S16x128 .f32) (hg : SsOK I c g) (l : List (Dev nD × CK)) (k : PP F β) :
    iprop(ctx I K ∗ ow c (dS c (peers c) ++ l) ∗ bigSep (Finset.univ.erase c) fun d => iprop(ssP c d g ∗ (∃ f, sgP d c f) ∗ tok c (ckK 4 d) d ∗ tok d (ckK 5 c) c))
      ⊢ iprop(((ow c l ∗ bigSep (Finset.univ.erase c) fun d => crd (F := F) c (ckK 4 d)) -∗ WP c k Q)
        -∗ WP c (seqK (peers c) (sendS c) k) Q) := by
  have h := wp_loop (F := F) (Q := Q) I K c (sendS c) (fun t => dS c t ++ l) (fun d => iprop(ssP c d g ∗ (∃ f, sgP d c f) ∗ tok c (ckK 4 d) d ∗ tok d (ckK 5 c) c))
    (fun d => crd c (ckK 4 d)) (peers c) (peers_nodup c)
    (fun d hd t k' => by
      have h1 := fun f => step_sendS (F := F) (Q := Q) I K c d ((mem_peers c d).mp hd) g hg f (dS c t ++ l) (fun _ => k')
      iintro ⟨#Hc, Ho, ⟨Hs, ⟨%f, Hd⟩, Ht, Ht'⟩⟩ Hk
      iapply (h1 f) $$ [Hs Hd Ho Ht Ht']
      · isplitr; · iexact Hc
        isplitl [Hs]; · iexact Hs
        isplitl [Hd]; · iexact Hd
        isplitl [Ho]; · iexact Ho
        isplitl [Ht] <;> iassumption
      iintro ⟨Hr, Ho⟩
      iapply Hk
      isplitl [Ho] <;> iassumption) k
  rw [peers_fin] at h
  exact h

/-- A device's own rows are kept, the others' sent. -/
def preY (d : Dev nD) : sProp 𝕄 := if d = c then iprop(emp) else iprop((∃ f, cbP d c f) ∗ tok c (ckK 6 d) d ∗ tok d (ckK 7 c) c)
def postY (d : Dev nD) : sProp 𝕄 := if d = c then yP c d (yV I c) else crd c (ckK 6 d)

theorem loop_sendY {Q : β → sProp 𝕄} (bs : List (Dev nD)) (hn : bs.Nodup) (l : List (Dev nD × CK)) (k : PP F β) :
    iprop(ctx I K ∗ ow c (dY c bs ++ l) ∗ bigSep bs.toFinset fun d => iprop(yP c d (yV I c) ∗ preY (F := F) c d))
      ⊢ iprop(((ow c l ∗ bigSep bs.toFinset fun d => postY I c d) -∗ WP c k Q) -∗ WP c (seqK bs (sendY c) k) Q) :=
  wp_loop (F := F) (Q := Q) I K c (sendY c) (fun t => dY c t ++ l) (fun d => iprop(yP c d (yV I c) ∗ preY c d)) (fun d => postY I c d) bs hn
    (fun d hd t k' => by
      by_cases hdc : d = c
      · have e : dY c (d :: t) = dY c t := by unfold dY; rw [List.flatMap_cons, if_pos hdc]; rfl
        have e2 : (sendY c d >>= fun _ => k' : PP F β) = k' := by unfold sendY; rw [if_pos hdc]; rfl
        rw [e, e2]
        unfold preY postY
        rw [if_pos hdc, if_pos hdc]
        iintro ⟨#Hc, Ho, Hy, -⟩ Hk
        iapply Hk
        isplitl [Ho] <;> iassumption
      · have e : dY c (d :: t) ++ l = (d, ckK 7 c) :: (dY c t ++ l) := by unfold dY; rw [List.flatMap_cons, if_neg hdc]; rfl
        have h1 := fun f => step_sendY (F := F) (Q := Q) I K c d hdc f (dY c t ++ l) (fun _ => k')
        rw [e]
        unfold preY postY
        rw [if_neg hdc, if_neg hdc]
        iintro ⟨#Hc, Ho, Hs, ⟨⟨%f, Hd⟩, Ht, Ht'⟩⟩ Hk
        iapply (h1 f) $$ [Hs Hd Ho Ht Ht']
        · isplitr; · iexact Hc
          isplitl [Hs]; · iexact Hs
          isplitl [Hd]; · iexact Hd
          isplitl [Ho]; · iexact Ho
          isplitl [Ht] <;> iassumption
        iintro ⟨Hr, Ho⟩
        iapply Hk
        isplitl [Ho] <;> iassumption) k

/-- A loop of waits, all at one array of semaphores. -/
theorem loop_wait {Q : β → sProp 𝕄} (j : Fin 8) (f : Dev nD → PP F PUnit) (P : Dev nD → sProp 𝕄) (bs : List (Dev nD)) (hn : bs.Nodup) (l : List (Dev nD × CK))
    (hP : ∀ d ∈ bs, pay I c (ckK j d) d ⊢ P d)
    (hstep : ∀ d ∈ bs, ∀ (k' : PP F β), iprop(ctx I K ∗ ow c l ∗ crd c (ckK j d) ∗ pos c (ckK j d))
      ⊢ iprop(((ow c l ∗ pay I c (ckK j d) d ∗ zer c (ckK j d)) -∗ WP c k' Q) -∗ WP c (f d >>= fun _ => k') Q)) (k : PP F β) :
    iprop(ctx I K ∗ ow c l ∗ bigSep bs.toFinset fun d => iprop(crd (F := F) c (ckK j d) ∗ pos (F := F) c (ckK j d)))
      ⊢ iprop(((ow c l ∗ bigSep bs.toFinset fun d => iprop(P d ∗ zer (F := F) c (ckK j d))) -∗ WP c k Q) -∗ WP c (seqK bs f k) Q) :=
  wp_loop (F := F) (Q := Q) I K c f (fun _ => l) (fun d => iprop(crd c (ckK j d) ∗ pos c (ckK j d))) (fun d => iprop(P d ∗ zer c (ckK j d))) bs hn
    (fun d hd t k' => by
      have hs := hstep d hd k'
      have hp := hP d hd
      iintro ⟨#Hc, Ho, Hr, Ha⟩ Hk
      iapply hs $$ [Ho Hr Ha]
      · isplitr; · iexact Hc
        isplitl [Ho]; · iexact Ho
        isplitl [Hr] <;> iassumption
      iintro ⟨Ho, Hp, Hz⟩
      iapply Hk
      isplitl [Ho]; · iexact Ho
      isplitl [Hp]; · iapply hp; iexact Hp
      iexact Hz) k

theorem loop_waitR {Q : β → sProp 𝕄} (l : List (Dev nD × CK)) (hl : ∀ p ∈ l, 2 < lev p.2) (k : PP F β) :
    iprop(ctx I K ∗ ow c l ∗ bigSep (Finset.univ.erase c) fun d => iprop(crd (F := F) c (ckK 3 d) ∗ pos (F := F) c (ckK 3 d)))
      ⊢ iprop(((ow c l ∗ bigSep (Finset.univ.erase c) fun d => iprop(rgP c d (rgV I) ∗ zer (F := F) c (ckK 3 d))) -∗ WP c k Q) -∗ WP c (seqK (peers c) waitR k) Q) := by
  have h := loop_wait (F := F) (Q := Q) I K c 3 waitR (fun d => rgP c d (rgV I)) (peers c) (peers_nodup c) l (fun d hd => BI.Entails.refl _)
    (fun d hd k' => step_wait (F := F) (Q := Q) I K c 3 d (Or.inl ((mem_peers c d).mp hd)) hasM_rg rfl l hl (fun _ => k')) k
  rw [peers_fin] at h
  exact h

theorem loop_waitS {Q : β → sProp 𝕄} (l : List (Dev nD × CK)) (hl : ∀ p ∈ l, 3 < lev p.2) (k : PP F β) :
    iprop(ctx I K ∗ ow c l ∗ bigSep (Finset.univ.erase c) fun d => iprop(crd (F := F) c (ckK 5 d) ∗ pos (F := F) c (ckK 5 d)))
      ⊢ iprop(((ow c l ∗ bigSep (Finset.univ.erase c) fun d => iprop((∃ f, ⌜SgOK I f (sgS d).view.set⌝ ∗ sgP c d f) ∗ zer (F := F) c (ckK 5 d))) -∗ WP c k Q) -∗ WP c (seqK (peers c) waitS k) Q) := by
  have h := loop_wait (F := F) (Q := Q) I K c 5 waitS (fun d => iprop(∃ f, ⌜SgOK I f (sgS d).view.set⌝ ∗ sgP c d f)) (peers c) (peers_nodup c) l (fun d hd => BI.Entails.refl _)
    (fun d hd k' => step_wait (F := F) (Q := Q) I K c 5 d (Or.inl ((mem_peers c d).mp hd)) hasM_sg rfl l hl (fun _ => k')) k
  rw [peers_fin] at h
  exact h

theorem loop_waitC {Q : β → sProp 𝕄} (k : PP F β) :
    iprop(ctx I K ∗ ow c [] ∗ bigSep (Finset.univ.erase c) fun d => iprop(crd (F := F) c (ckK 7 d) ∗ pos (F := F) c (ckK 7 d)))
      ⊢ iprop(((ow c [] ∗ bigSep (Finset.univ.erase c) fun d => iprop(cbP c d (cbV I c) ∗ zer (F := F) c (ckK 7 d))) -∗ WP c k Q) -∗ WP c (seqK (peers c) waitC k) Q) := by
  have h := loop_wait (F := F) (Q := Q) I K c 7 waitC (fun d => cbP c d (cbV I c)) (peers c) (peers_nodup c) [] (fun d hd => BI.Entails.refl _)
    (fun d hd k' => step_wait (F := F) (Q := Q) I K c 7 d (Or.inl ((mem_peers c d).mp hd)) hasM_cb rfl [] (fun p hp => absurd hp List.not_mem_nil) (fun _ => k')) k
  rw [peers_fin] at h
  exact h

/-- The slot of the gathered rows and, for the device's own, the share the copy held. -/
def gotX (d : Dev nD) : sProp 𝕄 := iprop(xgP c d (xgV I) ∗ if d = c then xbP c d (xbV I c) else iprop(emp))

theorem loop_waitX {Q : β → sProp 𝕄} (bs : List (Dev nD)) (hn : bs.Nodup) (l : List (Dev nD × CK)) (hl : ∀ p ∈ l, 2 < lev p.2) (k : PP F β) :
    iprop(ctx I K ∗ ow c l ∗ bigSep bs.toFinset fun d => iprop(crd (F := F) c (ckK 1 d) ∗ pos (F := F) c (ckK 1 d)))
      ⊢ iprop(((ow c l ∗ bigSep bs.toFinset fun d => iprop(gotX I c d ∗ zer (F := F) c (ckK 1 d))) -∗ WP c k Q) -∗ WP c (seqK bs waitX k) Q) :=
  loop_wait (F := F) (Q := Q) I K c 1 waitX (fun d => gotX I c d) bs hn l (fun d hd => BI.Entails.refl _)
    (fun d hd k' => step_wait (F := F) (Q := Q) I K c 1 d (Or.inr rfl) hasM_xg rfl l hl (fun _ => k')) k

def preD (d : Dev nD) : sProp 𝕄 :=
  iprop((crd c (ckK 2 d) ∗ pos c (ckK 2 d)) ∗ (crd c (ckK 0 d) ∗ pos c (ckK 0 d)) ∗ (crd c (ckK 4 d) ∗ pos c (ckK 4 d)) ∗ (crd c (ckK 6 d) ∗ pos c (ckK 6 d)))
def postD (d : Dev nD) : sProp 𝕄 :=
  iprop((rtP c d (rtV I c) ∗ zer c (ckK 2 d)) ∗ (xbP c d (xbV I c) ∗ zer c (ckK 0 d)) ∗ ((∃ f, ⌜SsOK I c f⌝ ∗ ssP c d f) ∗ zer c (ckK 4 d)) ∗ (yP c d (yV I c) ∗ zer c (ckK 6 d)))

theorem loop_drain {Q : β → sProp 𝕄} (k : PP F β) :
    iprop(ctx I K ∗ ow c [] ∗ bigSep (Finset.univ.erase c) fun d => preD (F := F) c d)
      ⊢ iprop(((ow c [] ∗ bigSep (Finset.univ.erase c) fun d => postD I c d) -∗ WP c k Q) -∗ WP c (seqK (peers c) drain k) Q) := by
  have h := wp_loop (F := F) (Q := Q) I K c drain (fun t => []) (fun d => preD c d) (fun d => postD I c d) (peers c) (peers_nodup c)
    (fun d hd t k' => by
      have hdc := (mem_peers c d).mp hd
      have hn : ∀ n, ∀ p ∈ ([] : List (Dev nD × CK)), n < lev p.2 := fun n p hp => absurd hp List.not_mem_nil
      unfold drain
      simp only [bind_assoc]
      have h2 := fun kk => step_wait (F := F) (Q := Q) I K c 2 d (Or.inl hdc) hasM_rt rfl [] (hn _) kk
      have h0 := fun kk => step_wait (F := F) (Q := Q) I K c 0 d (Or.inl hdc) hasM_xb rfl [] (hn _) kk
      have h4 := fun kk => step_wait (F := F) (Q := Q) I K c 4 d (Or.inl hdc) hasM_ss rfl [] (hn _) kk
      have h6 := fun kk => step_wait (F := F) (Q := Q) I K c 6 d (Or.inl hdc) hasM_y rfl [] (hn _) kk
      unfold preD postD
      iintro ⟨#Hc, Ho, ⟨Hr, Ha⟩, ⟨Hr0, Ha0⟩, ⟨Hr4, Ha4⟩, ⟨Hr6, Ha6⟩⟩ Hk
      iapply (h2 _) $$ [Ho Hr Ha]
      · isplitr; · iexact Hc
        isplitl [Ho]; · iexact Ho
        isplitl [Hr] <;> iassumption
      iintro ⟨Ho, Hp, Hz⟩
      iapply (h0 _) $$ [Ho Hr0 Ha0]
      · isplitr; · iexact Hc
        isplitl [Ho]; · iexact Ho
        isplitl [Hr0] <;> iassumption
      iintro ⟨Ho, Hp0, Hz0⟩
      iapply (h4 _) $$ [Ho Hr4 Ha4]
      · isplitr; · iexact Hc
        isplitl [Ho]; · iexact Ho
        isplitl [Hr4] <;> iassumption
      iintro ⟨Ho, Hp4, Hz4⟩
      iapply (h6 _) $$ [Ho Hr6 Ha6]
      · isplitr; · iexact Hc
        isplitl [Ho]; · iexact Ho
        isplitl [Hr6] <;> iassumption
      iintro ⟨Ho, Hp6, Hz6⟩
      iapply Hk
      isplitl [Ho]; · iexact Ho
      isplitl [Hp Hz]
      · isplitl [Hp]; · unfold pay; iexact Hp
        iexact Hz
      isplitl [Hp0 Hz0]
      · isplitl [Hp0]; · unfold pay; iexact Hp0
        iexact Hz0
      isplitl [Hp4 Hz4]
      · isplitl [Hp4]; · unfold pay; iexact Hp4
        iexact Hz4
      isplitl [Hp6]; · unfold pay; iexact Hp6
      iexact Hz6) k
  rw [peers_fin] at h
  exact h

end loops

end Cert.KernelIdealRun
-- ==== Proof.IBufs.lean ====
/-
# The phases of the body

The buffers by slots and shares, and the loads and stores between the exchanges.
-/
module

public import proofs.«01_k».proof.Proof.ILoops

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD × CK → ℕ)

/-! ## Buffers by slots and shares -/

theorem big_pure {T : Type} [DecidableEq T] (s : Finset T) (P : T → Prop) (R : T → sProp 𝕄) :
    (bigSep s fun d => iprop(⌜P d⌝ ∗ R d)) ⊢ iprop(⌜∀ d ∈ s, P d⌝ ∗ bigSep s R) := by
  induction s using Finset.induction_on with
  | empty =>
    rw [bigSep_empty, bigSep_empty]
    iintro H
    isplitr; · ipureintro; exact fun d hd => absurd hd (Finset.notMem_empty d)
    iexact H
  | insert a s ha ih =>
    rw [big_insert ha, big_insert ha]
    iintro ⟨⟨%h, H⟩, Hs⟩
    ihave Hs' := ih $$ Hs
    icases Hs' with ⟨%hs, Hs⟩
    isplitr
    · ipureintro
      exact fun d hd => (Finset.mem_insert.mp hd).elim (fun e => e ▸ h) (hs d)
    isplitl [H] <;> iassumption

/-- A buffer whose slots are told apart by a key is held slot by slot. -/
theorem by_key {ℓ : Loc nD τ sig} {T : Type} [Fintype T] [DecidableEq T] (S : T → Finset (Idx ℓ)) (key : Idx ℓ → T) (h : ∀ d i, i ∈ S d ↔ key i = d)
    (q : PosShare TreeShare) (f : Buf (Elt F) ℓ) : (ℓ ↦{q} f : sProp 𝕄) = bigSep Finset.univ fun d => ℓ ↦[S d]{q} f := by
  rw [← pointsTo_biUnion Finset.univ S (fun d _ d' _ hd => Finset.disjoint_left.mpr fun i hi hi' => hd (((h d i).mp hi).symm.trans ((h d' i).mp hi')))]
  congr 1
  exact (Finset.eq_univ_iff_forall.mpr fun i => Finset.mem_biUnion.mpr ⟨key i, Finset.mem_univ _, (h _ i).mpr rfl⟩).symm

section bufs
variable (c : Dev nD)

abbrev wh (b : Ref sig .tc) (f : Buf (Elt F) ((c : Thread nD τ).loc b)) : sProp 𝕄 := ((c : Thread nD τ).loc b) ↦{fullShare} f

theorem xg_slots (f : Vec F S32x16x512 .bf16) : wh c cc0_scratch2 f = bigSep Finset.univ fun d => (xgP c d f : sProp 𝕄) :=
  by_key (ℓ := (c : Thread nD τ).loc cc0_scratch2) (fun d : Dev nD => (xgS d).view.set) (fun i => i 0) (fun d i => mem_xg d i) fullShare f
theorem rg_slots (f : Vec F S32x2x512 .f32) : wh c cc0_scratch3 f = bigSep Finset.univ fun d => (rgP c d f : sProp 𝕄) :=
  by_key (ℓ := (c : Thread nD τ).loc cc0_scratch3) (fun d : Dev nD => (rgS d).view.set) (fun i => i 0) (fun d i => mem_rg d i) fullShare f
theorem sg_slots (f : Vec F S32x16x128 .f32) : wh c cc0_scratch4 f = bigSep Finset.univ fun d => (sgP c d f : sProp 𝕄) :=
  by_key (ℓ := (c : Thread nD τ).loc cc0_scratch4) (fun d : Dev nD => (sgS d).view.set) (fun i => i 0) (fun d i => mem_sg d i) fullShare f
theorem cb_slots (f : Vec F S32x16x512 .bf16) : wh c cc0_scratch7 f = bigSep Finset.univ fun d => (cbP c d f : sProp 𝕄) :=
  by_key (ℓ := (c : Thread nD τ).loc cc0_scratch7) (fun d : Dev nD => (cbS d).view.set) (fun i => i 0) (fun d i => mem_cb d i) fullShare f
theorem y_slots (f : Vec F S512x512 .bf16) : wh c cc0_scratch6 f = bigSep Finset.univ fun d => (yP c d f : sProp 𝕄) :=
  by_key (ℓ := (c : Thread nD τ).loc cc0_scratch6) (fun d : Dev nD => (yS d).view.set)
    (fun i : S512x512.Idx => (⟨(i 0).val / 16, by have h : (i 0).val < 512 := (i 0).isLt; show _ < 32; omega⟩ : Fin 32)) (fun d i => (mem_y d i).trans ⟨fun h => Fin.ext h, fun h => congrArg Fin.val h⟩) fullShare f

/-- One chunk's rows of the product buffer. -/
def ykP (k : Fin 4) (f : Vec F S512x512 .bf16) : sProp 𝕄 := (c : Thread nD τ).loc cc0_scratch6 ↦[(yB.access (rYK k)).set]{fullShare} f
theorem y_chunks (f : Vec F S512x512 .bf16) : wh c cc0_scratch6 f = bigSep Finset.univ fun k => (ykP c k f : sProp 𝕄) :=
  by_key (ℓ := (c : Thread nD τ).loc cc0_scratch6) (fun k : Fin 4 => (yB.access (rYK k)).set)
    (fun i : S512x512.Idx => (⟨(i 0).val / 128, by have h : (i 0).val < 512 := (i 0).isLt; omega⟩ : Fin 4)) (fun k i => (mem_yk k i).trans ⟨fun h => Fin.ext h, fun h => congrArg Fin.val h⟩) fullShare f

theorem mem_blk : ∀ (k : Fin 4) (d : Dev nD), d ∈ blk k ↔ d.val / 8 = k.val := by decide
theorem blk_nodup : ∀ k : Fin 4, (blk k).Nodup := by decide

theorem yk_slots (k : Fin 4) (f : Vec F S512x512 .bf16) : (ykP c k f : sProp 𝕄) = bigSep (blk k).toFinset fun d => (yP c d f : sProp 𝕄) := by
  unfold ykP
  have e : (yB.access (rYK k)).set = (blk k).toFinset.biUnion fun d : Dev nD => (yS d).view.set := by
    ext i
    rw [mem_yk, Finset.mem_biUnion]
    constructor
    · intro h
      have h' : (i 0).val < 512 := (i 0).isLt
      obtain ⟨d, hd⟩ : ∃ d : Dev nD, d.val = (i 0).val / 16 := ⟨⟨(i 0).val / 16, by show _ < 32; omega⟩, rfl⟩
      exact ⟨d, List.mem_toFinset.mpr ((mem_blk k d).mpr (by omega)), (mem_y d i).mpr hd.symm⟩
    · rintro ⟨d, hd, hi⟩
      have h1 := (mem_blk k d).mp (List.mem_toFinset.mp hd)
      have h2 := (mem_y d i).mp hi
      omega
  rw [e]
  exact pointsTo_biUnion (ℓ := (c : Thread nD τ).loc cc0_scratch6) (blk k).toFinset (fun d : Dev nD => (yS d).view.set) (fun d _ d' _ hd => Finset.disjoint_left.mpr fun i hi hi' =>
    hd (Fin.ext (((mem_y d i).mp hi).symm.trans ((mem_y d' i).mp hi'))))

/-- The eight slots of a chunk. -/
def xgU (k : Fin 4) : Finset S32x16x512.Idx := (blk k).toFinset.biUnion fun d : Dev nD => (xgS d).view.set
theorem xgU_slots (k : Fin 4) (f : Vec F S32x16x512 .bf16) : ((c : Thread nD τ).loc cc0_scratch2 ↦[xgU k]{fullShare} f : sProp 𝕄) = bigSep (blk k).toFinset fun d => (xgP c d f : sProp 𝕄) :=
  pointsTo_biUnion (ℓ := (c : Thread nD τ).loc cc0_scratch2) (blk k).toFinset (fun d : Dev nD => (xgS d).view.set) (fun d _ d' _ hd => Finset.disjoint_left.mpr fun i hi hi' =>
    hd (((mem_xg d i).mp hi).symm.trans ((mem_xg d' i).mp hi')))
theorem sub_xgU (k : Fin 4) : (xgB.access (rXK k)).set ⊆ xgU k := fun i hi => by
  obtain ⟨x, -, rfl⟩ := Finset.mem_map.mp hi
  have h : (x 0).val < 8 := (x 0).isLt
  obtain ⟨d, hd⟩ : ∃ d : Dev nD, d = ((xgB.access (rXK k)).emb x) 0 := ⟨_, rfl⟩
  have hv : d.val = 8 * k.val + 1 * (x 0).val := by
    rw [hd]
    show ((rXK k).emb x 0).val = _
    rw [Rect.emb_apply]; rfl
  exact Finset.mem_biUnion.mpr ⟨d, List.mem_toFinset.mpr ((mem_blk k d).mpr (by omega)), (mem_xg d _).mpr hd.symm⟩

/-- The blocks of the four chunks are all devices. -/
theorem by_blk (Φ : Dev nD → sProp 𝕄) : bigSep Finset.univ Φ = bigSep (Finset.univ : Finset (Fin 4)) fun k => bigSep (blk k).toFinset Φ := by
  rw [← bigSep_biUnion_eq Finset.univ (fun k : Fin 4 => (blk k).toFinset) Φ (fun k _ k' _ hk => Finset.disjoint_left.mpr fun d hd hd' =>
    hk (Fin.ext (((mem_blk k d).mp (List.mem_toFinset.mp hd)).symm.trans ((mem_blk k' d).mp (List.mem_toFinset.mp hd')))))]
  congr 1

theorem xb_shares (f : Vec F S16x512 .bf16) : wh c cc0_scratch0 f = bigSep Finset.univ fun d => (xbP c d f : sProp 𝕄) := by
  unfold xbP; rw [View.set_whole]; exact Transfers.pointsTo_deal (ℓ := (c : Thread nD τ).loc cc0_scratch0) Finset.univ ⟨0, Finset.mem_univ _⟩ fullShare
theorem rt_shares (f : Vec F S2x512 .f32) : wh c cc0_scratch1 f = bigSep Finset.univ fun d => (rtP c d f : sProp 𝕄) := by
  unfold rtP; rw [View.set_whole]; exact Transfers.pointsTo_deal (ℓ := (c : Thread nD τ).loc cc0_scratch1) Finset.univ ⟨0, Finset.mem_univ _⟩ fullShare
theorem ss_shares (f : Vec F S16x128 .f32) : wh c cc0_scratch5 f = bigSep Finset.univ fun d => (ssP c d f : sProp 𝕄) := by
  unfold ssP; rw [View.set_whole]; exact Transfers.pointsTo_deal (ℓ := (c : Thread nD τ).loc cc0_scratch5) Finset.univ ⟨0, Finset.mem_univ _⟩ fullShare

/-- A family over all devices is the device's own part and the others'. -/
theorem own_others (Φ : Dev nD → sProp 𝕄) : bigSep Finset.univ Φ = iprop(Φ c ∗ bigSep (Finset.univ.erase c) Φ) := big_erase (Finset.mem_univ c)

/-- The slots of the scores, each right at some contents, are the buffer right at some contents. -/
theorem sg_join : (bigSep Finset.univ fun d => iprop(∃ f, ⌜SgOK I f (sgS d).view.set⌝ ∗ sgP c d f) : sProp 𝕄)
    ⊢ iprop(∃ f, ⌜∀ i : S32x16x128.Idx, (i 2).val < 4 → f i = sgV I i⌝ ∗ wh c cc0_scratch4 f) := by
  have : Nonempty (Vec F S32x16x128 .f32) := ⟨sgV I⟩
  refine (Idealize.SL.BI.bigSep_exists_pi Finset.univ (fun d (f : Vec F S32x16x128 .f32) => iprop(⌜SgOK I f (sgS d).view.set⌝ ∗ sgP c d f))).trans ?_
  have hc (fs : Dev nD → Vec F S32x16x128 .f32) : (bigSep Finset.univ fun d => iprop(⌜SgOK I (fs d) (sgS d).view.set⌝ ∗ sgP c d (fs d)) : sProp 𝕄)
      ⊢ iprop(∃ f, ⌜∀ i : S32x16x128.Idx, (i 2).val < 4 → f i = sgV I i⌝ ∗ wh c cc0_scratch4 f) := by
    have hp := big_pure (F := F) (Finset.univ : Finset (Dev nD)) (fun d => SgOK I (fs d) (sgS d).view.set) (fun d => sgP c d (fs d))
    have hj : (bigSep Finset.univ fun d : Dev nD => (sgP c d (fs d) : sProp 𝕄)) = wh c cc0_scratch4 (fun i : S32x16x128.Idx => fs (i 0) i) := by
      rw [sg_slots]
      exact bigSep_congr fun d _ => pointsTo_congr (ℓ := (c : Thread nD τ).loc cc0_scratch4) fun i hi => by rw [(mem_sg d i).mp hi]
    rw [hj] at hp
    refine hp.trans ?_
    iintro ⟨%hq, H⟩
    iexists (fun i : S32x16x128.Idx => fs (i 0) i)
    isplitr
    · ipureintro
      exact fun i h4 => hq (i 0) (Finset.mem_univ _) i ((mem_sg _ i).mpr rfl) h4
    iexact H
  iintro ⟨%fs, H⟩
  iapply (hc fs); iexact H

end bufs

end Cert.KernelIdealRun
-- ==== Proof.IPhases.lean ====
/-
# The phases of the body

The loads and stores between the exchanges.
-/
module

public import proofs.«01_k».proof.Proof.IBufs

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD × CK → ℕ)

section progs
variable {β : Type}

/-- The cast of the rows and the transpose of the router's columns. -/
def castP (k : PP F β) : PP F β :=
  Prog.lift (.load xB rX.toLoadRect (View.loadsAt_vmem h_S16x512)) >>= fun v407 =>
  Prog.lift (.load xbB rX.toLoadRect (View.loadsAt_vmem h_S16x512)) >>= fun _ =>
  Prog.lift (.store xbB rX (k0_pay1 v407) Finset.univ (View.stores_vmem h_S16x512 (whole_xb.storeExact_slice rfl _ packedbf16_S16x512_S16x512_0_0) (fun _ => rfl)) (.inl rfl)) >>= fun _ =>
  Prog.lift (.load wB rW.toLoadRect (View.loadsAt_vmem h_S512x2)) >>= fun v413 =>
  Prog.lift (.load rtB rRT.toLoadRect (View.loadsAt_vmem h_S2x512)) >>= fun _ =>
  Prog.lift (.store rtB rRT (k0_pay2 v413) Finset.univ (View.stores_vmem_bits_univ h_S2x512 rfl) (.inl rfl)) >>= fun _ => k

/-- The own slot of the gathered router columns. -/
def ownRP (c : Dev nD) (k : PP F β) : PP F β :=
  Prog.lift (.load rtB rRT.toLoadRect (View.loadsAt_vmem h_S2x512)) >>= fun v1260 =>
  Prog.lift (.load rgB (rOR c).toLoadRect (View.loadsAt_vmem h_S1x2x512)) >>= fun _ =>
  Prog.lift (.store rgB (rOR c) (k0_pay3 v1260) Finset.univ (View.stores_vmem_bits_univ h_S1x2x512 rfl) (.inl rfl)) >>= fun _ => k

/-- The scores of the own rows. -/
def scoreP (k : PP F β) : PP F β :=
  Prog.lift (.load rgB rRG.toLoadRect (View.loadsAt_vmem h_S32x2x512)) >>= fun v1792 =>
  Prog.lift (.load xB rX.toLoadRect (View.loadsAt_vmem h_S16x512)) >>= fun v1794 =>
  Prog.lift (.load ssB rSS4.toLoadRect (View.loadsAt_vmem h_S16x4)) >>= fun _ =>
  Prog.lift (.store ssB rSS4 (k0_pay4 v1792 v1794) Finset.univ (View.stores_vmem_bits_univ h_S16x4 rfl) (.inl rfl)) >>= fun _ => k

/-- The own slot of the gathered scores. -/
def ownSP (c : Dev nD) (k : PP F β) : PP F β :=
  Prog.lift (.load ssB rSS.toLoadRect (View.loadsAt_vmem h_S16x128)) >>= fun v2422 =>
  Prog.lift (.load sgB (rOS c).toLoadRect (View.loadsAt_vmem h_S1x16x128)) >>= fun _ =>
  Prog.lift (.store sgB (rOS c) (k0_pay5 v2422) Finset.univ (View.stores_vmem_bits_univ h_S1x16x128 rfl) (.inl rfl)) >>= fun _ => k

/-- The sum over the devices. -/
def outP (k : PP F β) : PP F β :=
  Prog.lift (.load cbB rCB.toLoadRect (View.loadsAt_vmem h_S32x16x512)) >>= fun v3910 =>
  Prog.lift (.load oB rX.toLoadRect (View.loadsAt_vmem h_S16x512)) >>= fun _ =>
  Prog.lift (.store oB rX (k0_pay25 v3910) Finset.univ (View.stores_vmem_bits_univ h_S16x512 rfl) (.inl rfl)) >>= fun _ => k

end progs

theorem z2 : (![0, 0] : Fin 2 → ℕ) = fun _ => 0 := funext fun a => by fin_cases a <;> rfl
theorem z3 : (![0, 0, 0] : Fin 3 → ℕ) = fun _ => 0 := funext fun a => by fin_cases a <;> rfl

section whole
theorem rd_x (f : Vec F S16x512 .f32) : xB.view.readAt (Elt F) rX.toLoadRect f = f := Memref.readAt_unit_zero (Elt F) cc0_stg0_0 z2 _ f
theorem rd_w (f : Vec F S512x2 .f32) : wB.view.readAt (Elt F) rW.toLoadRect f = f := Memref.readAt_unit_zero (Elt F) cc0_stg1_0 z2 _ f
theorem rd_rt (f : Vec F S2x512 .f32) : rtB.view.readAt (Elt F) rRT.toLoadRect f = f := Memref.readAt_unit_zero (Elt F) cc0_scratch1 z2 _ f
theorem rd_rg (f : Vec F S32x2x512 .f32) : rgB.view.readAt (Elt F) rRG.toLoadRect f = f := Memref.readAt_unit_zero (Elt F) cc0_scratch3 z3 _ f
theorem wr_xb (f : Vec F S16x512 .bf16) (w : FVec F S16x512 .bf16) : (xbB.access rX).write (Elt F) f w Finset.univ = w := Memref.write_access_unit_zero_univ (Elt F) cc0_scratch0 z2 _ f w
theorem wr_rt (f : Vec F S2x512 .f32) (w : FVec F S2x512 .f32) : (rtB.access rRT).write (Elt F) f w Finset.univ = w := Memref.write_access_unit_zero_univ (Elt F) cc0_scratch1 z2 _ f w
end whole

section phases
variable {β : Type} (c : Dev nD)

theorem ph_cast {Q : β → sProp 𝕄} (k : PP F β) :
    iprop(wh c cc0_stg0_0 (I.x c) ∗ (∃ f, wh c cc0_scratch0 f) ∗ wh c cc0_stg1_0 (I.w c) ∗ (∃ f, wh c cc0_scratch1 f))
      ⊢ iprop(((wh c cc0_stg0_0 (I.x c) ∗ wh c cc0_scratch0 (xbV I c) ∗ wh c cc0_stg1_0 (I.w c) ∗ wh c cc0_scratch1 (rtV I c)) -∗ WP c k Q) -∗ WP c (castP k) Q) := by
  unfold castP
  simp only [Prog.lift, Prog.bind_op, Prog.bind_ret, Prog.pure_eq_ret]
  iintro ⟨Hx, ⟨%f, Hb⟩, Hw, ⟨%g, Hr⟩⟩ Hk
  iapply (wp_load 𝒱₀ (c : Thread nD τ) none Set.univ (m := xB) (Finset.subset_univ _)) $$ Hx; iintro Hx
  iapply (wp_load 𝒱₀ (c : Thread nD τ) none Set.univ (m := xbB) (Finset.subset_univ _)) $$ Hb; iintro Hb
  iapply (wp_store 𝒱₀ (c : Thread nD τ) none Set.univ (m := xbB) (r := rX) (Mk := Finset.univ) (Finset.subset_univ _)) $$ Hb; iintro Hb
  iapply (wp_load 𝒱₀ (c : Thread nD τ) none Set.univ (m := wB) (Finset.subset_univ _)) $$ Hw; iintro Hw
  iapply (wp_load 𝒱₀ (c : Thread nD τ) none Set.univ (m := rtB) (Finset.subset_univ _)) $$ Hr; iintro Hr
  iapply (wp_store 𝒱₀ (c : Thread nD τ) none Set.univ (m := rtB) (r := rRT) (Mk := Finset.univ) (Finset.subset_univ _)) $$ Hr; iintro Hr
  rw [rd_x, rd_w, wr_xb, wr_rt]
  iapply Hk
  isplitl [Hx]; · iexact Hx
  isplitl [Hb]; · iexact Hb
  isplitl [Hw]; · iexact Hw
  iexact Hr

theorem ph_ownR {Q : β → sProp 𝕄} (k : PP F β) :
    iprop(rtP c c (rtV I c) ∗ (∃ f, rgP c c f)) ⊢ iprop(((rtP c c (rtV I c) ∗ rgP c c (rgV I)) -∗ WP c k Q) -∗ WP c (ownRP c k) Q) := by
  unfold ownRP rtP
  have hv (f : Vec F S32x2x512 .f32) : ((rgB.access (rOR c)).loc (c : Thread nD τ) ↦[(rgS c).view.set]{fullShare} ((rgB.access (rOR c)).write (Elt F) f (k0_pay3 (rtV I c)) Finset.univ) : sProp 𝕄) ⊢ rgP c c (rgV I) :=
    pt_mono (own_rg I c f)
  simp only [Prog.lift, Prog.bind_op, Prog.bind_ret, Prog.pure_eq_ret]
  iintro ⟨Hx, ⟨%f, Hb⟩⟩ Hk
  unfold rgP at hv ⊢
  iapply (wp_load 𝒱₀ (c : Thread nD τ) none Set.univ (m := rtB) (by rw [View.set_whole]; exact Finset.subset_univ _)) $$ Hx; iintro Hx
  iapply (wp_load_rect 𝒱₀ (c : Thread nD τ) none Set.univ (m := rgB) (r := rOR c) (set_or c)) $$ Hb; iintro Hb
  iapply (wp_store 𝒱₀ (c : Thread nD τ) none Set.univ (m := rgB) (r := rOR c) (Mk := Finset.univ) (by rw [View.setOn_univ]; exact set_or c)) $$ Hb; iintro Hb
  rw [rd_rt]
  iapply Hk
  isplitl [Hx]; · iexact Hx
  iapply (hv f); iexact Hb

theorem ph_score {Q : β → sProp 𝕄} (k : PP F β) :
    iprop(wh c cc0_scratch3 (rgV I) ∗ wh c cc0_stg0_0 (I.x c) ∗ (∃ f, wh c cc0_scratch5 f))
      ⊢ iprop(((wh c cc0_scratch3 (rgV I) ∗ wh c cc0_stg0_0 (I.x c) ∗ (∃ f, ⌜SsOK I c f⌝ ∗ wh c cc0_scratch5 f)) -∗ WP c k Q) -∗ WP c (scoreP k) Q) := by
  unfold scoreP
  simp only [Prog.lift, Prog.bind_op, Prog.bind_ret, Prog.pure_eq_ret]
  iintro ⟨Hr, Hx, ⟨%f, Hb⟩⟩ Hk
  iapply (wp_load 𝒱₀ (c : Thread nD τ) none Set.univ (m := rgB) (Finset.subset_univ _)) $$ Hr; iintro Hr
  iapply (wp_load 𝒱₀ (c : Thread nD τ) none Set.univ (m := xB) (Finset.subset_univ _)) $$ Hx; iintro Hx
  iapply (wp_load 𝒱₀ (c : Thread nD τ) none Set.univ (m := ssB) (Finset.subset_univ _)) $$ Hb; iintro Hb
  iapply (wp_store 𝒱₀ (c : Thread nD τ) none Set.univ (m := ssB) (r := rSS4) (Mk := Finset.univ) (Finset.subset_univ _)) $$ Hb; iintro Hb
  rw [rd_rg, rd_x]
  iapply Hk
  isplitl [Hr]; · iexact Hr
  isplitl [Hx]; · iexact Hx
  iexists ((ssB.access rSS4).write (Elt F) f (k0_pay4 (rgV I) (I.x c)) Finset.univ)
  isplitr; · ipureintro; exact own_ss I c f
  iexact Hb

theorem ph_ownS {Q : β → sProp 𝕄} (g : Vec F S16x128 .f32) (hg : SsOK I c g) (k : PP F β) :
    iprop(ssP c c g ∗ (∃ f, sgP c c f))
      ⊢ iprop(((ssP c c g ∗ (∃ f, ⌜SgOK I f (sgS c).view.set⌝ ∗ sgP c c f)) -∗ WP c k Q) -∗ WP c (ownSP c k) Q) := by
  unfold ownSP ssP sgP
  simp only [Prog.lift, Prog.bind_op, Prog.bind_ret, Prog.pure_eq_ret]
  iintro ⟨Hx, ⟨%f, Hb⟩⟩ Hk
  iapply (wp_load 𝒱₀ (c : Thread nD τ) none Set.univ (m := ssB) (by rw [View.set_whole]; exact Finset.subset_univ _)) $$ Hx; iintro Hx
  iapply (wp_load_rect 𝒱₀ (c : Thread nD τ) none Set.univ (m := sgB) (r := rOS c) (set_os c)) $$ Hb; iintro Hb
  iapply (wp_store 𝒱₀ (c : Thread nD τ) none Set.univ (m := sgB) (r := rOS c) (Mk := Finset.univ) (by rw [View.setOn_univ]; exact set_os c)) $$ Hb; iintro Hb
  rw [show ssB.view.readAt (Elt F) rSS.toLoadRect g = g from Memref.readAt_unit_zero (Elt F) cc0_scratch5 z2 _ g]
  iapply Hk
  isplitl [Hx]; · iexact Hx
  iexists ((sgB.access (rOS c)).write (Elt F) f (k0_pay5 g) Finset.univ)
  isplitr; · ipureintro; exact own_sg I c f g hg
  iexact Hb

theorem ph_loads {Q : β → sProp 𝕄} (f : Vec F S32x16x128 .f32) (k : Vec F S32x16x128 .f32 → Vec F S1x512x1024 .f32 → Vec F S1x512x1024 .f32 → Vec F S1x1024x512 .f32 →
    Vec F S1x1024x512 .f32 → PP F β) :
    iprop(wh c cc0_scratch4 f ∗ wh c cc0_stg2_0 (I.a c) ∗ wh c cc0_stg3_0 (I.b c))
      ⊢ iprop(((wh c cc0_scratch4 f ∗ wh c cc0_stg2_0 (I.a c) ∗ wh c cc0_stg3_0 (I.b c)) -∗ WP c (k f (ldW1 I c 0) (ldW1 I c 1) (ldW2 I c 0) (ldW2 I c 1)) Q) -∗ WP c (loadsW c k) Q) := by
  unfold loadsW
  simp only [Prog.lift, Prog.bind_op, Prog.bind_ret, Prog.pure_eq_ret]
  iintro ⟨Hs, Ha, Hb⟩ Hk
  iapply (wp_load 𝒱₀ (c : Thread nD τ) none Set.univ (m := sgB) (Finset.subset_univ _)) $$ Hs; iintro Hs
  iapply (wp_load 𝒱₀ (c : Thread nD τ) none Set.univ (m := w1B) (Finset.subset_univ _)) $$ Ha; iintro Ha
  iapply (wp_load 𝒱₀ (c : Thread nD τ) none Set.univ (m := w1B) (Finset.subset_univ _)) $$ Ha; iintro Ha
  iapply (wp_load 𝒱₀ (c : Thread nD τ) none Set.univ (m := w2B) (Finset.subset_univ _)) $$ Hb; iintro Hb
  iapply (wp_load 𝒱₀ (c : Thread nD τ) none Set.univ (m := w2B) (Finset.subset_univ _)) $$ Hb; iintro Hb
  rw [show sgB.view.readAt (Elt F) rSG.toLoadRect f = f from Memref.readAt_unit_zero (Elt F) cc0_scratch4 z3 _ f]
  iapply Hk
  isplitl [Hs]; · iexact Hs
  isplitl [Ha]; · iexact Ha
  iexact Hb

theorem ph_chunk {Q : β → sProp 𝕄} (j : Fin 4) (p : Vec F S8x16x512 .bf16 → FVec F S128x512 .bf16)
    (hp : p (xgB.view.readAt (Elt F) (rXK j).toLoadRect (xgV I)) = chV I c j) (k : PUnit → PP F β) :
    iprop((bigSep (blk j).toFinset fun d => xgP c d (xgV I)) ∗ (∃ f, ykP c j f))
      ⊢ iprop((((bigSep (blk j).toFinset fun d => xgP c d (xgV I)) ∗ (bigSep (blk j).toFinset fun d => yP c d (yV I c))) -∗ WP c (k ⟨⟩) Q) -∗ WP c (chunkOp p j >>= k) Q) := by
  rw [← xgU_slots, ← yk_slots]
  have hv (f : Vec F S512x512 .bf16) : ((yB.access (rYK j)).loc (c : Thread nD τ) ↦[(yB.access (rYK j)).set]{fullShare} ((yB.access (rYK j)).write (Elt F) f (chV I c j) Finset.univ) : sProp 𝕄) ⊢ ykP c j (yV I c) :=
    pt_mono (chunk_y I c j f)
  unfold chunkOp
  simp only [Prog.lift, Prog.bind_op, Prog.bind_ret, Prog.pure_eq_ret]
  iintro ⟨Hx, ⟨%f, Hb⟩⟩ Hk
  unfold ykP at hv ⊢
  iapply (wp_load_rect 𝒱₀ (c : Thread nD τ) none Set.univ (m := xgB) (r := rXK j) (sub_xgU j)) $$ Hx; iintro Hx
  iapply (wp_load_rect 𝒱₀ (c : Thread nD τ) none Set.univ (m := yB) (r := rYK j) (Finset.Subset.refl _)) $$ Hb; iintro Hb
  iapply (wp_store 𝒱₀ (c : Thread nD τ) none Set.univ (m := yB) (r := rYK j) (Mk := Finset.univ) (by rw [View.setOn_univ])) $$ Hb; iintro Hb
  rw [show p ((xgB.access (rXK j)).read (Elt F) (xgV I)) = chV I c j from hp]
  iapply Hk
  isplitl [Hx]; · iexact Hx
  iapply (hv f); iexact Hb

theorem ph_ownC {Q : β → sProp 𝕄} (k : PUnit → PP F β) :
    iprop(yP c c (yV I c) ∗ (∃ f, cbP c c f)) ⊢ iprop(((yP c c (yV I c) ∗ cbP c c (cbV I c)) -∗ WP c (k ⟨⟩) Q) -∗ WP c (ownCW c >>= k) Q) := by
  unfold ownCW yP
  have hv (f : Vec F S32x16x512 .bf16) : ((cbB.access (rOC c)).loc (c : Thread nD τ) ↦[(cbS c).view.set]{fullShare} ((cbB.access (rOC c)).write (Elt F) f (k0_pay24 ((yB.access (rOY c)).read (Elt F) (yV I c))) Finset.univ) : sProp 𝕄) ⊢ cbP c c (cbV I c) :=
    pt_mono (own_cb I c f)
  simp only [Prog.lift, Prog.bind_op, Prog.bind_ret, Prog.pure_eq_ret]
  iintro ⟨Hx, ⟨%f, Hb⟩⟩ Hk
  unfold cbP at hv ⊢
  iapply (wp_load_rect 𝒱₀ (c : Thread nD τ) none Set.univ (m := yB) (r := rOY c) (set_oy c)) $$ Hx; iintro Hx
  iapply (wp_load_rect 𝒱₀ (c : Thread nD τ) none Set.univ (m := cbB) (r := rOC c) (set_oc c)) $$ Hb; iintro Hb
  iapply (wp_store 𝒱₀ (c : Thread nD τ) none Set.univ (m := cbB) (r := rOC c) (Mk := Finset.univ) (by rw [View.setOn_univ]; exact set_oc c)) $$ Hb; iintro Hb
  iapply Hk
  isplitl [Hx]; · iexact Hx
  iapply (hv f); iexact Hb

theorem ph_out {Q : β → sProp 𝕄} (k : PP F β) :
    iprop(wh c cc0_scratch7 (cbV I c) ∗ (∃ f, wh c cc0_stg4_0 f))
      ⊢ iprop(((wh c cc0_scratch7 (cbV I c) ∗ wh c cc0_stg4_0 (outV I c)) -∗ WP c k Q) -∗ WP c (outP k) Q) := by
  unfold outP
  simp only [Prog.lift, Prog.bind_op, Prog.bind_ret, Prog.pure_eq_ret]
  iintro ⟨Hr, ⟨%f, Hb⟩⟩ Hk
  iapply (wp_load 𝒱₀ (c : Thread nD τ) none Set.univ (m := cbB) (Finset.subset_univ _)) $$ Hr; iintro Hr
  iapply (wp_load 𝒱₀ (c : Thread nD τ) none Set.univ (m := oB) (Finset.subset_univ _)) $$ Hb; iintro Hb
  iapply (wp_store 𝒱₀ (c : Thread nD τ) none Set.univ (m := oB) (r := rX) (Mk := Finset.univ) (Finset.subset_univ _)) $$ Hb; iintro Hb
  rw [show cbB.view.readAt (Elt F) rCB.toLoadRect (cbV I c) = cbV I c from Memref.readAt_unit_zero (Elt F) cc0_scratch7 z3 _ (cbV I c),
    show (oB.access rX).write (Elt F) f (k0_pay25 (cbV I c)) Finset.univ = k0_pay25 (cbV I c) from Memref.write_access_unit_zero_univ (Elt F) cc0_stg4_0 z2 _ f (k0_pay25 (cbV I c))]
  iapply Hk
  isplitl [Hr]; · iexact Hr
  iexact Hb

end phases

end Cert.KernelIdealRun
-- ==== Proof.IParts.lean ====
/-
# The body, in four parts
-/
module

public import proofs.«01_k».proof.Proof.IPhases

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD × CK → ℕ)

section parts
variable {β : Type} (c : Dev nD)

/-- The slots of the four gather buffers: a device's own, and the others', which it hands over. -/
theorem deal_slots : iprop((∃ f, wh c cc0_scratch3 f) ∗ (∃ f, wh c cc0_scratch2 f) ∗ (∃ f, wh c cc0_scratch4 f) ∗ (∃ f, wh c cc0_scratch7 f))
    ⊢ (iprop(((∃ f, rgP c c f) ∗ (∃ f, xgP c c f) ∗ (∃ f, sgP c c f) ∗ (∃ f, cbP c c f)) ∗ bigSep (Finset.univ.erase c) fun d => barPay (F := F) d c) : sProp 𝕄) := by
  iintro ⟨⟨%f1, H1⟩, ⟨%f2, H2⟩, ⟨%f3, H3⟩, ⟨%f4, H4⟩⟩
  ihave H1 := (Entails.of_eq ((rg_slots c f1).trans (own_others c _))) $$ H1
  ihave H2 := (Entails.of_eq ((xg_slots c f2).trans (own_others c _))) $$ H2
  ihave H3 := (Entails.of_eq ((sg_slots c f3).trans (own_others c _))) $$ H3
  ihave H4 := (Entails.of_eq ((cb_slots c f4).trans (own_others c _))) $$ H4
  icases H1 with ⟨H1, G1⟩
  icases H2 with ⟨H2, G2⟩
  icases H3 with ⟨H3, G3⟩
  icases H4 with ⟨H4, G4⟩
  have hb : (bigSep (Finset.univ.erase c) fun d => iprop(rgP c d f1 ∗ xgP c d f2 ∗ sgP c d f3 ∗ cbP c d f4) : sProp 𝕄) ⊢ bigSep (Finset.univ.erase c) fun d => barPay d c :=
    bigSep_mono fun d _ => show iprop(rgP c d f1 ∗ xgP c d f2 ∗ sgP c d f3 ∗ cbP c d f4) ⊢ barPay d c from by
      unfold barPay
      iintro ⟨G1, G2, G3, G4⟩
      isplitl [G1]; · iexists f1; iexact G1
      isplitl [G2]; · iexists f2; iexact G2
      isplitl [G3]; · iexists f3; iexact G3
      iexists f4; iexact G4
  rw [big_sep, big_sep, big_sep] at hb
  isplitl [H1 H2 H3 H4]
  · isplitl [H1]; · iexists f1; iexact H1
    isplitl [H2]; · iexists f2; iexact H2
    isplitl [H3]; · iexists f3; iexact H3
    iexists f4; iexact H4
  iapply hb
  isplitl [G1]; · iexact G1
  isplitl [G2]; · iexact G2
  isplitl [G3] <;> iassumption

def tokA (d : Dev nD) : sProp 𝕄 := iprop((tok c (ckK 2 d) d ∗ tok d (ckK 3 c) c) ∗ (tok c (ckK 0 d) d ∗ tok d (ckK 1 c) c))
def tokB (d : Dev nD) : sProp 𝕄 := iprop(tok c (ckK 4 d) d ∗ tok d (ckK 5 c) c)
def tokC (d : Dev nD) : sProp 𝕄 := iprop(tok c (ckK 6 d) d ∗ tok d (ckK 7 c) c)
def sgO (d : Dev nD) : sProp 𝕄 := iprop(∃ f, sgP d c f)
def cbO (d : Dev nD) : sProp 𝕄 := iprop(∃ f, cbP d c f)

theorem lend_slots : iprop((bigSep (Finset.univ.erase c) fun d => barPay (F := F) c d) ∗ (bigSep (Finset.univ.erase c) fun d => tokA (F := F) c d)
      ∗ (bigSep (Finset.univ.erase c) fun d => xbP c d (xbV I c)) ∗ (bigSep (Finset.univ.erase c) fun d => rtP c d (rtV I c)))
    ⊢ (iprop((bigSep (Finset.univ.erase c) fun d => preRX I c d) ∗ (bigSep (Finset.univ.erase c) fun d => sgO (F := F) c d) ∗ (bigSep (Finset.univ.erase c) fun d => cbO (F := F) c d)) : sProp 𝕄) := by
  have hb : (bigSep (Finset.univ.erase c) fun d => iprop(barPay c d ∗ tokA c d ∗ xbP c d (xbV I c) ∗ rtP c d (rtV I c)) : sProp 𝕄)
      ⊢ bigSep (Finset.univ.erase c) fun d => iprop(preRX I c d ∗ sgO c d ∗ cbO c d) :=
    bigSep_mono fun d _ => show iprop(barPay c d ∗ tokA c d ∗ xbP c d (xbV I c) ∗ rtP c d (rtV I c)) ⊢ iprop(preRX I c d ∗ sgO c d ∗ cbO c d) from by
      unfold barPay tokA preRX sgO cbO
      iintro ⟨⟨G1, G2, G3, G4⟩, ⟨⟨T2, T3⟩, T0, T1⟩, Hx, Hr⟩
      isplitl [G1 G2 T2 T3 T0 T1 Hx Hr]
      · isplitl [Hr G1 T2 T3]
        · isplitl [Hr]; · iexact Hr
          isplitl [G1]; · iexact G1
          isplitl [T2] <;> iassumption
        · isplitl [Hx]; · iexact Hx
          isplitl [G2]; · iexact G2
          isplitl [T0] <;> iassumption
      isplitl [G3] <;> iassumption
  rw [big_sep, big_sep, big_sep, big_sep, big_sep] at hb
  exact hb

/-- The first part: the handshake, the casts, the sends of rows and router columns, the own slots. -/
def progA (c : Dev nD) (k : PP F β) : PP F β :=
  seqK (peers c) sigOp <| semWaitWord (sig.barrier 0 rfl) 31#32 >>= fun _ => castP <|
    seqK (peers c) (fun d => sendR c d >>= fun _ => sendX c d) <| hereX c >>= fun _ => ownRP c k

def inA : sProp 𝕄 :=
  iprop(ow c (debts c) ∗ (bigSep (Finset.univ.erase c) fun d => tok (F := F) d ckB c)
    ∗ ((∃ f, wh c cc0_scratch3 f) ∗ (∃ f, wh c cc0_scratch2 f) ∗ (∃ f, wh c cc0_scratch4 f) ∗ (∃ f, wh c cc0_scratch7 f))
    ∗ (wh c cc0_stg0_0 (I.x c) ∗ (∃ f, wh c cc0_scratch0 f) ∗ wh c cc0_stg1_0 (I.w c) ∗ (∃ f, wh c cc0_scratch1 f))
    ∗ (cred (tallyAt (kcell (c, ckB)) () 31) ∗ pos c ckB) ∗ (bigSep (Finset.univ.erase c) fun d => tokA (F := F) c d) ∗ tok c (ckK 1 c) c)
def outA : sProp 𝕄 :=
  iprop(ow c (dS c (peers c) ++ dY c all32) ∗ zer c ckB ∗ wh c cc0_stg0_0 (I.x c) ∗ wh c cc0_stg1_0 (I.w c) ∗ rgP c c (rgV I) ∗ rtP c c (rtV I c)
    ∗ (∃ f, sgP c c f) ∗ (∃ f, cbP c c f) ∗ (bigSep (Finset.univ.erase c) fun d => sgO (F := F) c d) ∗ (bigSep (Finset.univ.erase c) fun d => cbO (F := F) c d)
    ∗ (bigSep (Finset.univ.erase c) fun d => iprop(crd (F := F) c (ckK 2 d) ∗ crd (F := F) c (ckK 0 d))) ∗ crd c (ckK 1 c))

theorem run_A {Q : β → sProp 𝕄} (k : PP F β) : iprop(ctx I K ∗ inA I c) ⊢ iprop((outA I c -∗ WP c k Q) -∗ WP c (progA c k) Q) := by
  unfold inA outA progA debts
  iintro ⟨#Hc, Ho, Ht, Hb, Hs, ⟨Hcb, Hpb⟩, HtA, Ht1⟩ Hk
  ihave Hb := (deal_slots (F := F) c) $$ Hb
  icases Hb with ⟨⟨Hrg, Hxg, Hsg, Hcbo⟩, Hb⟩
  ihave Htb := (Entails.of_eq (big_sep (F := F) (Finset.univ.erase c) (fun d => tok d ckB c) (fun d => barPay d c)).symm) $$ [Ht Hb]
  · isplitl [Ht] <;> iassumption
  iapply (loop_sig (F := F) (Q := Q) I K c (dRX c (peers c) ++ (dS c (peers c) ++ dY c all32)) _) $$ [Ho Htb]
  · isplitr; · iexact Hc
    isplitl [Ho] <;> iassumption
  iintro Ho
  iapply (step_bar (F := F) (Q := Q) I K c (dRX c (peers c) ++ (dS c (peers c) ++ dY c all32)) (fun p hp => by
    rcases List.mem_append.mp hp with h | h
    · rw [lev_dRX p h]; decide
    rcases List.mem_append.mp h with h | h
    · rw [lev_dS p h]; decide
    · rw [lev_dY p h]; decide) _) $$ [Ho Hcb Hpb]
  · isplitr; · iexact Hc
    isplitl [Ho]; · iexact Ho
    isplitl [Hcb] <;> iassumption
  iintro ⟨Ho, Hbp, Hz⟩
  iapply (ph_cast I c _) $$ Hs
  iintro ⟨Hx, Hxb, Hw, Hrt⟩
  ihave Hxb := (Entails.of_eq ((xb_shares c (xbV I c)).trans (own_others c _))) $$ Hxb
  icases Hxb with ⟨Hxb0, Hxb⟩
  ihave Hrt := (Entails.of_eq ((rt_shares c (rtV I c)).trans (own_others c _))) $$ Hrt
  icases Hrt with ⟨Hrt0, Hrt⟩
  ihave Hl := (lend_slots I c) $$ [Hbp HtA Hxb Hrt]
  · isplitl [Hbp]; · iexact Hbp
    isplitl [HtA]; · iexact HtA
    isplitl [Hxb] <;> iassumption
  icases Hl with ⟨Hl, Hso, Hco⟩
  iapply (loop_sendRX (F := F) (Q := Q) I K c (dS c (peers c) ++ dY c all32) _) $$ [Ho Hl]
  · isplitr; · iexact Hc
    isplitl [Ho] <;> iassumption
  iintro ⟨Ho, Hcr⟩
  icases Hxg with ⟨%fx, Hxg⟩
  iapply (step_hereX (F := F) (Q := Q) I K c fx _) $$ [Hxb0 Hxg Ht1]
  · isplitr; · iexact Hc
    isplitl [Hxb0]; · iexact Hxb0
    isplitl [Hxg] <;> iassumption
  iintro Hc1
  iapply (ph_ownR I c _) $$ [Hrt0 Hrg]
  · isplitl [Hrt0] <;> iassumption
  iintro ⟨Hrt0, Hrg⟩
  iapply Hk
  isplitl [Ho]; · iexact Ho
  isplitl [Hz]; · iexact Hz
  isplitl [Hx]; · iexact Hx
  isplitl [Hw]; · iexact Hw
  isplitl [Hrg]; · iexact Hrg
  isplitl [Hrt0]; · iexact Hrt0
  isplitl [Hsg]; · iexact Hsg
  isplitl [Hcbo]; · iexact Hcbo
  isplitl [Hso]; · iexact Hso
  isplitl [Hco]; · iexact Hco
  isplitl [Hcr] <;> iassumption

/-- The second part: the arrivals of the router's columns, the scores and their exchange, the loads. -/
def progB (c : Dev nD) (k : Vec F S32x16x128 .f32 → Vec F S1x512x1024 .f32 → Vec F S1x512x1024 .f32 → Vec F S1x1024x512 .f32 → Vec F S1x1024x512 .f32 → PP F β) : PP F β :=
  seqK (peers c) waitR <| scoreP <| seqK (peers c) (sendS c) <| ownSP c <| seqK (peers c) waitS <| loadsW c k

abbrev wt (k : CK) : sProp 𝕄 := iprop(crd c k ∗ pos c k)

def inB : sProp 𝕄 :=
  iprop(ow c (dS c (peers c) ++ dY c all32) ∗ (bigSep (Finset.univ.erase c) fun d => wt (F := F) c (ckK 3 d)) ∗ rgP c c (rgV I) ∗ wh c cc0_stg0_0 (I.x c) ∗ (∃ f, wh c cc0_scratch5 f)
    ∗ (bigSep (Finset.univ.erase c) fun d => sgO (F := F) c d) ∗ (bigSep (Finset.univ.erase c) fun d => tokB (F := F) c d) ∗ (∃ f, sgP c c f)
    ∗ (bigSep (Finset.univ.erase c) fun d => wt (F := F) c (ckK 5 d)) ∗ wh c cc0_stg2_0 (I.a c) ∗ wh c cc0_stg3_0 (I.b c))
def outB : sProp 𝕄 :=
  iprop(ow c (dY c all32) ∗ (bigSep (Finset.univ.erase c) fun d => zer (F := F) c (ckK 3 d)) ∗ wh c cc0_scratch3 (rgV I) ∗ wh c cc0_stg0_0 (I.x c) ∗ (∃ f, wh c cc0_scratch4 f)
    ∗ (∃ g, ssP c c g) ∗ (bigSep (Finset.univ.erase c) fun d => crd (F := F) c (ckK 4 d)) ∗ (bigSep (Finset.univ.erase c) fun d => zer (F := F) c (ckK 5 d))
    ∗ wh c cc0_stg2_0 (I.a c) ∗ wh c cc0_stg3_0 (I.b c))

theorem lend_S (g : Vec F S16x128 .f32) : iprop((bigSep (Finset.univ.erase c) fun d => ssP (F := F) c d g) ∗ (bigSep (Finset.univ.erase c) fun d => sgO (F := F) c d) ∗ (bigSep (Finset.univ.erase c) fun d => tokB (F := F) c d))
    ⊢ (bigSep (Finset.univ.erase c) fun d => iprop(ssP c d g ∗ (∃ f, sgP d c f) ∗ tok c (ckK 4 d) d ∗ tok d (ckK 5 c) c) : sProp 𝕄) := by
  rw [← big_sep, ← big_sep]
  exact bigSep_mono fun d _ => by unfold sgO tokB; exact BI.Entails.refl _

theorem run_B {Q : β → sProp 𝕄} (k : Vec F S32x16x128 .f32 → Vec F S1x512x1024 .f32 → Vec F S1x512x1024 .f32 → Vec F S1x1024x512 .f32 → Vec F S1x1024x512 .f32 → PP F β)
    (k0 : PP F β) (hk : ∀ f : Vec F S32x16x128 .f32, (∀ i : S32x16x128.Idx, (i 2).val < 4 → f i = sgV I i) → k f (ldW1 I c 0) (ldW1 I c 1) (ldW2 I c 0) (ldW2 I c 1) = k0) :
    iprop(ctx I K ∗ inB I c) ⊢ iprop((outB I c -∗ WP c k0 Q) -∗ WP c (progB c k) Q) := by
  unfold inB outB progB
  iintro ⟨#Hc, Ho, Hw3, Hrg0, Hx, Hss, Hso, HtB, Hsg0, Hw5, Ha, Hb⟩ Hk
  iapply (loop_waitR (F := F) (Q := Q) I K c (dS c (peers c) ++ dY c all32) (fun p hp => by
    rcases List.mem_append.mp hp with h | h
    · rw [lev_dS p h]; decide
    · rw [lev_dY p h]; decide) _) $$ [Ho Hw3]
  · isplitr; · iexact Hc
    isplitl [Ho] <;> iassumption
  iintro ⟨Ho, Hrg⟩
  ihave Hrg := (Entails.of_eq (big_sep (Finset.univ.erase c) (fun d => rgP c d (rgV I)) (fun d => zer (F := F) c (ckK 3 d)))) $$ Hrg
  icases Hrg with ⟨Hrg, Hz3⟩
  ihave Hrg := (Entails.of_eq ((rg_slots c (rgV I)).trans (own_others c _)).symm) $$ [Hrg Hrg0]
  · isplitl [Hrg0] <;> iassumption
  iapply (ph_score I c _) $$ [Hrg Hx Hss]
  · isplitl [Hrg]; · iexact Hrg
    isplitl [Hx] <;> iassumption
  iintro ⟨Hrg, Hx, ⟨%g, %hg, Hss⟩⟩
  ihave Hss := (Entails.of_eq ((ss_shares c g).trans (own_others c _))) $$ Hss
  icases Hss with ⟨Hss0, Hss⟩
  ihave Hl := (lend_S c g) $$ [Hss Hso HtB]
  · isplitl [Hss]; · iexact Hss
    isplitl [Hso] <;> iassumption
  iapply (loop_sendS (F := F) (Q := Q) I K c g hg (dY c all32) _) $$ [Ho Hl]
  · isplitr; · iexact Hc
    isplitl [Ho] <;> iassumption
  iintro ⟨Ho, Hc4⟩
  iapply (ph_ownS I c g hg _) $$ [Hss0 Hsg0]
  · isplitl [Hss0] <;> iassumption
  iintro ⟨Hss0, Hsg0⟩
  iapply (loop_waitS (F := F) (Q := Q) I K c (dY c all32) (fun p hp => by rw [lev_dY p hp]; decide) _) $$ [Ho Hw5]
  · isplitr; · iexact Hc
    isplitl [Ho] <;> iassumption
  rw [big_sep]
  iintro ⟨Ho, Hsg, Hz5⟩
  ihave Hsg := (Entails.of_eq (own_others c (fun d => iprop(∃ f, ⌜SgOK I f (sgS d).view.set⌝ ∗ sgP c d f) : Dev nD → sProp 𝕄)).symm) $$ [Hsg Hsg0]
  · isplitl [Hsg0] <;> iassumption
  ihave Hsg := (sg_join I c) $$ Hsg
  icases Hsg with ⟨%f, %hf, Hsg⟩
  iapply (ph_loads I c f k) $$ [Hsg Ha Hb]
  · isplitl [Hsg]; · iexact Hsg
    isplitl [Ha] <;> iassumption
  rw [hk f hf]
  iintro ⟨Hsg, Ha, Hb⟩
  iapply Hk
  isplitl [Ho]; · iexact Ho
  isplitl [Hz3]; · iexact Hz3
  isplitl [Hrg]; · iexact Hrg
  isplitl [Hx]; · iexact Hx
  isplitl [Hsg]; · iexists f; iexact Hsg
  isplitl [Hss0]; · iexists g; iexact Hss0
  isplitl [Hc4]; · iexact Hc4
  isplitl [Hz5]; · iexact Hz5
  isplitl [Ha] <;> iassumption

/-- A chunk: its slots awaited, its rows computed, and sent to their owners. -/
def chunkB (c : Dev nD) (f : Fin 4 → Vec F S8x16x512 .bf16 → FVec F S128x512 .bf16) (k : Fin 4) : PP F PUnit :=
  seqK (blk k) waitX <| chunkOp (f k) k >>= fun _ => seqK (blk k) (sendY c) (pure ⟨⟩)

def inK (k : Fin 4) : sProp 𝕄 :=
  iprop((bigSep (blk k).toFinset fun d => wt (F := F) c (ckK 1 d)) ∗ (∃ f, ykP c k f) ∗ bigSep (blk k).toFinset fun d => preY (F := F) c d)
def xbO (d : Dev nD) : sProp 𝕄 := if d = c then xbP c d (xbV I c) else iprop(emp)
def outK (k : Fin 4) : sProp 𝕄 :=
  iprop((bigSep (blk k).toFinset fun d => xgP c d (xgV I)) ∗ (bigSep (blk k).toFinset fun d => xbO I c d) ∗ (bigSep (blk k).toFinset fun d => zer (F := F) c (ckK 1 d))
    ∗ bigSep (blk k).toFinset fun d => postY I c d)

theorem run_K {Q : β → sProp 𝕄} (f : Fin 4 → Vec F S8x16x512 .bf16 → FVec F S128x512 .bf16)
    (hf : ∀ k, f k (xgB.view.readAt (Elt F) (rXK k).toLoadRect (xgV I)) = chV I c k) (k : Fin 4) (l : List (Dev nD × CK)) (hl : ∀ p ∈ l, 2 < lev p.2) (k' : PP F β) :
    iprop(ctx I K ∗ ow c (dY c (blk k) ++ l) ∗ inK (F := F) c k) ⊢ iprop(((ow c l ∗ outK I c k) -∗ WP c k' Q) -∗ WP c (chunkB c f k >>= fun _ => k') Q) := by
  unfold inK outK chunkB
  rw [seqK_bind]
  simp only [bind_assoc, seqK_bind]
  iintro ⟨#Hc, Ho, Hw, Hy, Hp⟩ Hk
  iapply (loop_waitX (F := F) (Q := Q) I K c (blk k) (blk_nodup k) (dY c (blk k) ++ l) (fun p hp => by
    rcases List.mem_append.mp hp with h | h
    · rw [lev_dY p h]; decide
    · exact hl p h) _) $$ [Ho Hw]
  · isplitr; · iexact Hc
    isplitl [Ho] <;> iassumption
  unfold gotX
  rw [big_sep, big_sep]
  iintro ⟨Ho, ⟨Hxg, Hxb⟩, Hz⟩
  iapply (ph_chunk I c k (f k) (hf k) _) $$ [Hxg Hy]
  · isplitl [Hxg] <;> iassumption
  iintro ⟨Hxg, Hy⟩
  ihave Hyp := (Entails.of_eq (big_sep (blk k).toFinset (fun d => yP c d (yV I c)) (fun d => preY (F := F) c d)).symm) $$ [Hy Hp]
  · isplitl [Hy] <;> iassumption
  iapply (loop_sendY (F := F) (Q := Q) I K c (blk k) (blk_nodup k) l _) $$ [Ho Hyp]
  · isplitr; · iexact Hc
    isplitl [Ho] <;> iassumption
  iintro ⟨Ho, Hy⟩
  iapply Hk
  isplitl [Ho]; · iexact Ho
  isplitl [Hxg]; · iexact Hxg
  isplitl [Hxb]; · unfold xbO; iexact Hxb
  isplitl [Hz] <;> iassumption

theorem run_C {Q : β → sProp 𝕄} (f : Fin 4 → Vec F S8x16x512 .bf16 → FVec F S128x512 .bf16)
    (hf : ∀ k, f k (xgB.view.readAt (Elt F) (rXK k).toLoadRect (xgV I)) = chV I c k) (k' : PP F β) :
    iprop(ctx I K ∗ ow c (dY c all32) ∗ (bigSep Finset.univ fun d => wt (F := F) c (ckK 1 d)) ∗ (∃ f, wh c cc0_scratch6 f) ∗ (bigSep Finset.univ fun d => preY (F := F) c d))
      ⊢ iprop(((ow c [] ∗ wh c cc0_scratch2 (xgV I) ∗ (bigSep Finset.univ fun d => xbO I c d) ∗ (bigSep Finset.univ fun d => zer (F := F) c (ckK 1 d)) ∗ bigSep Finset.univ fun d => postY I c d)
        -∗ WP c k' Q) -∗ WP c (seqK [0, 1, 2, 3] (chunkB c f) k') Q) := by
  have hu : ([0, 1, 2, 3] : List (Fin 4)).toFinset = Finset.univ := by decide
  have h := wp_loop (F := F) (Q := Q) I K c (chunkB c f) (fun t => dY c (t.flatMap blk)) (fun k => inK c k) (fun k => outK I c k) [0, 1, 2, 3] (by decide)
    (fun k _ t k' => by
      have h := run_K (F := F) (Q := Q) I K c f hf k (dY c (t.flatMap blk)) (fun p hp => by rw [lev_dY p hp]; decide) k'
      rw [show dY c ((k :: t).flatMap blk) = dY c (blk k) ++ dY c (t.flatMap blk) from by unfold dY; rw [List.flatMap_cons, List.flatMap_append]]
      exact h) k'
  rw [hu, show dY c (([0, 1, 2, 3] : List (Fin 4)).flatMap blk) = dY c all32 from rfl, show dY c (([] : List (Fin 4)).flatMap blk) = [] from rfl] at h
  unfold inK outK at h
  rw [big_sep, big_sep, big_sep, big_sep, big_sep, ← by_blk, ← by_blk, ← by_blk, ← by_blk, ← by_blk, ← by_blk, ← xg_slots] at h
  iintro ⟨#Hc, Ho, Hw, ⟨%fy, Hy⟩, Hp⟩ Hk
  ihave Hy := ((Entails.of_eq (y_chunks c fy)).trans (bigSep_mono fun k _ => show ykP c k fy ⊢ iprop(∃ f, ykP c k f) from by
    iintro H; iexists fy; iexact H)) $$ Hy
  iapply h $$ [Ho Hw Hy Hp]
  · isplitr; · iexact Hc
    isplitl [Ho]; · iexact Ho
    isplitl [Hw]; · iexact Hw
    isplitl [Hy] <;> iassumption
  iintro H
  iapply Hk
  iexact H

/-- The last part: the own slot, the arrivals, the sum, and the drains. -/
def progD (c : Dev nD) : PP F PUnit :=
  ownCW c >>= fun _ => seqK (peers c) waitC <| outP <| seqK (peers c) drain (pure ⟨⟩)

theorem run_D {Q : PUnit → sProp 𝕄} :
    iprop(ctx I K ∗ ow c [] ∗ yP c c (yV I c) ∗ (∃ f, cbP c c f) ∗ (bigSep (Finset.univ.erase c) fun d => wt (F := F) c (ckK 7 d)) ∗ (∃ f, wh c cc0_stg4_0 f)
        ∗ bigSep (Finset.univ.erase c) fun d => preD (F := F) c d)
      ⊢ iprop(((ow c [] ∗ yP c c (yV I c) ∗ wh c cc0_scratch7 (cbV I c) ∗ (bigSep (Finset.univ.erase c) fun d => zer (F := F) c (ckK 7 d)) ∗ wh c cc0_stg4_0 (outV I c)
          ∗ bigSep (Finset.univ.erase c) fun d => postD I c d) -∗ WP c (pure ⟨⟩) Q) -∗ WP c (progD c) Q) := by
  unfold progD
  iintro ⟨#Hc, Ho, Hy, Hcb0, Hw, Hst, Hd⟩ Hk
  iapply (ph_ownC I c _) $$ [Hy Hcb0]
  · isplitl [Hy] <;> iassumption
  iintro ⟨Hy, Hcb0⟩
  iapply (loop_waitC (F := F) (Q := Q) I K c _) $$ [Ho Hw]
  · isplitr; · iexact Hc
    isplitl [Ho] <;> iassumption
  rw [big_sep]
  iintro ⟨Ho, Hcb, Hz⟩
  ihave Hcb := (Entails.of_eq ((cb_slots c (cbV I c)).trans (own_others c _)).symm) $$ [Hcb Hcb0]
  · isplitl [Hcb0] <;> iassumption
  iapply (ph_out I c _) $$ [Hcb Hst]
  · isplitl [Hcb] <;> iassumption
  iintro ⟨Hcb, Hst⟩
  iapply (loop_drain (F := F) (Q := Q) I K c _) $$ [Ho Hd]
  · isplitr; · iexact Hc
    isplitl [Ho] <;> iassumption
  iintro ⟨Ho, Hd⟩
  iapply Hk
  isplitl [Ho]; · iexact Ho
  isplitl [Hy]; · iexact Hy
  isplitl [Hcb]; · iexact Hcb
  isplitl [Hz]; · iexact Hz
  isplitl [Hst] <;> iassumption

end parts

end Cert.KernelIdealRun
-- ==== Proof.IBody.lean ====
/-
# The whole body
-/
module

public import proofs.«01_k».proof.Proof.IParts

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F) (K : Dev nD × CK → ℕ)

/-- The body of device `c`, in four parts. -/
def prog (c : Dev nD) : PP F PUnit :=
  progA c <| progB c fun f a a' b b' => seqK [0, 1, 2, 3] (chunkB c fun k => payK c k f a a' b b') (progD c)

theorem sends_eq (c : Dev nD) (k : PP F PUnit) :
    seqK [0, 1, 2, 3, 4, 5, 6, 7, 8, 9, 10, 11, 12, 13, 14] (sendSW c)
      (seqK [15, 16, 17, 18, 19, 20, 21, 22, 23, 24, 25, 26, 27, 28, 29, 30] (sendSW c) k) = seqK (peers c) (sendS c) k := by
  rw [← seqK_append]; exact seqK_peers c _ _ (sendSW_eq c) k
theorem drains_eq (c : Dev nD) :
    (seqK [0, 1, 2, 3, 4, 5, 6, 7] (drainW c) (drain3W c 8 (endW c)) : PP F PUnit) = seqK (peers c) drain (pure ⟨⟩) := by
  have h : (drain3W c 8 (endW c) : PP F PUnit) = seqK [8, 9, 10, 11, 12, 13, 14, 15, 16, 17, 18, 19, 20, 21, 22, 23, 24, 25, 26, 27, 28, 29, 30] (drainW c) (pure ⟨⟩) := by
    unfold endW
    rw [show (seqK [8, 9, 10, 11, 12, 13, 14, 15, 16, 17, 18, 19, 20, 21, 22, 23, 24, 25, 26, 27, 28, 29, 30] (drainW c) (pure ⟨⟩) : PP F PUnit)
      = drainW c 8 >>= fun _ => seqK [9, 10, 11, 12, 13, 14, 15, 16, 17, 18, 19, 20, 21, 22, 23, 24, 25, 26, 27, 28, 29, 30] (drainW c) (pure ⟨⟩) from rfl]
    simp only [drainW, drain3W, bind_assoc]
  rw [h, ← seqK_append]; exact seqK_peers c _ _ (drainW_eq c) _
theorem chunks_eq (c : Dev nD) (f : Fin 4 → Vec F S8x16x512 .bf16 → FVec F S128x512 .bf16) (l : List (Fin 4)) (z : PP F PUnit) :
    chunksW c f l z = seqK l (chunkB c f) z := by
  induction l with
  | nil => rfl
  | cons k l ih =>
    rw [show chunksW c f (k :: l) z = seqK (blk k) waitXW (chunkOp (f k) k >>= fun _ => seqYK c (blk k) (chunksW c f l z)) from rfl, ih,
      show seqK (k :: l) (chunkB c f) z = chunkB c f k >>= fun _ => seqK l (chunkB c f) z from rfl, show (waitXW : Fin 32 → PP F PUnit) = waitX from funext waitXW_eq]
    unfold chunkB
    simp only [seqYK_eq, bind_assoc, seqK_bind, pure_bind]

theorem bodyW_eq : (bodyW : PP F PUnit) = Prog.lift .deviceId >>= fun c => prog c := by
  unfold bodyW
  congr 1
  funext c
  unfold headW midW tailW prog progA progB progD castP ownRP scoreP ownSP outP
  simp only [seqK_peers c (sigW c) sigOp (sigW_eq c), seqK_peers c (fun i => sendRW c i >>= fun _ => sendXW c i : Fin 31 → PP F PUnit) (fun d => sendR c d >>= fun _ => sendX c d) (fun i => by rw [sendRW_eq, sendXW_eq]),
    seqK_peers c (waitRW c) waitR (waitRW_eq c), seqK_peers c (waitSW c) waitS (waitSW_eq c), seqK_peers c (waitCW c) waitC (waitCW_eq c), sends_eq, drains_eq, chunks_eq, hereXW_eq]

/-- What device `c` starts the body with. -/
def bodyIn (c : Dev nD) : sProp 𝕄 :=
  iprop(ow c (debts c)
    ∗ (wh c cc0_stg0_0 (I.x c) ∗ wh c cc0_stg1_0 (I.w c) ∗ wh c cc0_stg2_0 (I.a c) ∗ wh c cc0_stg3_0 (I.b c) ∗ (∃ f, wh c cc0_stg4_0 f))
    ∗ ((∃ f, wh c cc0_scratch0 f) ∗ (∃ f, wh c cc0_scratch1 f) ∗ (∃ f, wh c cc0_scratch2 f) ∗ (∃ f, wh c cc0_scratch3 f)
      ∗ (∃ f, wh c cc0_scratch4 f) ∗ (∃ f, wh c cc0_scratch5 f) ∗ (∃ f, wh c cc0_scratch6 f) ∗ (∃ f, wh c cc0_scratch7 f))
    ∗ (cred (tallyAt (kcell (c, ckB)) () 31)
      ∗ (bigSep (Finset.univ.erase c) fun d => crd (F := F) c (ckK 1 d)) ∗ (bigSep (Finset.univ.erase c) fun d => crd (F := F) c (ckK 3 d))
      ∗ (bigSep (Finset.univ.erase c) fun d => crd (F := F) c (ckK 5 d)) ∗ (bigSep (Finset.univ.erase c) fun d => crd (F := F) c (ckK 7 d)))
    ∗ (pos c ckB ∗ bigSep Finset.univ fun k : Fin 8 => bigSep Finset.univ fun d => pos (F := F) c (ckK k d))
    ∗ ((bigSep (Finset.univ.erase c) fun d => tok (F := F) d ckB c) ∗ (bigSep (Finset.univ.erase c) fun d => tokA (F := F) c d)
      ∗ (bigSep (Finset.univ.erase c) fun d => tokB (F := F) c d) ∗ (bigSep (Finset.univ.erase c) fun d => tokC (F := F) c d) ∗ tok c (ckK 1 c) c))

/-- What it ends with. -/
def bodyOut (c : Dev nD) : sProp 𝕄 :=
  iprop(ow c []
    ∗ (wh c cc0_stg0_0 (I.x c) ∗ wh c cc0_stg1_0 (I.w c) ∗ wh c cc0_stg2_0 (I.a c) ∗ wh c cc0_stg3_0 (I.b c) ∗ wh c cc0_stg4_0 (outV I c))
    ∗ ((∃ f, wh c cc0_scratch0 f) ∗ (∃ f, wh c cc0_scratch1 f) ∗ (∃ f, wh c cc0_scratch2 f) ∗ (∃ f, wh c cc0_scratch3 f)
      ∗ (∃ f, wh c cc0_scratch4 f) ∗ (∃ f, wh c cc0_scratch5 f) ∗ (∃ f, wh c cc0_scratch6 f) ∗ (∃ f, wh c cc0_scratch7 f))
    ∗ (zer c ckB ∗ bigSep Finset.univ fun k : Fin 8 => bigSep Finset.univ fun d => zer (F := F) c (ckK k d)))

theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- A cell that is used by no one closes. -/
theorem close_own (c : Dev nD) (k : Fin 8) (hk : k ≠ 1) : iprop(ctx I K ∗ pos c (ckK k c)) ⊢ |={Set.univ}=> zer (F := F) c (ckK k c) := by
  have hi := ctx_inv I K (c, ckK k c)
  iintro ⟨#Hc, Hp⟩
  imod (Rounds.cell_close ER (Rd I) (Set.mem_univ (K (c, ckK k c))) (fun h => h) (R := 0) (duties_none I c (ckK k c) c (by
    have h8 : ∀ k : Fin 8, k ≠ 1 → k = 0 ∨ k = 2 ∨ k = 3 ∨ k = 4 ∨ k = 5 ∨ k = 6 ∨ k = 7 := by decide
    rcases h8 k hk with h | h | h | h | h | h | h <;> subst h <;> simp))) $$ [Hp] with Hz
  · isplitr; · iapply hi; iexact Hc
    iexact Hp
  imodintro
  iexact Hz

/-- The shares of the scores, each at some contents, are the whole buffer. -/
theorem ss_join (c : Dev nD) (s : Finset (Dev nD)) (g : Vec F S16x128 .f32) :
    iprop(ssP c c g ∗ bigSep s fun d => iprop(∃ f, ⌜SsOK I c f⌝ ∗ ssP c d f)) ⊢ iprop(ssP c c g ∗ bigSep s fun d => ssP (F := F) c d g) := by
  induction s using Finset.induction_on with
  | empty => exact BI.Entails.refl _
  | insert d s hd ih =>
    have hag (f : Vec F S16x128 .f32) : iprop(ssP c c g ∗ ssP c d f) ⊢ (iprop(ssP c c g ∗ ssP c d g) : sProp 𝕄) := by
      have h := pointsTo_agree (nD := nD) (τ := τ) (sig := sig) (Ix := Unit) (Name := ℕ) (U := UU) (Lvl := ℕ) (Val := Elt F) (ℓ := (c : Thread nD τ).loc cc0_scratch5) (I := ssB.view.set) (J := ssB.view.set) (q₁ := shr c) (q₂ := shr d) (f := g) (g := f)
      unfold ssP
      refine pure_elim _ h fun hv => ?_
      have e : ((c : Thread nD τ).loc cc0_scratch5 ↦[ssB.view.set]{shr d} f : sProp 𝕄) = ((c : Thread nD τ).loc cc0_scratch5 ↦[ssB.view.set]{shr d} g) :=
        pointsTo_congr fun i hi => (hv i (Finset.mem_inter.mpr ⟨hi, hi⟩)).1.symm
      exact Entails.of_eq (by rw [e])
    rw [big_insert hd, big_insert hd]
    iintro ⟨H0, ⟨%f, -, H1⟩, H⟩
    ihave H01 := (hag f) $$ [H0 H1]
    · isplitl [H0] <;> iassumption
    icases H01 with ⟨H0, H1⟩
    ihave H := ih $$ [H0 H]
    · isplitl [H0] <;> iassumption
    icases H with ⟨H0, H⟩
    isplitl [H0]; · iexact H0
    isplitl [H1] <;> iassumption

section run
variable (c : Dev nD)

theorem join_wt (s : Finset (Dev nD)) (k : Fin 8) : iprop((bigSep s fun d => crd (F := F) c (ckK k d)) ∗ bigSep s fun d => pos (F := F) c (ckK k d)) ⊢ (bigSep s fun d => wt (F := F) c (ckK k d) : sProp 𝕄) :=
  Entails.of_eq (big_sep s (fun d => crd c (ckK k d)) fun d => pos c (ckK k d)).symm

theorem all_wt1 : iprop(crd c (ckK 1 c) ∗ (bigSep (Finset.univ.erase c) fun d => crd (F := F) c (ckK 1 d)) ∗ bigSep Finset.univ fun d => pos (F := F) c (ckK 1 d))
    ⊢ (bigSep Finset.univ fun d => wt (F := F) c (ckK 1 d) : sProp 𝕄) := by
  have h := join_wt (F := F) c Finset.univ 1
  rw [own_others c (fun d => crd (F := F) c (ckK 1 d))] at h
  iintro ⟨H0, H, Hp⟩
  iapply h
  isplitl [H0 H]
  · isplitl [H0] <;> iassumption
  iexact Hp

theorem all_preY : iprop((bigSep (Finset.univ.erase c) fun d => cbO (F := F) c d) ∗ bigSep (Finset.univ.erase c) fun d => tokC (F := F) c d)
    ⊢ (bigSep Finset.univ fun d => preY (F := F) c d : sProp 𝕄) := by
  have h : (bigSep (Finset.univ.erase c) fun d => iprop(cbO c d ∗ tokC c d) : sProp 𝕄) ⊢ bigSep (Finset.univ.erase c) fun d => preY c d :=
    bigSep_mono fun d hd => show iprop(cbO c d ∗ tokC c d) ⊢ preY c d from by
      unfold cbO tokC preY
      rw [if_neg (Finset.mem_erase.mp hd).1]
  rw [big_sep] at h
  rw [own_others c]
  iintro H
  isplitr
  · unfold preY; rw [if_pos rfl]; iempintro
  iapply h; iexact H

theorem all_postY : (bigSep Finset.univ fun d => postY I c d : sProp 𝕄) ⊢ iprop(yP c c (yV I c) ∗ bigSep (Finset.univ.erase c) fun d => crd (F := F) c (ckK 6 d)) := by
  have h : (bigSep (Finset.univ.erase c) fun d => postY I c d : sProp 𝕄) ⊢ bigSep (Finset.univ.erase c) fun d => crd c (ckK 6 d) :=
    bigSep_mono fun d hd => Entails.of_eq (show postY I c d = crd c (ckK 6 d) from if_neg (Finset.mem_erase.mp hd).1)
  have h0 : (postY I c c : sProp 𝕄) ⊢ yP c c (yV I c) := Entails.of_eq (show postY I c c = yP c c (yV I c) from if_pos rfl)
  rw [own_others c]
  iintro ⟨H0, H⟩
  isplitl [H0]
  · iapply h0; iexact H0
  iapply h; iexact H

theorem all_xbO : (bigSep Finset.univ fun d => xbO I c d : sProp 𝕄) ⊢ xbP c c (xbV I c) :=
  BI.Entails.trans (big_elim (Finset.mem_univ c)) (Entails.of_eq (show xbO I c c = xbP c c (xbV I c) from if_pos rfl))

theorem all_preD : iprop((bigSep (Finset.univ.erase c) fun d => iprop(crd (F := F) c (ckK 2 d) ∗ crd (F := F) c (ckK 0 d))) ∗ (bigSep (Finset.univ.erase c) fun d => crd (F := F) c (ckK 4 d))
      ∗ (bigSep (Finset.univ.erase c) fun d => crd (F := F) c (ckK 6 d)) ∗ (bigSep (Finset.univ.erase c) fun d => pos (F := F) c (ckK 0 d)) ∗ (bigSep (Finset.univ.erase c) fun d => pos (F := F) c (ckK 2 d))
      ∗ (bigSep (Finset.univ.erase c) fun d => pos (F := F) c (ckK 4 d)) ∗ bigSep (Finset.univ.erase c) fun d => pos (F := F) c (ckK 6 d))
    ⊢ (bigSep (Finset.univ.erase c) fun d => preD (F := F) c d : sProp 𝕄) := by
  rw [← big_sep, ← big_sep, ← big_sep, ← big_sep, ← big_sep, ← big_sep]
  exact bigSep_mono fun d _ => show iprop((crd c (ckK 2 d) ∗ crd c (ckK 0 d)) ∗ crd c (ckK 4 d) ∗ crd c (ckK 6 d) ∗ pos c (ckK 0 d) ∗ pos c (ckK 2 d) ∗ pos c (ckK 4 d) ∗ pos c (ckK 6 d)) ⊢ preD c d from by
    unfold preD
    iintro ⟨⟨C2, C0⟩, C4, C6, P0, P2, P4, P6⟩
    isplitl [C2 P2]
    · isplitl [C2] <;> iassumption
    isplitl [C0 P0]
    · isplitl [C0] <;> iassumption
    isplitl [C4 P4]
    · isplitl [C4] <;> iassumption
    isplitl [C6] <;> iassumption

theorem all_postD : (bigSep (Finset.univ.erase c) fun d => postD I c d : sProp 𝕄)
    ⊢ iprop(((bigSep (Finset.univ.erase c) fun d => rtP c d (rtV I c)) ∗ bigSep (Finset.univ.erase c) fun d => zer (F := F) c (ckK 2 d))
      ∗ ((bigSep (Finset.univ.erase c) fun d => xbP c d (xbV I c)) ∗ bigSep (Finset.univ.erase c) fun d => zer (F := F) c (ckK 0 d))
      ∗ ((bigSep (Finset.univ.erase c) fun d => iprop(∃ f, ⌜SsOK I c f⌝ ∗ ssP c d f)) ∗ bigSep (Finset.univ.erase c) fun d => zer (F := F) c (ckK 4 d))
      ∗ ((bigSep (Finset.univ.erase c) fun d => yP c d (yV I c)) ∗ bigSep (Finset.univ.erase c) fun d => zer (F := F) c (ckK 6 d))) := by
  unfold postD
  rw [big_sep, big_sep, big_sep, big_sep, big_sep, big_sep, big_sep]

theorem run_body {Q : PUnit → sProp 𝕄} : iprop(ctx I K ∗ bodyIn I c) ⊢ iprop((bodyOut I c -∗ WP c (pure ⟨⟩) Q) -∗ WP c (prog c) Q) := by
  unfold bodyIn prog
  rw [fin8, own_others c (fun d => pos (F := F) c (ckK 0 d)), own_others c (fun d => pos (F := F) c (ckK 2 d)), own_others c (fun d => pos (F := F) c (ckK 3 d)),
    own_others c (fun d => pos (F := F) c (ckK 4 d)), own_others c (fun d => pos (F := F) c (ckK 5 d)), own_others c (fun d => pos (F := F) c (ckK 6 d)), own_others c (fun d => pos (F := F) c (ckK 7 d))]
  iintro ⟨#Hc, Ho, ⟨Hx, Hw, Ha, Hb, Hst⟩, ⟨Hs0, Hs1, Hs2, Hs3, Hs4, Hs5, Hs6, Hs7⟩, ⟨Hcb, Hc1, Hc3, Hc5, Hc7⟩,
    ⟨Hpb, ⟨Q0, P0⟩, P1, ⟨Q2, P2⟩, ⟨Q3, P3⟩, ⟨Q4, P4⟩, ⟨Q5, P5⟩, ⟨Q6, P6⟩, ⟨Q7, P7⟩⟩, ⟨Ht, HtA, HtB, HtC, Ht1⟩⟩ Hk
  iapply (run_A (Q := Q) I K c _) $$ [Ho Ht Hs3 Hs2 Hs4 Hs7 Hx Hs0 Hw Hs1 Hcb Hpb HtA Ht1]
  · isplitr; · iexact Hc
    unfold inA
    isplitl [Ho]; · iexact Ho
    isplitl [Ht]; · iexact Ht
    isplitl [Hs3 Hs2 Hs4 Hs7]
    · isplitl [Hs3]; · iexact Hs3
      isplitl [Hs2]; · iexact Hs2
      isplitl [Hs4] <;> iassumption
    isplitl [Hx Hs0 Hw Hs1]
    · isplitl [Hx]; · iexact Hx
      isplitl [Hs0]; · iexact Hs0
      isplitl [Hw] <;> iassumption
    isplitl [Hcb Hpb]
    · isplitl [Hcb] <;> iassumption
    isplitl [HtA] <;> iassumption
  unfold outA
  iintro ⟨Ho, Hzb, Hx, Hw, Hrg0, Hrt0, Hsg0, Hcb0, Hso, Hco, Hcr, Hc1o⟩
  ihave W3 := (join_wt (F := F) c (Finset.univ.erase c) 3) $$ [Hc3 P3]
  · isplitl [Hc3] <;> iassumption
  ihave W5 := (join_wt (F := F) c (Finset.univ.erase c) 5) $$ [Hc5 P5]
  · isplitl [Hc5] <;> iassumption
  ihave W7 := (join_wt (F := F) c (Finset.univ.erase c) 7) $$ [Hc7 P7]
  · isplitl [Hc7] <;> iassumption
  iapply (run_B (Q := Q) I K c _ (seqK [0, 1, 2, 3] (chunkB c fun k => payK c k (sgV I) (ldW1 I c 0) (ldW1 I c 1) (ldW2 I c 0) (ldW2 I c 1)) (progD c)) (fun f hf => by
      rw [show (fun k => payK c k f (ldW1 I c 0) (ldW1 I c 1) (ldW2 I c 0) (ldW2 I c 1)) = fun k => payK c k (sgV I) (ldW1 I c 0) (ldW1 I c 1) (ldW2 I c 0) (ldW2 I c 1) from
        funext fun k => funext fun v => payK_congr c k f (sgV I) hf _ _ _ _ v])) $$ [Ho W3 Hrg0 Hx Hs5 Hso HtB Hsg0 W5 Ha Hb]
  · isplitr; · iexact Hc
    unfold inB
    isplitl [Ho]; · iexact Ho
    isplitl [W3]; · iexact W3
    isplitl [Hrg0]; · iexact Hrg0
    isplitl [Hx]; · iexact Hx
    isplitl [Hs5]; · iexact Hs5
    isplitl [Hso]; · iexact Hso
    isplitl [HtB]; · iexact HtB
    isplitl [Hsg0]; · iexact Hsg0
    isplitl [W5]; · iexact W5
    isplitl [Ha] <;> iassumption
  unfold outB
  iintro ⟨Ho, Z3, Hs3, Hx, Hs4, ⟨%g, Hss0⟩, Hc4, Z5, Ha, Hb⟩
  ihave W1 := (all_wt1 (F := F) c) $$ [Hc1o Hc1 P1]
  · isplitl [Hc1o]; · iexact Hc1o
    isplitl [Hc1] <;> iassumption
  ihave HpY := (all_preY (F := F) c) $$ [Hco HtC]
  · isplitl [Hco] <;> iassumption
  iapply (run_C (Q := Q) I K c (fun k => payK c k (sgV I) (ldW1 I c 0) (ldW1 I c 1) (ldW2 I c 0) (ldW2 I c 1)) (fun k => rfl) (progD c)) $$ [Ho W1 Hs6 HpY]
  · isplitr; · iexact Hc
    isplitl [Ho]; · iexact Ho
    isplitl [W1]; · iexact W1
    isplitl [Hs6] <;> iassumption
  iintro ⟨Ho, Hs2, Hxb0, Z1, HpY⟩
  ihave Hxb0 := (all_xbO I c) $$ Hxb0
  ihave HpY := (all_postY I c) $$ HpY
  icases HpY with ⟨Hy0, Hc6⟩
  ihave HpD := (all_preD (F := F) c) $$ [Hcr Hc4 Hc6 P0 P2 P4 P6]
  · isplitl [Hcr]; · iexact Hcr
    isplitl [Hc4]; · iexact Hc4
    isplitl [Hc6]; · iexact Hc6
    isplitl [P0]; · iexact P0
    isplitl [P2]; · iexact P2
    isplitl [P4] <;> iassumption
  iapply (run_D (Q := Q) I K c) $$ [Ho Hy0 Hcb0 W7 Hst HpD]
  · isplitr; · iexact Hc
    isplitl [Ho]; · iexact Ho
    isplitl [Hy0]; · iexact Hy0
    isplitl [Hcb0]; · iexact Hcb0
    isplitl [W7]; · iexact W7
    isplitl [Hst] <;> iassumption
  iintro ⟨Ho, Hy0, Hs7, Z7, Hst, HpD⟩
  ihave HpD := (all_postD I c) $$ HpD
  icases HpD with ⟨⟨Hrt, Z2⟩, ⟨Hxb, Z0⟩, ⟨Hss, Z4⟩, ⟨Hy, Z6⟩⟩
  ihave Hs0 := (Entails.of_eq ((xb_shares c (xbV I c)).trans (own_others c _)).symm) $$ [Hxb0 Hxb]
  · isplitl [Hxb0] <;> iassumption
  ihave Hs1 := (Entails.of_eq ((rt_shares c (rtV I c)).trans (own_others c _)).symm) $$ [Hrt0 Hrt]
  · isplitl [Hrt0] <;> iassumption
  ihave Hs6 := (Entails.of_eq ((y_slots c (yV I c)).trans (own_others c _)).symm) $$ [Hy0 Hy]
  · isplitl [Hy0] <;> iassumption
  ihave Hss := (ss_join I c (Finset.univ.erase c) g) $$ [Hss0 Hss]
  · isplitl [Hss0] <;> iassumption
  ihave Hs5 := (Entails.of_eq ((ss_shares c g).trans (own_others c _)).symm) $$ Hss
  imod (close_own I K c 0 (by decide)) $$ [Q0] with Q0
  · isplitr; · iexact Hc
    iexact Q0
  imod (close_own I K c 2 (by decide)) $$ [Q2] with Q2
  · isplitr; · iexact Hc
    iexact Q2
  imod (close_own I K c 3 (by decide)) $$ [Q3] with Q3
  · isplitr; · iexact Hc
    iexact Q3
  imod (close_own I K c 4 (by decide)) $$ [Q4] with Q4
  · isplitr; · iexact Hc
    iexact Q4
  imod (close_own I K c 5 (by decide)) $$ [Q5] with Q5
  · isplitr; · iexact Hc
    iexact Q5
  imod (close_own I K c 6 (by decide)) $$ [Q6] with Q6
  · isplitr; · iexact Hc
    iexact Q6
  imod (close_own I K c 7 (by decide)) $$ [Q7] with Q7
  · isplitr; · iexact Hc
    iexact Q7
  iapply Hk
  unfold bodyOut
  rw [fin8, own_others c (fun d => zer (F := F) c (ckK 0 d)), own_others c (fun d => zer (F := F) c (ckK 2 d)), own_others c (fun d => zer (F := F) c (ckK 3 d)),
    own_others c (fun d => zer (F := F) c (ckK 4 d)), own_others c (fun d => zer (F := F) c (ckK 5 d)), own_others c (fun d => zer (F := F) c (ckK 6 d)), own_others c (fun d => zer (F := F) c (ckK 7 d))]
  isplitl [Ho]; · iexact Ho
  isplitl [Hx Hw Ha Hb Hst]
  · isplitl [Hx]; · iexact Hx
    isplitl [Hw]; · iexact Hw
    isplitl [Ha]; · iexact Ha
    isplitl [Hb] <;> iassumption
  isplitl [Hs0 Hs1 Hs2 Hs3 Hs4 Hs5 Hs6 Hs7]
  · isplitl [Hs0]; · iexists (xbV I c); iexact Hs0
    isplitl [Hs1]; · iexists (rtV I c); iexact Hs1
    isplitl [Hs2]; · iexists (xgV I); iexact Hs2
    isplitl [Hs3]; · iexists (rgV I); iexact Hs3
    isplitl [Hs4]; · iexact Hs4
    isplitl [Hs5]; · iexists g; iexact Hs5
    isplitl [Hs6]; · iexists (yV I c); iexact Hs6
    iexists (cbV I c); iexact Hs7
  isplitl [Hzb]; · iexact Hzb
  isplitl [Q0 Z0]
  · isplitl [Q0] <;> iassumption
  isplitl [Z1]; · iexact Z1
  isplitl [Q2 Z2]
  · isplitl [Q2] <;> iassumption
  isplitl [Q3 Z3]
  · isplitl [Q3] <;> iassumption
  isplitl [Q4 Z4]
  · isplitl [Q4] <;> iassumption
  isplitl [Q5 Z5]
  · isplitl [Q5] <;> iassumption
  isplitl [Q6 Z6]
  · isplitl [Q6] <;> iassumption
  isplitl [Q7] <;> iassumption

end run

end Cert.KernelIdealRun
-- ==== Proof.ILaunch.lean ====
/-
# The launch: what each device is dealt

The cells' invariants, the devices' positions in their rounds, and the rights to pay: minted at the cells' owners and
dealt to the devices that pay; the launch credit of the cells.
-/
module

public import proofs.«01_k».proof.Proof.IBody
public import proofs.«01_k».proof.Proof.Gen.KernelIdeal.Launch

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Ins F)

/-! ## Cells, tokens, and their dealing -/

def cells : Finset (GSem nD τ sig) := Finset.univ.map ⟨kcell, kcell_inj⟩

def tokKey (p : (Dev nD × CK) × Dev nD) : GSem nD τ sig × ℕ × Dev nD := (kcell p.1, 0, p.2)
theorem tokKey_inj : Function.Injective tokKey := fun p p' h =>
  Prod.ext (kcell_inj (congrArg Prod.fst h)) (congrArg (fun x => x.2.2) h)
def tokens : Finset (GSem nD τ sig × ℕ × Dev nD) := Finset.univ.map ⟨tokKey, tokKey_inj⟩

def u₀ : UU := (initOf (Pipeline.cells cfgs cellOf_inj) (Pipeline.launchToks cfgs cellOf_inj), initOf cells tokens)

/-- The semaphores of a device: the barrier's, and the arrays'. -/
theorem over_CK (Φ : CK → sProp 𝕄) : bigSep Finset.univ Φ = iprop(Φ ckB ∗ bigSep Finset.univ fun k : Fin 8 => bigSep Finset.univ fun d : Dev nD => Φ (ckK k d)) := by
  rw [bigSep_univ_sum, bigSep_univ_of_subsingleton (), bigSep_univ_prod]; rfl

/-- All tokens of the cells of a device. -/
def toks (c : Dev nD) : sProp 𝕄 := bigSep Finset.univ fun k : CK => bigSep Finset.univ fun d : Dev nD => tok (F := F) c k d

/-- What the launch element deals a device. -/
def G (c : Dev nD) : sProp 𝕄 :=
  iprop((bigSep Finset.univ fun k : CK => roundState ER (Rd I) (kcell (c, k)) 0)
    ∗ (bigSep Finset.univ fun k : CK => iprop(pos (F := F) c k ∗ reached ER (kcell (c, k)) 0)) ∗ toks c)

theorem over_cells (Φ : GSem nD τ sig → sProp 𝕄) : bigSep cells Φ = bigSep Finset.univ fun c : Dev nD => bigSep Finset.univ fun k : CK => Φ (kcell (c, k)) := by
  unfold cells; rw [bigSep_map, bigSep_univ_prod]; rfl

theorem over_tokens : bigSep tokens (fun x => (dutyTok ER x.1 x.2.1 x.2.2 : sProp 𝕄)) = bigSep Finset.univ fun c : Dev nD => toks (F := F) c := by
  unfold tokens; rw [bigSep_map, bigSep_univ_prod, bigSep_univ_prod]; rfl

theorem fund_all : BI.own (ER (initOf cells tokens)) ⊢ (|==> bigSep Finset.univ (G I) : sProp 𝕄) := by
  iintro HX
  imod (Rounds.fund ER (Rd I) cells tokens) $$ HX with ⟨Hst, Hr, Hat, Htok⟩
  imodintro
  ihave Hst' := (Entails.of_eq (over_cells fun g => roundState ER (Rd I) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq (over_tokens (F := F))) $$ Htok
  unfold G; simp only [bigSep_sep']
  isplitl [Hst']; · iexact Hst'
  isplitl [Hat' Hr']
  · isplitl [Hat']; · iexact Hat'
    iexact Hr'
  iexact Htok'

/-- The kernel's scoped semaphores. -/
abbrev osem : Fin 8 × Fin 32 → SemLoc sig := fun p => csem (.inr p)

theorem ownSemFacts : Pipeline.OwnSemFacts cfg0.spec osem where
  isScoped p := by
    have h : ∀ q : DmaSem sig, (SemLoc.dma q : SemLoc sig).isScoped .tc = true := by decide +kernel
    exact h (dsem p.1 p.2)
  inj p p' h := Sum.inr.inj (csem_inj h)
  disj p w s h := by
    have h1 : code (osem p) = some (.inr p) := code_csem _
    rw [h] at h1
    revert h1
    have h2 : ∀ (w : Fin 5) (s : Fin (spec0 w).nbuf), code (.dma ((spec0 w).sem s)) = none := by decide +kernel
    rw [show code (.dma ((cfg0.spec w).sem s)) = none from h2 w s]
    exact fun h => by cases h

theorem unscoped_eq (c : Dev nD) : (unscopedSems0 c : sProp 𝕄) = zer c ckB := by
  unfold unscopedSems0; rw [bigSep_eq_bigSepL_of_eq [SemLoc.reg barS] (by decide +kernel) (by decide)]; rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CK => zer (F := F) c k : sProp 𝕄) := by
  have h : (Pipeline.ownSems0 (Ix := Unit) (Name := ℕ) (U := UU) (Lvl := ℕ) (Val := Elt F) (τ := τ) osem c : sProp 𝕄)
      = bigSep Finset.univ fun k : Fin 8 => bigSep Finset.univ fun d : Dev nD => zer (F := F) c (ckK k d) := by
    unfold Pipeline.ownSems0; rw [bigSep_univ_prod]
  rw [unscoped_eq, over_CK, h]
  iintro ⟨H, H'⟩
  isplitl [H'] <;> iassumption

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (Rd I) κ (kcell (c, k))))
          ∗ (bigSep Finset.univ fun k : CK => iprop(pos (F := F) c k ∗ reached ER (kcell (c, k)) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun k : CK => zer (F := F) c k) ∗ bigSep Finset.univ fun k : CK => roundState ER (Rd I) (kcell (c, k)) 0)
      ⊢ (|={Set.univ}=> bigSep Finset.univ fun k : CK => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The token of a transfer's end that device `c` pays: of its own cell for the send (even arrays), of the peer's for
    the arrival (odd ones). -/
def tokS (k : Fin 8) (c d : Dev nD) : sProp 𝕄 := tok c (ckK k d) d
/-- The tokens a device pays with. -/
def payToks (c : Dev nD) : sProp 𝕄 :=
  iprop((bigSep Finset.univ fun d => tok (F := F) d ckB c)
    ∗ (bigSep Finset.univ fun d => tokS (F := F) 0 c d) ∗ (bigSep Finset.univ fun d => tokS (F := F) 1 d c)
    ∗ (bigSep Finset.univ fun d => tokS (F := F) 2 c d) ∗ (bigSep Finset.univ fun d => tokS (F := F) 3 d c)
    ∗ (bigSep Finset.univ fun d => tokS (F := F) 4 c d) ∗ (bigSep Finset.univ fun d => tokS (F := F) 5 d c)
    ∗ (bigSep Finset.univ fun d => tokS (F := F) 6 c d) ∗ (bigSep Finset.univ fun d => tokS (F := F) 7 d c))

theorem toks_split (c : Dev nD) : toks c ⊢ iprop((bigSep Finset.univ fun d => tok (F := F) c ckB d)
    ∗ bigSep Finset.univ fun k : Fin 8 => bigSep Finset.univ fun d => tokS (F := F) k c d) := by
  have h : (bigSep Finset.univ fun k : Fin 8 => bigSep Finset.univ fun d : Dev nD => bigSep Finset.univ fun e : Dev nD => tok (F := F) c (ckK k d) e : sProp 𝕄)
      ⊢ bigSep Finset.univ fun k : Fin 8 => bigSep Finset.univ fun d : Dev nD => tokS (F := F) k c d :=
    bigSep_mono fun k _ => bigSep_mono fun d _ => big_elim (Φ := fun e : Dev nD => tok (F := F) c (ckK k d) e) (Finset.mem_univ d)
  unfold toks
  rw [over_CK]
  iintro ⟨H, H'⟩
  isplitl [H]; · iexact H
  iapply h; iexact H'

theorem toks_around : (bigSep Finset.univ fun c : Dev nD => (toks c : sProp 𝕄)) ⊢ bigSep Finset.univ fun c : Dev nD => payToks c := by
  refine BI.Entails.trans (bigSep_mono fun c _ => toks_split c) ?_
  simp only [fin8]
  unfold payToks
  simp only [bigSep_sep']
  rw [bigSep_univ_comm (fun c d : Dev nD => tok (F := F) c ckB d), bigSep_univ_comm (fun c d : Dev nD => tokS (F := F) 1 c d),
    bigSep_univ_comm (fun c d : Dev nD => tokS (F := F) 3 c d), bigSep_univ_comm (fun c d : Dev nD => tokS (F := F) 5 c d),
    bigSep_univ_comm (fun c d : Dev nD => tokS (F := F) 7 c d)]
  exact BI.Entails.refl _

/-- The rights to pay, as the body takes them. -/
def toksIn (c : Dev nD) : sProp 𝕄 :=
  iprop((bigSep (Finset.univ.erase c) fun d => tok (F := F) d ckB c) ∗ (bigSep (Finset.univ.erase c) fun d => tokA (F := F) c d)
      ∗ (bigSep (Finset.univ.erase c) fun d => tokB (F := F) c d) ∗ (bigSep (Finset.univ.erase c) fun d => tokC (F := F) c d) ∗ tok c (ckK 1 c) c)

theorem toks_in (c : Dev nD) : payToks (F := F) c ⊢ toksIn c := by
  unfold payToks toksIn tokA tokB tokC
  rw [own_others c (fun d => tok (F := F) d ckB c), own_others c (fun d => tokS (F := F) 0 c d), own_others c (fun d => tokS (F := F) 1 d c),
    own_others c (fun d => tokS (F := F) 2 c d), own_others c (fun d => tokS (F := F) 3 d c), own_others c (fun d => tokS (F := F) 4 c d),
    own_others c (fun d => tokS (F := F) 5 d c), own_others c (fun d => tokS (F := F) 6 c d), own_others c (fun d => tokS (F := F) 7 d c)]
  simp only [big_sep]
  unfold tokS
  iintro ⟨⟨-, Hb⟩, ⟨-, H0⟩, ⟨Hd, H1⟩, ⟨-, H2⟩, ⟨-, H3⟩, ⟨-, H4⟩, ⟨-, H5⟩, ⟨-, H6⟩, ⟨-, H7⟩⟩
  isplitl [Hb]; · iexact Hb
  isplitl [H0 H1 H2 H3]
  · isplitl [H2 H3]
    · isplitl [H2]; · iexact H2
      iexact H3
    isplitl [H0]; · iexact H0
    iexact H1
  isplitl [H4 H5]
  · isplitl [H4]; · iexact H4
    iexact H5
  isplitl [H6 H7]
  · isplitl [H6]; · iexact H6
    iexact H7
  iexact Hd

/-- The positions, as the body takes them. -/
def posIn (c : Dev nD) : sProp 𝕄 := iprop(pos c ckB ∗ bigSep Finset.univ fun k : Fin 8 => bigSep Finset.univ fun d => pos (F := F) c (ckK k d))

theorem pos_in (c : Dev nD) : (bigSep Finset.univ fun k : CK => pos (F := F) c k : sProp 𝕄) = posIn c := by
  unfold posIn
  exact over_CK _

/-- What the global step makes of a device's deal. -/
def G' (c : Dev nD) : sProp 𝕄 := iprop(∃ K, records I K ∗ posIn c ∗ toksIn c)

theorem regroup :
    (bigSep Finset.univ fun c : Dev nD => iprop((bigSep Finset.univ fun k : CK => iprop(∃ κ : ℕ, cellInv ER (Rd I) κ (kcell (c, k))))
          ∗ (bigSep Finset.univ fun k : CK => iprop(pos (F := F) c k ∗ reached ER (kcell (c, k)) 0)) ∗ toks c) : sProp 𝕄)
      ⊢ bigSep Finset.univ (G' I) := by
  rw [bigSep_sep', bigSep_sep', ← bigSep_univ_prod (fun p : Dev nD × CK => iprop(∃ κ : ℕ, cellInv ER (Rd I) κ (kcell p))),
    bigSep_congr (s := Finset.univ) (fun (c : Dev nD) _ => bigSep_sep' Finset.univ (fun k : CK => pos (F := F) c k) (fun k => reached ER (kcell (c, k)) 0)),
    bigSep_sep', ← bigSep_univ_prod (fun p : Dev nD × CK => (reached ER (kcell p) 0 : sProp 𝕄)),
    bigSep_congr (s := Finset.univ) (fun (c : Dev nD) _ => pos_in (F := F) c)]
  have hj : iprop((bigSep Finset.univ fun c : Dev nD => posIn (F := F) c) ∗ bigSep Finset.univ fun c : Dev nD => payToks (F := F) c)
      ⊢ bigSep Finset.univ fun c : Dev nD => iprop(posIn (F := F) c ∗ toksIn (F := F) c) := by
    rw [← bigSep_sep']
    exact bigSep_mono fun c _ => sep_mono_right (toks_in c)
  iintro ⟨HI, ⟨Hat, #HR⟩, Htok⟩
  ihave HK := (BI.bigSep_exists_pi Finset.univ (fun (p : Dev nD × CK) (κ : ℕ) => (cellInv ER (Rd I) κ (kcell p) : sProp 𝕄))) $$ HI
  icases HK with ⟨%K, #HI⟩
  ihave Htk := (toks_around (F := F)) $$ Htok
  have hw : iprop(records I K ∗ bigSep Finset.univ fun c : Dev nD => iprop(posIn (F := F) c ∗ toksIn (F := F) c)) ⊢ bigSep Finset.univ (G' I) :=
    (sep_mono_left (BI.bigSep_of_persistent Finset.univ (records I K))).trans (by
      rw [← bigSep_sep']
      exact bigSep_mono fun c _ => show iprop(records I K ∗ posIn (F := F) c ∗ toksIn (F := F) c) ⊢ G' I c from by
        unfold G'
        iintro H
        iexists K
        iexact H)
  iapply hw
  isplitr
  · unfold records; isplitl; · iexact HI
    iexact HR
  iapply hj
  isplitl [Hat]; · iexact Hat
  iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

theorem credit_bar (c : Dev nD) :
    tallyOn (kcell (c, ckB)) (launchCredit (Pipeline.owing O₀) 0 (kcell (c, ckB))) = (tallyAt (kcell (c, ckB)) () 31 : CellTallies nD τ sig Unit) := by
  unfold tallyAt; refine congrArg _ (Finsupp.ext fun u => ?_); cases u
  rw [Pipeline.launchCredit_owing, Finsupp.single_eq_same, launch_bar]

theorem credit_dma (c d : Dev nD) (k : Fin 8) (hk : k = 1 ∨ k = 3 ∨ k = 5 ∨ k = 7) (hd : d ≠ c) :
    tallyOn (kcell (c, ckK k d)) (launchCredit (Pipeline.owing O₀) 0 (kcell (c, ckK k d)))
      = (tallyAt (kcell (c, ckK k d)) () (amt (ckK k d)) : CellTallies nD τ sig Unit) := by
  unfold tallyAt; refine congrArg _ (Finsupp.ext fun u => ?_); cases u
  rw [Pipeline.launchCredit_owing, Finsupp.single_eq_same, launch_dma c d k hk hd]

/-- The credit a device waits with. -/
def credIn (c : Dev nD) : sProp 𝕄 :=
  iprop(cred (tallyAt (kcell (c, ckB)) () 31)
      ∗ (bigSep (Finset.univ.erase c) fun d => crd (F := F) c (ckK 1 d)) ∗ (bigSep (Finset.univ.erase c) fun d => crd (F := F) c (ckK 3 d))
      ∗ (bigSep (Finset.univ.erase c) fun d => crd (F := F) c (ckK 5 d)) ∗ (bigSep (Finset.univ.erase c) fun d => crd (F := F) c (ckK 7 d)))

theorem big_subset {ι : Type} [DecidableEq ι] {Φ : ι → sProp 𝕄} {s t : Finset ι} (h : t ⊆ s) : bigSep s Φ ⊢ bigSep t Φ := bigSep_subset h

/-- A cell's launch credit. -/
def lcr (c : Dev nD) (k : CK) : sProp 𝕄 := cred (tallyOn (kcell (c, k)) (launchCredit (Pipeline.owing O₀) 0 (kcell (c, k))))

theorem lcr_dma (c : Dev nD) (k : Fin 8) (hk : k = 1 ∨ k = 3 ∨ k = 5 ∨ k = 7) :
    (bigSep Finset.univ fun d : Dev nD => lcr (F := F) c (ckK k d) : sProp 𝕄) ⊢ bigSep (Finset.univ.erase c) fun d => crd (F := F) c (ckK k d) := by
  have h : (bigSep (Finset.univ.erase c) fun d : Dev nD => lcr (F := F) c (ckK k d) : sProp 𝕄) ⊢ bigSep (Finset.univ.erase c) fun d => crd (F := F) c (ckK k d) :=
    bigSep_mono fun d hd => Entails.of_eq (show lcr c (ckK k d) = crd c (ckK k d) from congrArg cred (credit_dma c d k hk (Finset.mem_erase.mp hd).1))
  rw [own_others c]
  iintro ⟨-, H⟩
  iapply h; iexact H

theorem creds (c : Dev nD) : (Pipeline.launchCred O₀ c : sProp 𝕄) ⊢ credIn c := by
  have h : (Pipeline.launchCred O₀ c : sProp 𝕄) ⊢ bigSep Finset.univ fun k : CK => lcr (F := F) c k := by
    unfold Pipeline.launchCred
    refine BI.Entails.trans (big_subset (Finset.subset_univ (Finset.univ.map ⟨csem, csem_inj⟩))) ?_
    rw [bigSep_map]
    exact BI.Entails.refl _
  rw [over_CK, fin8] at h
  have hb : (lcr (F := F) c (.inl ())) ⊢ cred (tallyAt (kcell (c, ckB)) () 31) := by
    unfold lcr
    exact Entails.of_eq (congrArg cred (credit_bar c))
  unfold credIn
  iintro H
  ihave H' := h $$ H
  icases H' with ⟨Hb, -, H1, -, H3, -, H5, -, H7⟩
  isplitl [Hb]; · iapply hb; iexact Hb
  isplitl [H1]; · iapply (lcr_dma (F := F) c 1 (by decide)); iexact H1
  isplitl [H3]; · iapply (lcr_dma (F := F) c 3 (by decide)); iexact H3
  isplitl [H5]; · iapply (lcr_dma (F := F) c 5 (by decide)); iexact H5
  iapply (lcr_dma (F := F) c 7 (by decide)); iexact H7

end Cert.KernelIdealRun
-- ==== Proof.IRun.lean ====
/-
# The run

The pipeline's data, the body's obligation, and the run of the whole mesh: its results, its arguments, its semaphores.
-/
module

public import proofs.«01_k».proof.Proof.ILaunch
public import Idealize.ShloMosaic.Lib.Quiescent
public import Idealize.ShloMosaic.Lib.Pipeline.CollectiveSegs

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- The machine at launch, and the staged inputs of the devices. -/
def s₀ : MemSt nD τ sig (Elt F) := ⟨m, fun _ => 0, ρ⟩
def ins : Ins F where
  x c := (win0_0.blk (0 : Fin 1)).view.read (Elt F) (m ((c : Thread nD τ).loc main_arg0))
  w c := (win0_1.blk (0 : Fin 1)).view.read (Elt F) (m ((c : Thread nD τ).loc main_arg1))
  a c := (win0_2.blk (0 : Fin 1)).view.read (Elt F) (m ((c : Thread nD τ).loc main_arg2))
  b c := (win0_3.blk (0 : Fin 1)).view.read (Elt F) (m ((c : Thread nD τ).loc main_arg3))

def t₀ : Fin cfg0.N := t0_0
theorem fin_N (t : Fin cfg0.N) : t = t₀ := fin_N0 t

/-- The kernel's own buffers, whole. -/
def scr (c : Dev nD) : sProp 𝕄 :=
  iprop((∃ f, wh (F := F) c cc0_scratch0 f) ∗ (∃ f, wh (F := F) c cc0_scratch1 f) ∗ (∃ f, wh (F := F) c cc0_scratch2 f) ∗ (∃ f, wh (F := F) c cc0_scratch3 f)
      ∗ (∃ f, wh (F := F) c cc0_scratch4 f) ∗ (∃ f, wh (F := F) c cc0_scratch5 f) ∗ (∃ f, wh (F := F) c cc0_scratch6 f) ∗ (∃ f, wh (F := F) c cc0_scratch7 f))
def zerIn (c : Dev nD) : sProp 𝕄 := iprop(zer c ckB ∗ bigSep Finset.univ fun k : Fin 8 => bigSep Finset.univ fun d => zer (F := F) c (ckK k d))

def start (c : Dev nD) : sProp 𝕄 := iprop(G' (ins m) c ∗ credIn c ∗ levs)
def Φ₀ (c : Dev nD) : sProp 𝕄 := iprop(start m c ∗ scr c)
def Φ₁ (c : Dev nD) : sProp 𝕄 := iprop(scr (F := F) c ∗ zerIn c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m).x c
    | ⟨1, _⟩ => (ins m).w c
    | ⟨2, _⟩ => (ins m).a c
    | ⟨3, _⟩ => (ins m).b c
    | ⟨4, _⟩ => outV (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ wh c b f) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) ((c : Thread nD τ).loc b), ⌜f = X⌝ ∗ wh c b f)

theorem stg_wh (c : Dev nD) (b : Ref sig .tc) (X : b.ty.Contents (Elt F)) : stg c b X ⊢ wh c b X := by
  iintro ⟨%f, %h, H⟩
  subst h
  iexact H
theorem wh_stg (c : Dev nD) (b : Ref sig .tc) (X : b.ty.Contents (Elt F)) : wh c b X ⊢ stg c b X := by
  iintro H
  iexists X
  isplitr; · ipureintro; rfl
  iexact H

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 5) t₀ d)) ∗ (∃ d, stg c cc0_stg1_0 ((dats m ρ 0 c).before (1 : Fin 5) t₀ d))
    ∗ (∃ d, stg c cc0_stg2_0 ((dats m ρ 0 c).before (2 : Fin 5) t₀ d)) ∗ (∃ d, stg c cc0_stg3_0 ((dats m ρ 0 c).before (3 : Fin 5) t₀ d))
    ∗ (∃ d, stg c cc0_stg4_0 ((dats m ρ 0 c).before (4 : Fin 5) t₀ d)))
set_option maxRecDepth 4000 in
def bodyPost (c : Dev nD) : sProp 𝕄 :=
  iprop(Φ₁ (F := F) c ∗ (dats m ρ 0 c).owesAt () t₀.succ
    ∗ stg c cc0_stg0_0 ((ins m).x c) ∗ stg c cc0_stg1_0 ((ins m).w c) ∗ stg c cc0_stg2_0 ((ins m).a c) ∗ stg c cc0_stg3_0 ((ins m).b c)
    ∗ stg c cc0_stg4_0 (outV (ins m) c))

theorem before_x (c : Dev nD) (d) : (dats m ρ 0 c).before (0 : Fin 5) t₀ d = (ins m).x c := by unfold Dat.before; rw [if_pos (fetch0_0 t₀)]; rfl
theorem before_w (c : Dev nD) (d) : (dats m ρ 0 c).before (1 : Fin 5) t₀ d = (ins m).w c := by unfold Dat.before; rw [if_pos (fetch0_1 t₀)]; rfl
theorem before_a (c : Dev nD) (d) : (dats m ρ 0 c).before (2 : Fin 5) t₀ d = (ins m).a c := by unfold Dat.before; rw [if_pos (fetch0_2 t₀)]; rfl
theorem before_b (c : Dev nD) (d) : (dats m ρ 0 c).before (3 : Fin 5) t₀ d = (ins m).b c := by unfold Dat.before; rw [if_pos (fetch0_3 t₀)]; rfl

theorem owes_in (c : Dev nD) : (dats m ρ 0 c).owesAt () t₀.castSucc ⊢ ow c (debts c) := by
  unfold Dat.owesAt Pipeline.owesWithin ow
  rw [show (dats m ρ 0 c).owed t₀.castSucc = owe (debts c) from rfl]
  iintro ⟨%W, -, H⟩
  iexists W
  iexact H

theorem owes_out (c : Dev nD) : ow c [] ⊢ (dats m ρ 0 c).owesAt () t₀.succ := by
  unfold Dat.owesAt Pipeline.owesWithin ow
  rw [show (dats m ρ 0 c).owed t₀.succ = owe [] from rfl]
  iintro ⟨%W, H⟩
  iexists W
  isplitr; · ipureintro; exact fun _ _ => Or.inl trivial
  iexact H

theorem pre_in (c : Dev nD) : bodyPre m ρ c ⊢ iprop(∃ K, ctx (ins m) K ∗ bodyIn (ins m) c) := by
  unfold bodyPre Φ₀ start G' ctx bodyIn scr credIn posIn toksIn
  simp only [before_x, before_w, before_a, before_b]
  iintro ⟨⟨⟨⟨%K, Hrec, Hpos, Htok⟩, Hcred, Hlev⟩, Hscr⟩, Ho, ⟨%d0, Hx⟩, ⟨%d1, Hw⟩, ⟨%d2, Ha⟩, ⟨%d3, Hb⟩, ⟨%d4, %f4, %h4, Hout⟩⟩
  iexists K
  isplitl [Hrec Hlev]
  · isplitl [Hrec]; · iexact Hrec
    iexact Hlev
  isplitl [Ho]; · iapply (owes_in m ρ c); iexact Ho
  isplitl [Hx Hw Ha Hb Hout]
  · isplitl [Hx]; · iapply (stg_wh c cc0_stg0_0); iexact Hx
    isplitl [Hw]; · iapply (stg_wh c cc0_stg1_0); iexact Hw
    isplitl [Ha]; · iapply (stg_wh c cc0_stg2_0); iexact Ha
    isplitl [Hb]; · iapply (stg_wh c cc0_stg3_0); iexact Hb
    iexists f4; iexact Hout
  isplitl [Hscr]; · iexact Hscr
  isplitl [Hcred]; · iexact Hcred
  isplitl [Hpos]; · iexact Hpos
  iexact Htok

theorem post_out (c : Dev nD) : bodyOut (ins m) c ⊢ bodyPost m ρ c := by
  unfold bodyOut bodyPost Φ₁ scr zerIn
  iintro ⟨Ho, ⟨Hx, Hw, Ha, Hb, Hout⟩, Hscr, Hz⟩
  isplitl [Hscr Hz]
  · isplitl [Hscr]; · iexact Hscr
    iexact Hz
  isplitl [Ho]; · iapply (owes_out m ρ c); iexact Ho
  isplitl [Hx]; · iapply (wh_stg c cc0_stg0_0); iexact Hx
  isplitl [Hw]; · iapply (wh_stg c cc0_stg1_0); iexact Hw
  isplitl [Ha]; · iapply (wh_stg c cc0_stg2_0); iexact Ha
  isplitl [Hb]; · iapply (wh_stg c cc0_stg3_0); iexact Hb
  iapply (wh_stg c cc0_stg4_0); iexact Hout

theorem wp_dev {Q : PUnit → sProp 𝕄} (c : Dev nD) (P : sProp 𝕄) (k : Dev nD → PP F PUnit) (h : P ⊢ WP c (k c) Q) :
    P ⊢ WP c (Prog.lift .deviceId >>= k) Q := by
  simp only [Prog.lift, Prog.bind_op, Prog.bind_ret, wp_deviceId]
  exact h

theorem wp_done {Q : PUnit → sProp 𝕄} (c : Dev nD) (P : sProp 𝕄) (h : P ⊢ Q ⟨⟩) : P ⊢ WP c (pure ⟨⟩ : PP F PUnit) Q := by
  simp only [Prog.pure_eq_ret, wp_ret]
  iintro H
  imodintro
  iapply h; iexact H

theorem wp_from {Q : PUnit → sProp 𝕄} (c : Dev nD) (I : Ins F) (P : sProp 𝕄) (hP : P ⊢ iprop(∃ K, ctx I K ∗ bodyIn I c)) (hQ : bodyOut I c ⊢ Q ⟨⟩) :
    P ⊢ WP c (bodyW : PP F PUnit) Q := by
  rw [bodyW_eq]
  refine wp_dev c P _ ?_
  have hr := fun K => run_body (Q := Q) I K c
  have hp := wp_done c (bodyOut I c) hQ
  iintro H
  ihave H' := hP $$ H
  icases H' with ⟨%K, H⟩
  iapply (hr K) $$ H
  iintro H
  iapply hp; iexact H

theorem sound_body (c : Dev nD) : bodyPre m ρ c ⊢ WP c (bodyW : PP F PUnit) (fun _ => bodyPost m ρ c) :=
  wp_from c (ins m) _ (pre_in m ρ c) (post_out m ρ c)

set_option maxRecDepth 30000 in
/-- The pipeline's obligation of the body. -/
theorem body_obligation (c : Dev nD) : BodyObligation (dats (F := F) m ρ 0 c) (defs₀ (F := F)) 𝒱₀ () Set.univ := fun t => by
  have h := sound_body m ρ c
  rw [← body_eq_bodyW] at h
  rw [fin_N t]
  rw [bigSep_W, bigSep_W]
  simp only [owns_whole_eq]
  exact h

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start m c ∗ emp) := by
  iintro ⟨-, Hlev, Hcr, -, HG⟩
  ihave Hc := (creds (F := F) c) $$ Hcr
  imodintro
  unfold start levs
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem own_sems_eq (c : Dev nD) : (Pipeline.ownSems0 (Ix := Unit) (Name := ℕ) (U := UU) (Lvl := ℕ) (Val := Elt F) (τ := τ) osem c : sProp 𝕄)
      = bigSep Finset.univ fun k : Fin 8 => bigSep Finset.univ fun d : Dev nD => zer (F := F) c (ckK k d) := by
  unfold Pipeline.ownSems0; rw [bigSep_univ_prod]

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_sems_eq, unscoped_eq]
  unfold Φ₁ scr zerIn
  iintro ⟨Hr, HzB, Hz⟩
  isplitl [HzB]; · iexact HzB
  isplitl [Hz]; · iexact Hz
  iexact Hr

theorem lev_pos (c : Dev nD) : ∀ p ∈ debts c, 0 < lev p.2 := fun p hp => by
  rcases (mem_debts.mp hp).2 with h | h | h | h | h <;> rw [h] <;> exact Nat.succ_pos _

theorem waits (c : Dev nD) : (levAts L lv : sProp 𝕄) ⊢ Pipeline.cellsWaits cfgs (dats m ρ) () 0 c :=
  Pipeline.cellsWaits_intro cfgs (dats m ρ) () 0 c fun w s t => by
    have hl : lv ((c : Thread nD τ), .dma ((cfg0.win w).sem s)) () ≤ 0 := by
      have h2 : ∀ (w : Fin 5) (s : Fin (spec0 w).nbuf), code (.dma ((spec0 w).sem s)) = none := by decide +kernel
      unfold lv
      rw [show code (.dma ((cfg0.win w).sem s)) = none from h2 w s]
    rcases t with ⟨_ | _, ht⟩
    · exact mayWait c _ 0 hl (debts c) (lev_pos c)
    · exact mayWait c _ 0 hl [] (fun p hp => absurd hp List.not_mem_nil)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 50000 in
/-- From any memory with zero counters every execution of the mesh ends, with each array at its computed contents and
    every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      imod (fund_all (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- Every input array holds what it held. -/
theorem finalA_in (c : Dev nD) (w : Fin 5) (hw : (cfg0.win w).isOut = false) : finalA m ρ c w = (s₀ m ρ).mem ((cfg0.win w).arr.view.loc (c : Thread nD τ)) :=
  (dats (F := F) m ρ 0 c).arrAt_in w hw _

end Cert.KernelIdealRun
-- ==== Proof.VTop.lean ====
/-
  # The two largest of sixty-four scores

  The first position of the largest score, the first position of the largest of the others, and the two ways of finding
  them: a stable sort, and a largest value followed by the least position where it occurs.
-/
module

public import Idealize.ShloMosaic.Lib.SortPrefix
public import Idealize.ShloMosaic.Lib.Pointwise.Tactic
public import Idealize.ShloMosaic.PureOps.Ideal.Laws
public import Idealize.ShloMosaic.PureOps.Reduce

@[expose] public section

noncomputable section

namespace Cert.Top2

open Idealize.ShloMosaic

/-! ## Positions -/

/-- `i` is the first of the positions in `S` where `g` is largest on `S`. -/
structure First (g : Fin 64 → EReal) (S : Fin 64 → Prop) (i : Fin 64) : Prop where
  mem : S i
  le : ∀ k, S k → g k ≤ g i
  first : ∀ k, S k → g k = g i → i ≤ k

theorem First.exist (g : Fin 64 → EReal) (S : Fin 64 → Prop) (h : ∃ k, S k) : ∃ i, First g S i := by
  classical
  obtain ⟨k, hk⟩ := h
  obtain ⟨m, hm, hmax⟩ := Finset.exists_max_image (Finset.univ.filter S) g ⟨k, by simp [hk]⟩
  have hne : (Finset.univ.filter fun j => S j ∧ g j = g m).Nonempty := ⟨m, by simpa using hm⟩
  have hi := Finset.min'_mem _ hne
  simp only [Finset.mem_filter, Finset.mem_univ, true_and] at hi hm hmax
  refine ⟨Finset.min' _ hne, hi.1, fun k hk => hi.2.symm ▸ hmax k hk, fun k hk he => Finset.min'_le _ _ ?_⟩
  simp only [Finset.mem_filter, Finset.mem_univ, true_and]
  exact ⟨hk, he.trans hi.2⟩

/-- The first position of the largest score. -/
def i1 (g : Fin 64 → EReal) : Fin 64 := (First.exist g (fun _ => True) ⟨0, trivial⟩).choose
theorem i1_spec (g : Fin 64 → EReal) : First g (fun _ => True) (i1 g) := (First.exist g (fun _ => True) ⟨0, trivial⟩).choose_spec

theorem exists_other (i : Fin 64) : ∃ k : Fin 64, k ≠ i := exists_ne i
/-- The first position of the largest of the other scores. -/
def i2 (g : Fin 64 → EReal) : Fin 64 := (First.exist g (fun k => k ≠ i1 g) (exists_other _)).choose
theorem i2_spec (g : Fin 64 → EReal) : First g (fun k => k ≠ i1 g) (i2 g) := (First.exist g (fun k => k ≠ i1 g) (exists_other _)).choose_spec

/-- The exponential of the second largest over the largest, and the two weights. -/
def tt (g : Fin 64 → EReal) : EReal := Ideal.exp (g (i2 g) - g (i1 g))
def w1 (g : Fin 64 → EReal) : EReal := Ideal.div 1 (1 + tt g)
def w2 (g : Fin 64 → EReal) : EReal := Ideal.div (tt g) (1 + tt g)
/-- What a row with scores `g` weighs the expert `e` with. -/
def comb (g : Fin 64 → EReal) (e : Fin 64) : EReal := (if i1 g = e then w1 g else 0) + (if i2 g = e then w2 g else 0)

/-! ## By a stable sort -/

theorem mem_insertBefore {ι : Type} (R : ι → ι → Bool) (a b : ι) (l : List ι) (h : b ∈ insertBefore R a l) : b = a ∨ b ∈ l := by
  induction l with
  | nil => exact Or.inl (List.mem_singleton.mp h)
  | cons c l ih =>
    unfold insertBefore at h
    split at h
    · rcases List.mem_cons.mp h with h | h
      · exact Or.inr (h ▸ List.mem_cons_self)
      · exact (ih h).imp id (List.mem_cons_of_mem c)
    · exact List.mem_cons.mp h

theorem mem_stableSort {ι : Type} (R : ι → ι → Bool) (b : ι) (l : List ι) (h : b ∈ stableSort R l) : b ∈ l := by
  induction l with
  | nil => exact h
  | cons a l ih => rcases mem_insertBefore R a b _ h with h | h
                   · exact h ▸ List.mem_cons_self
                   · exact List.mem_cons_of_mem a (ih h)

/-- A stable sort asks only whether a later element goes before an earlier one. -/
theorem stableSort_later {ι : Type} (R R' : ι → ι → Bool) (l : List ι) (h : l.Pairwise fun a b => R b a = R' b a) :
    stableSort R l = stableSort R' l := by
  induction l with
  | nil => rfl
  | cons a l ih =>
    have h' := List.pairwise_cons.mp h
    unfold stableSort
    rw [ih h'.2]
    exact insertBefore_congr R R' a _ fun b hb => h'.1 b (mem_stableSort R' b l hb)

/-- The order of scores falling, of equal ones positions rising. -/
def Bf (g : Fin 64 → EReal) (k k' : Fin 64) : Bool := decide (g k' < g k) || (decide (g k = g k') && decide (k < k'))

theorem sortedFrom_eq (g : Fin 64 → EReal) : sortedFrom (fun k k' => decide (g k' < g k)) = sortedFrom (Bf g) := by
  have h : sortPositions 64 (fun k k' => decide (g k' < g k)) = sortPositions 64 (Bf g) := by
    refine stableSort_later _ _ _ ((List.pairwise_lt_finRange 64).imp fun {a b} hab => ?_)
    have : decide (b < a) = false := decide_eq_false (not_lt.mpr hab.le)
    simp [Bf, this]
  funext k
  unfold sortedFrom
  simp only [List.get_eq_getElem, h, Fin.val_cast]

theorem Bf_strict (g : Fin 64 → EReal) : StrictTotalBefore (Bf g) :=
  StrictTotalBefore.of_key_then_position (fun a b : EReal => decide (b < a)) g (fun a => by simp)
    (fun a b c hab hbc => by simp only [decide_eq_true_eq] at *; exact hbc.trans hab)
    (fun a b => by simp only [decide_eq_true_eq]; rcases lt_trichotomy a b with h | h | h <;> simp [h])

/-- Of a first position, no other of its set goes before it. -/
theorem First.notBefore {g : Fin 64 → EReal} {S : Fin 64 → Prop} {i : Fin 64} (h : First g S i) (k : Fin 64) (hk : S k) : Bf g k i = false := by
  unfold Bf
  rw [decide_eq_false (not_lt.mpr (h.le k hk)), Bool.false_or]
  by_cases he : g k = g i
  · rw [decide_eq_false (not_lt.mpr (h.first k hk he)), Bool.and_false]
  · rw [decide_eq_false he, Bool.false_and]

def two (g : Fin 64 → EReal) : Fin 2 → Fin 64 := ![i1 g, i2 g]

theorem sorted_two (g : Fin 64 → EReal) (i : Fin 2) :
    sortedFrom (fun k k' => decide (g k' < g k)) (i.castLE (by decide : 2 ≤ 64)) = two g i := by
  rw [sortedFrom_eq]
  have hne : i2 g ≠ i1 g := (i2_spec g).mem
  refine (Bf_strict g).sortedFrom_eq_of_prefix (by decide) (two g) ?_ ?_ ?_ i
  · intro a b h
    fin_cases a <;> fin_cases b <;> first | rfl | exact absurd h (by simpa [two] using hne) | exact absurd h (by simpa [two] using hne.symm)
  · intro a b h
    fin_cases a <;> fin_cases b <;> first | exact absurd h (by decide) | exact (i1_spec g).notBefore _ trivial
  · intro a p h
    fin_cases a
    · exact (i1_spec g).notBefore p trivial
    · exact (i2_spec g).notBefore p fun he => h 0 he.symm

/-! ## By largest values and least positions -/

theorem fold_max_eq (f : Fin 64 → EReal) (i : Fin 64) (h : ∀ k, f k ≤ f i) : Finset.univ.fold max ⊥ f = f i := by
  refine le_antisymm (Finset.fold_max_le _ |>.mpr ⟨bot_le, fun k _ => h k⟩) ?_
  exact (Finset.le_fold_max _).mpr (Or.inr ⟨i, Finset.mem_univ i, le_rfl⟩)

theorem toInt_minsi (a b : BitVec 32) : (IntOp.minsi a b).toInt = min a.toInt b.toInt := by
  simp only [IntOp.minsi, BitVec.slt_eq_decide, decide_eq_true_eq]
  split <;> omega

theorem toInt_pos (k : Fin 64) : (BitVec.ofNat 32 k.val).toInt = (k.val : Int) := by
  have := k.isLt
  rw [BitVec.toInt_eq_toNat_bmod, BitVec.toNat_ofNat, Nat.mod_eq_of_lt (by omega), Int.bmod_eq_of_le] <;> omega

/-- The least position where `P` holds, of words that are sixty-four elsewhere. -/
theorem fold_min_eq (P : Fin 64 → Prop) [DecidablePred P] (i : Fin 64) (hi : P i) (h : ∀ k, P k → i ≤ k) :
    Finset.univ.fold IntOp.minsi 2147483647#32 (fun k : Fin 64 => if P k then BitVec.ofNat 32 k.val else 64#32) = BitVec.ofNat 32 i.val := by
  refine BitVec.eq_of_toInt_eq ?_
  rw [← Finset.fold_hom (op := IntOp.minsi) (op' := min) (m := BitVec.toInt) toInt_minsi, toInt_pos]
  refine le_antisymm ?_ ?_
  · refine (Finset.fold_min_le _).mpr (Or.inr ⟨i, Finset.mem_univ i, ?_⟩)
    rw [if_pos hi, toInt_pos]
  · refine (Finset.le_fold_min _).mpr ⟨?_, fun k _ => ?_⟩
    · have := i.isLt; have h2 : (2147483647#32).toInt = 2147483647 := rfl; omega
    · by_cases hk : P k
      · rw [if_pos hk, toInt_pos]; exact_mod_cast h k hk
      · rw [if_neg hk]; have := i.isLt; have h2 : (64#32).toInt = 64 := rfl; omega

/-- The scores with the first largest taken out. -/
def rest (g : Fin 64 → EReal) (k : Fin 64) : EReal := if k = i1 g then ⊥ else g k

theorem rest_i2 (g : Fin 64 → EReal) : rest g (i2 g) = g (i2 g) := if_neg (i2_spec g).mem
theorem rest_le (g : Fin 64 → EReal) (k : Fin 64) : rest g k ≤ rest g (i2 g) := by
  rw [rest_i2]; unfold rest
  split
  · exact bot_le
  · exact (i2_spec g).le k ‹_›
theorem rest_first (g : Fin 64 → EReal) (hg : ∀ k, g k ≠ ⊥) (k : Fin 64) (h : rest g k = g (i2 g)) : i2 g ≤ k := by
  unfold rest at h
  split at h
  · exact absurd h.symm (hg _)
  · exact (i2_spec g).first k ‹_› h

end Cert.Top2
-- ==== Proof.VKer.lean ====
/-
  # The kernel's computed values, element by element
-/
module

public import proofs.«01_k».proof.Proof.IRun
public import proofs.«01_k».proof.Proof.VTop
public import Idealize.ShloMosaic.Lib.Pointwise

@[expose] public section

noncomputable section

namespace Cert.KerValue

open Cert.KernelIdeal Cert.KernelIdeal.Gen Cert.KernelIdealRun Idealize.ShloMosaic Idealize.ShloMosaic.TcCoe Cert.Top2

abbrev FV (s : Shape) : Type := FVec Ideal s .f32

/-! ## The scores -/

def kgate (R : Vec Ideal S32x2x512 .f32) (X : Vec Ideal S16x512 .f32) : FV S16x64 :=
  matmul (F := Ideal) (φ₁ := .f32) (φ₂ := .f32) dot_S16x512_S64x512_S16x64_1_1_0_0_n_n (some .fp32) (shapeCast S16x512 X shapeCasts_S16x512_S16x512)
    (shapeCast S64x512 R shapeCasts_S32x2x512_S64x512) (constant S16x64 .f32 0x00000000#32)

/-- The largest of each row. -/
def kmax (g : FV S16x64) : FV S16x1 :=
  shapeCast S16x1 (multiReduction .maximumf [1] S16 g 0xFF800000#32 reduces_S16x64_S16 (.inl rfl) rfl) shapeCasts_S16_S16x1

/-- The least position where a row has the value. -/
def kpos (g : FV S16x64) (v : FV S16x1) : IVec S16x1 32 :=
  shapeCast S16x1 (multiReductionI .minsi [1] S16
    (select (cmpf .oeq g (broadcastTo S16x64 v broadcasts_S16x1_S16x64)) (iota .tc S16x64 32 [1] iota_S16x64_d1_w32) (broadcast S16x64 64#32))
    2147483647#32 reduces_S16x64_S16 rfl) shapeCasts_S16_S16x1

/-- The rows with one position masked. -/
def kmask (g : FV S16x64) (n : IVec S16x1 32) : FV S16x64 :=
  select (cmpi .eq (iota .tc S16x64 32 [1] iota_S16x64_d1_w32) (broadcastTo S16x64 n broadcasts_S16x1_S16x64))
    (broadcast S16x64 (Named.named (F := Ideal) κ "mask" (φ := .f32) 0xF149F2CA#32)) g

def kone : FV S16x1 := broadcast S16x1 (Scalar.ofBits .f32 0x3F800000#32)

/-- The four lanes, of the largest values and their positions. -/
def klanes (v1 v2 : FV S16x1) (n1 n2 : IVec S16x1 32) : FV S16x4 :=
  shapeCast S16x4 (concatenate S16x4 1 [⟨S16x1, sitofp (F := Ideal) .f32 n1⟩, ⟨S16x1, sitofp (F := Ideal) .f32 n2⟩,
    ⟨S16x1, divf kone (addf kone (exp (subf v2 v1)))⟩, ⟨S16x1, divf (exp (subf v2 v1)) (addf kone (exp (subf v2 v1)))⟩]
    concatenates_S16x1_S16x1_S16x1_S16x1_S16x4_d1) shapeCasts_S16x4_S16x4

theorem pay4_eq (R : Vec Ideal S32x2x512 .f32) (X : Vec Ideal S16x512 .f32) :
    k0_pay4 (F := Ideal) R X = klanes (kmax (kgate R X)) (kmax (kmask (kgate R X) (kpos (kgate R X) (kmax (kgate R X)))))
      (kpos (kgate R X) (kmax (kgate R X)))
      (kpos (kmask (kgate R X) (kpos (kgate R X) (kmax (kgate R X)))) (kmax (kmask (kgate R X) (kpos (kgate R X) (kmax (kgate R X)))))) := rfl

theorem ofBits_bot : Ideal.ofBits .f32 0xFF800000#32 = ⊥ := by simp [Ideal.ofBits, Ideal.ieee]

theorem kgate_apply (R : Vec Ideal S32x2x512 .f32) (X : Vec Ideal S16x512 .f32) (r : Fin 16) (e : Fin 64) :
    kgate R X (ix2 r e) = ∑ k : Fin 512, X (ix2 r k) * R (ix3 ⟨e.val / 2, by omega⟩ ⟨e.val % 2, by omega⟩ k) := by
  pointwise [kgate]

theorem kmax_apply (g : FV S16x64) (r : Fin 16) : kmax g (ix2 r 0) = Finset.univ.fold max ⊥ fun k : Fin 64 => g (ix2 r k) := by
  pointwise [kmax, ofBits_bot]

theorem kpos_apply (g : FV S16x64) (v : FV S16x1) (r : Fin 16) :
    kpos g v (ix2 r 0) = Finset.univ.fold IntOp.minsi 2147483647#32 fun k : Fin 64 => if g (ix2 r k) = v (ix2 r 0) then BitVec.ofNat 32 k.val else 64#32 := by
  pointwise [kpos]

theorem kmask_apply (g : FV S16x64) (n : IVec S16x1 32) (r : Fin 16) (k : Fin 64) :
    kmask g n (ix2 r k) = Scalar.select (IntOp.cmpi .eq (BitVec.ofNat 32 k.val) (n (ix2 r 0))) ⊥ (g (ix2 r k)) := by
  have hm : (Named.named (F := Ideal) κ "mask" (φ := .f32) 0xF149F2CA#32 : EReal) = ⊥ := rfl
  pointwise [kmask]
  rw [hm]

theorem klanes_apply (v1 v2 : FV S16x1) (n1 n2 : IVec S16x1 32) (r : Fin 16) :
    klanes v1 v2 n1 n2 (ix2 r 0) = (((n1 (ix2 r 0)).toInt : ℝ) : EReal) ∧ klanes v1 v2 n1 n2 (ix2 r 1) = (((n2 (ix2 r 0)).toInt : ℝ) : EReal)
    ∧ klanes v1 v2 n1 n2 (ix2 r 2) = Ideal.div 1 (1 + Ideal.exp (v2 (ix2 r 0) - v1 (ix2 r 0)))
    ∧ klanes v1 v2 n1 n2 (ix2 r 3) = Ideal.div (Ideal.exp (v2 (ix2 r 0) - v1 (ix2 r 0))) (1 + Ideal.exp (v2 (ix2 r 0) - v1 (ix2 r 0))) := by
  pointwise [klanes, kone]
  exact ⟨rfl, rfl⟩

/-! ## The other payloads -/

theorem pay1_apply (x : Vec Ideal S16x512 .f32) (r : Fin 16) (k : Fin 512) : k0_pay1 (F := Ideal) x (ix2 r k) = x (ix2 r k) := by
  pointwise [k0_pay1]

theorem pay2_apply (x : Vec Ideal S512x2 .f32) (e : Fin 2) (k : Fin 512) : k0_pay2 (F := Ideal) x (ix2 e k) = x (ix2 k e) := by
  pointwise [k0_pay2]

theorem pay25_apply (x : Vec Ideal S32x16x512 .bf16) (r : Fin 16) (k : Fin 512) : k0_pay25 (F := Ideal) x (ix2 r k) = ∑ d : Fin 32, x (ix3 d r k) := by
  pointwise [k0_pay25]

/-- What the four lanes of a row weigh an expert with, the expert's number given as a real number. -/
def weigh (l : Fin 4 → EReal) (e : ℤ) : EReal := (if l 0 = ((e : ℝ) : EReal) then l 2 else 0) + (if l 1 = ((e : ℝ) : EReal) then l 3 else 0)
/-- The lanes of a gathered row. -/
def lanes (v : Vec Ideal S32x16x128 .f32) (t : Fin 512) (l : Fin 4) : EReal := v (ix3 ⟨t.val / 16, by omega⟩ ⟨t.val % 16, by omega⟩ ⟨l.val, by omega⟩)

theorem pay10_apply (w : BitVec 32) (v : Vec Ideal S32x16x128 .f32) (t : Fin 512) :
    k0_pay10 (F := Ideal) w v (ix2 t 0) = weigh (lanes v t) (Scalar.muli w 2#32).toInt := by
  pointwise [k0_pay10, k0_pay6, k0_pay7, k0_pay8, k0_pay9]
  rfl

theorem pay11_apply (w : BitVec 32) (v : Vec Ideal S32x16x128 .f32) (t : Fin 512) :
    k0_pay11 (F := Ideal) w v (ix2 t 0) = weigh (lanes v t) (Scalar.addi (Scalar.muli w 2#32) 1#32).toInt := by
  pointwise [k0_pay11, k0_pay6, k0_pay7, k0_pay8, k0_pay9]
  rfl

theorem expert_words : ∀ c : Dev nD, (Scalar.muli (meW c) 2#32).toInt = 2 * (c.val : ℤ) ∧ (Scalar.addi (Scalar.muli (meW c) 2#32) 1#32).toInt = 2 * (c.val : ℤ) + 1 := by
  decide +kernel

/-- An expert's output for a row, at a column. -/
def ffn (x : Fin 512 → EReal) (a : Fin 512 → Fin 1024 → EReal) (b : Fin 1024 → EReal) : EReal :=
  ∑ f : Fin 1024, max (∑ k : Fin 512, x k * a k f) 0 * b f

theorem payK_apply (c : Dev nD) (k : Fin 4) (s : Vec Ideal S32x16x128 .f32) (a0 a1 : Vec Ideal S1x512x1024 .f32) (b0 b1 : Vec Ideal S1x1024x512 .f32)
    (v : Vec Ideal S8x16x512 .bf16) (r : Fin 128) (d : Fin 512) :
    payK (F := Ideal) c k s a0 a1 b0 b1 v (ix2 r d)
      = ffn (fun i => v (ix3 ⟨r.val / 16, by omega⟩ ⟨r.val % 16, by omega⟩ i)) (fun i f => a0 (ix3 0 i f)) (fun f => b0 (ix3 0 f d))
          * k0_pay10 (F := Ideal) (meW c) s (ix2 ⟨128 * k.val + r.val, by omega⟩ 0)
        + ffn (fun i => v (ix3 ⟨r.val / 16, by omega⟩ ⟨r.val % 16, by omega⟩ i)) (fun i f => a1 (ix3 0 i f)) (fun f => b1 (ix3 0 f d))
          * k0_pay11 (F := Ideal) (meW c) s (ix2 ⟨128 * k.val + r.val, by omega⟩ 0) := by
  fin_cases k <;> unfold payK ffn <;>
    pointwise [k0_pay12, k0_pay13, k0_pay14, k0_pay15, k0_pay16, k0_pay17, k0_pay18, k0_pay19, k0_pay20, k0_pay21, k0_pay22, k0_pay23]

/-! ## The contents -/

variable (I : Ins Ideal)

theorem ldW1_apply (c : Dev nD) (e : Fin 2) (i : Fin 512) (f : Fin 1024) : ldW1 I c e (ix3 0 i f) = I.a c (ix3 e i f) := by
  refine congrArg (I.a c) (funext fun q => Fin.ext ?_)
  match q with
  | ⟨0, _⟩ => show e.val + 1 * 0 = e.val; omega
  | ⟨1, _⟩ => show 0 + 1 * i.val = i.val; omega
  | ⟨2, _⟩ => show 0 + 1 * f.val = f.val; omega

theorem ldW2_apply (c : Dev nD) (e : Fin 2) (f : Fin 1024) (d : Fin 512) : ldW2 I c e (ix3 0 f d) = I.b c (ix3 e f d) := by
  refine congrArg (I.b c) (funext fun q => Fin.ext ?_)
  match q with
  | ⟨0, _⟩ => show e.val + 1 * 0 = e.val; omega
  | ⟨1, _⟩ => show 0 + 1 * f.val = f.val; omega
  | ⟨2, _⟩ => show 0 + 1 * d.val = d.val; omega

theorem xk_apply (k : Fin 4) (g : Vec Ideal S32x16x512 .bf16) (s : Fin 8) (r : Fin 16) (i : Fin 512) :
    xgB.view.readAt (Elt Ideal) (rXK k).toLoadRect g (ix3 s r i) = g (ix3 ⟨8 * k.val + s.val, by omega⟩ r i) := by
  refine congrArg g (funext fun q => Fin.ext ?_)
  match q with
  | ⟨0, _⟩ => show 8 * k.val + 1 * s.val = 8 * k.val + s.val; omega
  | ⟨1, _⟩ => show 0 + 1 * r.val = r.val; omega
  | ⟨2, _⟩ => show 0 + 1 * i.val = i.val; omega

theorem xgV_apply (s : Dev nD) (r : Fin 16) (i : Fin 512) : xgV I (ix3 s r i) = I.x s (ix2 r i) := by
  refine Eq.trans ?_ (pay1_apply (I.x s) r i)
  refine congrArg (k0_pay1 (F := Ideal) (I.x s)) (funext fun q => ?_)
  match q with
  | ⟨0, _⟩ => rfl
  | ⟨1, _⟩ => rfl

theorem rgV_apply (s : Dev nD) (e : Fin 2) (i : Fin 512) : rgV I (ix3 s e i) = I.w s (ix2 i e) := by
  refine Eq.trans ?_ (pay2_apply (I.w s) e i)
  refine congrArg (k0_pay2 (F := Ideal) (I.w s)) (funext fun q => ?_)
  match q with
  | ⟨0, _⟩ => rfl
  | ⟨1, _⟩ => rfl

theorem sgV_apply (s : Dev nD) (r : Fin 16) (l : Fin 4) : sgV I (ix3 s r ⟨l.val, by omega⟩) = scV I s (ix2 r l) := by
  unfold sgV ssV
  refine (dif_pos (show l.val < 4 from l.isLt)).trans ?_
  refine congrArg (scV I s) (funext fun q => ?_)
  match q with
  | ⟨0, _⟩ => rfl
  | ⟨1, _⟩ => rfl

/-- The scores of a row of a device. -/
def grow (c : Dev nD) (r : Fin 16) (e : Fin 64) : EReal := ∑ k : Fin 512, I.x c (ix2 r k) * I.w ⟨e.val / 2, by have := e.isLt; show _ < 32; omega⟩ (ix2 k ⟨e.val % 2, by omega⟩)

theorem gate_row (c : Dev nD) (r : Fin 16) (e : Fin 64) : kgate (rgV I) (I.x c) (ix2 r e) = grow I c r e := by
  rw [kgate_apply]
  refine Finset.sum_congr rfl fun k _ => ?_
  exact congrArg (I.x c (ix2 r k) * ·) (rgV_apply I _ _ _)

/-! ### A row of scores -/

section Row
variable (g : FV S16x64) (r : Fin 16) (γ : Fin 64 → EReal) (h : ∀ k, g (ix2 r k) = γ k)
include h

theorem kmax_row (i : Fin 64) (hi : ∀ k, γ k ≤ γ i) : kmax g (ix2 r 0) = γ i := by
  rw [kmax_apply, show (fun k : Fin 64 => g (ix2 r k)) = γ from funext h]
  exact fold_max_eq γ i hi

theorem kpos_row (v : FV S16x1) (i : Fin 64) (hi : γ i = v (ix2 r 0)) (hf : ∀ k, γ k = v (ix2 r 0) → i ≤ k) : kpos g v (ix2 r 0) = BitVec.ofNat 32 i.val := by
  rw [kpos_apply]
  simp only [h]
  exact fold_min_eq _ i hi hf

theorem kmask_row (n : IVec S16x1 32) (hn : n (ix2 r 0) = BitVec.ofNat 32 (i1 γ).val) (k : Fin 64) : kmask g n (ix2 r k) = rest γ k := by
  have hd : ∀ k e : Fin 64, IntOp.cmpi .eq (BitVec.ofNat 32 k.val) (BitVec.ofNat 32 e.val) = if k = e then 1#1 else 0#1 := by decide +kernel
  rw [kmask_apply, hn, hd, h]
  unfold rest
  split <;> rfl

end Row

/-- A row of scores as the kernel packs it: the two positions and the two weights. -/
def packed (γ : Fin 64 → EReal) : Fin 4 → EReal := ![(((i1 γ).val : ℝ) : EReal), (((i2 γ).val : ℝ) : EReal), w1 γ, w2 γ]

theorem scV_row (c : Dev nD) (r : Fin 16) (hg : ∀ e, ∃ q : ℝ, grow I c r e = q) (l : Fin 4) : scV I c (ix2 r l) = packed (grow I c r) l := by
  have hb : ∀ k, grow I c r k ≠ ⊥ := fun k => by obtain ⟨q, hq⟩ := hg k; rw [hq]; exact EReal.coe_ne_bot q
  have h := gate_row I c r
  have hm1 := kmax_row _ r _ h _ fun k => (i1_spec (grow I c r)).le k trivial
  have hp1 := kpos_row _ r _ h (kmax (kgate (rgV I) (I.x c))) (i1 (grow I c r)) hm1.symm fun k hk => (i1_spec (grow I c r)).first k trivial (hk.trans hm1)
  have h' := kmask_row _ r _ h _ hp1
  have hm2 := kmax_row _ r _ h' (i2 (grow I c r)) (rest_le _)
  have hp2 := kpos_row _ r _ h' (kmax (kmask (kgate (rgV I) (I.x c)) (kpos (kgate (rgV I) (I.x c)) (kmax (kgate (rgV I) (I.x c)))))) (i2 (grow I c r)) hm2.symm
    fun k hk => rest_first _ hb k ((hk.trans hm2).trans (rest_i2 _))
  have hl := klanes_apply (kmax (kgate (rgV I) (I.x c))) (kmax (kmask (kgate (rgV I) (I.x c)) (kpos (kgate (rgV I) (I.x c)) (kmax (kgate (rgV I) (I.x c))))))
    (kpos (kgate (rgV I) (I.x c)) (kmax (kgate (rgV I) (I.x c))))
    (kpos (kmask (kgate (rgV I) (I.x c)) (kpos (kgate (rgV I) (I.x c)) (kmax (kgate (rgV I) (I.x c)))))
      (kmax (kmask (kgate (rgV I) (I.x c)) (kpos (kgate (rgV I) (I.x c)) (kmax (kgate (rgV I) (I.x c)))))))  r
  rw [rest_i2] at hm2
  rw [hp1, hp2, hm1, hm2, toInt_pos, toInt_pos, ← pay4_eq] at hl
  unfold scV
  fin_cases l
  · exact hl.1
  · exact hl.2.1
  · exact hl.2.2.1
  · exact hl.2.2.2

theorem weigh_packed (γ : Fin 64 → EReal) (e : Fin 64) : weigh (packed γ) (e.val : ℤ) = comb γ e := by
  have hd : ∀ k : Fin 64, (((k.val : ℝ) : EReal) = (((e.val : ℤ) : ℝ) : EReal)) = (k = e) := fun k => by
    rw [EReal.coe_eq_coe_iff, Int.cast_natCast, Nat.cast_inj, Fin.val_inj]
  unfold weigh comb packed
  simp only [Matrix.cons_val, Matrix.cons_val_zero, Matrix.cons_val_one, hd]

/-! ### A row of products -/

/-- What device `s`'s two experts contribute to a row of device `c`. -/
def part (c s : Dev nD) (r : Fin 16) (d : Fin 512) (e : Fin 2) : EReal :=
  ffn (fun i => I.x c (ix2 r i)) (fun i f => I.a s (ix3 e i f)) (fun f => I.b s (ix3 e f d))
    * comb (grow I c r) ⟨2 * s.val + e.val, by have h : s.val < 32 := s.isLt; omega⟩

theorem lanes_row (c : Dev nD) (r : Fin 16) (hg : ∀ e, ∃ q : ℝ, grow I c r e = q) (t : Fin 512) (ht : t.val = 16 * c.val + r.val) :
    lanes (sgV I) t = packed (grow I c r) := by
  funext l
  unfold lanes
  have h0 : (⟨t.val / 16, by omega⟩ : Fin 32) = c := Fin.ext (by show t.val / 16 = c.val; omega)
  have h1 : (⟨t.val % 16, by omega⟩ : Fin 16) = r := Fin.ext (by show t.val % 16 = r.val; omega)
  rw [h0, h1, sgV_apply, scV_row I c r hg]

theorem pcV_apply (c s : Dev nD) (r : Fin 16) (d : Fin 512) (hg : ∀ e, ∃ q : ℝ, grow I c r e = q) :
    pcV I c s (ix2 r d) = part I c s r d 0 + part I c s r d 1 := by
  have hc : c.val < 32 := c.isLt
  obtain ⟨k, hk⟩ : ∃ k : Fin 4, k.val = (16 * c.val + r.val) / 128 := ⟨⟨(16 * c.val + r.val) / 128, by omega⟩, rfl⟩
  obtain ⟨q, hq⟩ : ∃ q : Fin 128, q.val = (16 * c.val + r.val) % 128 := ⟨⟨(16 * c.val + r.val) % 128, by omega⟩, rfl⟩
  have hch : pcV I c s (ix2 r d) = chV I s k (ix2 q d) := by
    unfold pcV yV
    have hk' : (⟨(16 * c.val + r.val) / 128, by omega⟩ : Fin 4) = k := Fin.ext hk.symm
    refine Eq.trans (congrArg (fun j => chV I s j _) hk') (congrArg (chV I s k) (funext fun a => ?_))
    match a with
    | ⟨0, _⟩ => exact Fin.ext hq.symm
    | ⟨1, _⟩ => rfl
  have hs : (⟨8 * k.val + q.val / 16, by omega⟩ : Fin 32) = c := Fin.ext (by show 8 * k.val + q.val / 16 = c.val; omega)
  have hr : (⟨q.val % 16, by omega⟩ : Fin 16) = r := Fin.ext (by show q.val % 16 = r.val; omega)
  have hl := lanes_row I c r hg ⟨128 * k.val + q.val, by omega⟩ (by show 128 * k.val + q.val = _; omega)
  have h0 := weigh_packed (grow I c r) ⟨2 * s.val + (0 : Fin 2).val, by have h : s.val < 32 := s.isLt; omega⟩
  have h1 := weigh_packed (grow I c r) ⟨2 * s.val + (1 : Fin 2).val, by have h : s.val < 32 := s.isLt; omega⟩
  rw [hch]
  unfold chV part
  rw [payK_apply, pay10_apply, pay11_apply, hl, (expert_words s).1, (expert_words s).2]
  have hx : (fun i : Fin 512 => xgB.view.readAt (Elt Ideal) (rXK k).toLoadRect (xgV I) (ix3 (⟨q.val / 16, by omega⟩ : Fin 8) (⟨q.val % 16, by omega⟩ : Fin 16) i))
      = fun i => I.x c (ix2 r i) := funext fun i => by rw [xk_apply, xgV_apply]; show I.x (⟨8 * k.val + q.val / 16, _⟩ : Fin 32) _ = _; rw [hs, hr]
  simp only [ldW1_apply, ldW2_apply]
  rw [← h0, ← h1]
  have hz0 : (2 * (s.val : ℤ)) = ((2 * s.val + (0 : Fin 2).val : ℕ) : ℤ) := by push_cast; rfl
  have hz1 : (2 * (s.val : ℤ) + 1) = ((2 * s.val + (1 : Fin 2).val : ℕ) : ℤ) := by push_cast; rfl
  exact congrArg₂ (· + ·) (congrArg₂ (· * ·) (congrArg (fun z => ffn z _ _) hx) (congrArg (weigh _) hz0))
    (congrArg₂ (· * ·) (congrArg (fun z => ffn z _ _) hx) (congrArg (weigh _) hz1))

/-- The kernel's result at a row and a column of a device. -/
theorem outV_apply (c : Dev nD) (r : Fin 16) (d : Fin 512) (hg : ∀ e, ∃ q : ℝ, grow I c r e = q) :
    outV I c (ix2 r d) = ∑ s : Fin 32, (part I c s r d 0 + part I c s r d 1) := by
  unfold outV
  rw [pay25_apply]
  refine Finset.sum_congr rfl fun s _ => ?_
  rw [← pcV_apply I c s r d hg]
  refine congrArg (pcV I c s) (funext fun q => ?_)
  match q with
  | ⟨0, _⟩ => rfl
  | ⟨1, _⟩ => rfl

end Cert.KerValue
-- ==== Proof.VRef.lean ====
/-
  # The plain computation, element by element

  The result of the plain program at a row and a column: over all experts, the expert's output times what the row weighs it with.
-/
module

public import proofs.«01_k».proof.Proof.Gen.ReferenceIdeal.Run
public import proofs.«01_k».proof.Proof.VTop
public import Idealize.ShloMosaic.Lib.Pointwise

@[expose] public section

noncomputable section

namespace Cert.RefValue

open Cert.ReferenceIdeal Cert.ReferenceIdeal.Gen Idealize.ShloMosaic Idealize.ShloMosaic.TcCoe Cert.Top2

abbrev FV (s : Shape) : Type := FVec Ideal s .f32

/-! ## The pieces -/

def gates (x : FV S512x512) (r : FV S512x64) : FV S512x64 := Host.dotGeneral dot_S512x512_S512x64_S512x64_1_0_0_1_n_n (some .fp32) x r

def idx (g : FV S512x64) : IVec S512x2 32 :=
  extractStridedSlice S512x2 ![0, 0] ((Host.sort2 S512x64 1 comparator_f32_i32_d1 (Host.negf g) (iotaInDim S512x64 32 1)).2) slices_S512x64_S512x2_0_0

def idx' (n : IVec S512x2 32) : IVec S512x2x1 32 :=
  shapeCast _ (select (cmpi .slt n (broadcastInDim S512x2 ![] bcast_S_S512x2 (constantI S_ 32 0#32)))
    (addi n (broadcastInDim S512x2 ![] bcast_S_S512x2 (constantI S_ 32 64#32))) n) shapeCasts_S512x2_S512x2x1

def inRange (n : IVec S512x2x1 32) : IVec S512x2 1 :=
  Host.reduce IntOp.andi (andi (cmpi .sge n (broadcastInDim S512x2x1 ![] bcast_S_S512x2x1 (constantI S_ 32 0#32)))
    (cmpi .sle n (broadcastInDim S512x2x1 ![0, 1, 2] bcast_S1x1x1_S512x2x1_0_1_2 (broadcastInDim S1x1x1 ![2] bcast_S1_S1x1x1_2 (constantI S1 32 63#32)))))
    (constantI S_ 1 1#1) reducesTo_S512x2x1_S512x2_d2 h_S_

def vals (g : FV S512x64) (n : IVec S512x2x1 32) : FV S512x2 :=
  select (inRange n) (Host.gather gather_S512x64_S512x2x1_S512x2_n_1_0_0_1_2_11 g n) (broadcastInDim S512x2 ![] bcast_S_S512x2 (constant S_ .f32 0x7FC00000#32))

def exps (v : FV S512x2) : FV S512x2 :=
  Host.exp (subf v (broadcastInDim S512x2 ![0, 1] bcast_S512x1_S512x2_0_1 (broadcastInDim S512x1 ![0] bcast_S512_S512x1_0
    (Host.reduce FloatOps.maximumf v (constant S_ .f32 0xFF800000#32) reducesTo_S512x2_S512_d1 h_S_))))

def norms (v : FV S512x2) : FV S512x2 :=
  Host.divf v (broadcastInDim S512x2 ![0, 1] bcast_S512x1_S512x2_0_1 (broadcastInDim S512x1 ![0] bcast_S512_S512x1_0
    (Host.reduceAdd v (constant S_ .f32 0x00000000#32) reducesTo_S512x2_S512_d1 h_S_)))

def combs (n : IVec S512x2 32) (w : FV S512x2) : FV S512x64 :=
  Host.reduceAdd (select (cmpi .eq (broadcastInDim S512x2x64 ![0, 1, 2] bcast_S512x2x1_S512x2x64_0_1_2 (broadcastInDim S512x2x1 ![0, 1] bcast_S512x2_S512x2x1_0_1 n))
      (broadcastInDim S512x2x64 ![0, 1, 2] bcast_S1x1x64_S512x2x64_0_1_2 (broadcastInDim S1x1x64 ![2] bcast_S64_S1x1x64_2 (iotaInDim S64 32 0))))
    (broadcastInDim S512x2x64 ![0, 1, 2] bcast_S512x2x1_S512x2x64_0_1_2 (broadcastInDim S512x2x1 ![0, 1] bcast_S512x2_S512x2x1_0_1 w))
    (broadcastInDim S512x2x64 ![] bcast_S_S512x2x64 (id (constant S_ .f32 0x00000000#32)))) (constant S_ .f32 0x00000000#32) reducesTo_S512x2x64_S512x64_d1 h_S_

def outs (x : FV S512x512) (a : FV S64x512x1024) (b : FV S64x1024x512) : FV S64x512x512 :=
  Host.dotGeneral dot_S64x512x1024_S64x1024x512_S64x512x512_2_1_1_2_0_0 none
    (maximumf (transpose S64x512x1024 [0, 2, 1] (Host.dotGeneral dot_S64x512x1024_S512x512_S64x1024x512_1_1_02_0_n_n none a x) transposes_S64x1024x512_S64x512x1024_0_2_1)
      (broadcastInDim S64x512x1024 ![] bcast_S_S64x512x1024 (constant S_ .f32 0x00000000#32))) b

def total (y : FV S64x512x512) (c : FV S512x64) : FV S512x512 :=
  Host.reduceAdd (mulf y (broadcastInDim S64x512x512 ![0, 1, 2] bcast_S64x512x1_S64x512x512_0_1_2 (broadcastInDim S64x512x1 ![0, 1] bcast_S64x512_S64x512x1_0_1
    (transpose S64x512 [1, 0] c transposes_S512x64_S64x512_1_0)))) (constant S_ .f32 0x00000000#32) reducesTo_S64x512x512_S512x512_d0 h_S_

/-- The plain program's result, of its four arguments. -/
def result (x : FV S512x512) (r : FV S512x64) (a : FV S64x512x1024) (b : FV S64x1024x512) : FV S512x512 :=
  total (outs x a b) (combs (idx (gates x r)) (norms (exps (vals (gates x r) (idx' (idx (gates x r)))))))

set_option maxRecDepth 8192 in
theorem res_eq (m : (ℓ : Loc nD τ sig) → Buf (Elt Ideal) ℓ) (c : Dev nD) :
    Value.res_main_v32 m c = result (m ((c.tc : Thread nD τ).loc main_arg0)) (m ((c.tc : Thread nD τ).loc main_arg1))
      (m ((c.tc : Thread nD τ).loc main_arg2)) (m ((c.tc : Thread nD τ).loc main_arg3)) := rfl

/-! ## The pieces at an index -/

theorem gates_apply (x : FV S512x512) (r : FV S512x64) (t : Fin 512) (e : Fin 64) :
    gates x r (ix2 t e) = ∑ k : Fin 512, x (ix2 t k) * r (ix2 k e) := by
  pointwise [gates]

theorem outs_apply (x : FV S512x512) (a : FV S64x512x1024) (b : FV S64x1024x512) (e : Fin 64) (t d : Fin 512) :
    outs x a b (ix3 e t d) = ∑ f : Fin 1024, max (∑ k : Fin 512, a (ix3 e k f) * x (ix2 t k)) 0 * b (ix3 e f d) := by
  pointwise [outs]

theorem total_apply (y : FV S64x512x512) (c : FV S512x64) (t d : Fin 512) :
    total y c (ix2 t d) = ∑ e : Fin 64, y (ix3 e t d) * c (ix2 t e) := by
  pointwise [total]

theorem combs_apply (n : IVec S512x2 32) (w : FV S512x2) (t : Fin 512) (e : Fin 64) :
    combs n w (ix2 t e) = ∑ j : Fin 2, Scalar.select (IntOp.cmpi .eq (n (ix2 t j)) (BitVec.ofNat 32 e.val)) (w (ix2 t j)) 0 := by
  pointwise [combs, id_eq]

theorem norms_apply (v : FV S512x2) (t : Fin 512) (j : Fin 2) :
    norms v (ix2 t j) = Ideal.div (v (ix2 t j)) (∑ k : Fin 2, v (ix2 t k)) := by
  pointwise [norms]

theorem ofBits_bot : Ideal.ofBits .f32 0xFF800000#32 = ⊥ := by simp [Ideal.ofBits, Ideal.ieee]

theorem exps_apply (v : FV S512x2) (t : Fin 512) (j : Fin 2) :
    exps v (ix2 t j) = Ideal.exp (v (ix2 t j) - Finset.univ.fold max ⊥ fun k : Fin 2 => v (ix2 t k)) := by
  pointwise [exps, ofBits_bot]

theorem inRange_apply (n : IVec S512x2x1 32) (t : Fin 512) (j : Fin 2) :
    inRange n (ix2 t j) = Finset.univ.fold IntOp.andi 1#1 fun x : Fin 1 =>
      IntOp.andi (IntOp.cmpi .sge (n (ix3 t j x)) 0#32) (IntOp.cmpi .sle (n (ix3 t j x)) 63#32) := by
  pointwise [inRange]

theorem idx'_apply (n : IVec S512x2 32) (t : Fin 512) (j : Fin 2) :
    idx' n (ix3 t j 0) = Scalar.select (IntOp.cmpi .slt (n (ix2 t j)) 0#32) (IntOp.addi (n (ix2 t j)) 64#32) (n (ix2 t j)) := by
  pointwise [idx']

/-! ## The choice -/

/-- Which of two scores a sort of the negated scores puts first. -/
theorem comparator_eq (a b : EReal) (u v : BitVec 32) :
    (comparator_f32_i32_d1 (F := Ideal) (-a, u) (-b, v) == 1#1) = decide (b < a) := by
  have hz : ∀ z : EReal, Scalar.select (Ideal.cmp .oeq z 0) 0 z = z := fun z => by
    by_cases h : z = 0 <;> simp [Ideal.cmp, h, Scalar.select]
  have hn : ∀ z w : EReal, Scalar.select (Ideal.cmp .une z z) w (Scalar.select (Ideal.cmp .oeq z 0) 0 z) = z := fun z w => by
    rw [hz]; simp [Ideal.cmp, Scalar.select]
  unfold comparator_f32_i32_d1
  simp only [Ideal.cmpf_def, Ideal.cmpfTotal_def, Ideal.ofBits_def, Ideal.ofBits_zero_f32, hn]
  by_cases h : b < a <;> simp [Ideal.cmp, CmpDirection.ordered, h]

/-- A row of scores. -/
def row (g : FV S512x64) (t : Fin 512) : Fin 64 → EReal := fun e => g (ix2 t e)

theorem along_ix2 (t : Fin 512) (e k : Fin 64) : (ix2 t e : S512x64.Idx).along (1 : Fin 2) k = ix2 t k := by
  funext a
  match a with
  | ⟨0, _⟩ => exact Function.update_of_ne (show (0 : Fin 2) ≠ 1 by decide) _ _
  | ⟨1, _⟩ => exact Function.update_self _ _ _

theorem sort_at (g : FV S512x64) (t : Fin 512) (e : Fin 64) :
    (Host.sort2 S512x64 1 comparator_f32_i32_d1 (Host.negf g) (iotaInDim S512x64 32 1)).2 (ix2 t e)
      = BitVec.ofNat 32 (sortedFrom (fun k k' => decide (row g t k' < row g t k)) e).val := by
  have hB : (fun k k' : Fin 64 => comparator_f32_i32_d1 (F := Ideal) (-row g t k, BitVec.ofNat 32 k.val) (-row g t k', BitVec.ofNat 32 k'.val) == 1#1)
      = fun k k' => decide (row g t k' < row g t k) := by funext k k'; exact comparator_eq _ _ _ _
  have ha : ∀ k : Fin (S512x64.size (⟨1, Nat.lt_succ_self 1⟩ : Fin 2)), Shape.Idx.along (s := S512x64) (ix2 t e) ⟨1, Nat.lt_succ_self 1⟩ k = ix2 (n1 := 64) t k := along_ix2 t e
  unfold Host.sort2
  rw [dif_pos (show 1 < S512x64.rank by decide)]
  dsimp only
  rw [ha]
  refine congrArg (BitVec.ofNat 32) (congrArg Fin.val ?_)
  refine Eq.trans ?_ (congrFun (congrArg sortedFrom hB) e)
  simp only [ha]
  rfl

theorem idx_apply (g : FV S512x64) (t : Fin 512) (j : Fin 2) : idx g (ix2 t j) = BitVec.ofNat 32 (two (row g t) j).val := by
  rw [← sorted_two, ← sort_at]
  unfold idx
  pointwise
  rfl

/-- A position is a word in range, and never one from the end. -/
theorem pos_word : ∀ k : Fin 64, IntOp.cmpi .slt (BitVec.ofNat 32 k.val) 0#32 = 0#1
    ∧ IntOp.cmpi .sge (BitVec.ofNat 32 k.val) 0#32 = 1#1 ∧ IntOp.cmpi .sle (BitVec.ofNat 32 k.val) 63#32 = 1#1
    ∧ (BitVec.ofNat 32 k.val).toInt.toNat = k.val := by decide +kernel

theorem idx'_at (g : FV S512x64) (t : Fin 512) (j : Fin 2) : idx' (idx g) (ix3 t j 0) = BitVec.ofNat 32 (two (row g t) j).val := by
  rw [idx'_apply, idx_apply, (pos_word _).1]; rfl

theorem gather_at (g : FV S512x64) (n : IVec S512x2x1 32) (t : Fin 512) (j : Fin 2) (k : Fin 64) (h : n (ix3 t j 0) = BitVec.ofNat 32 k.val) :
    Host.gather gather_S512x64_S512x2x1_S512x2_n_1_0_0_1_2_11 g n (ix2 t j) = g (ix2 t k) := by
  have hx : ∀ a : Fin 2, a ∉ (gather_S512x64_S512x2x1_S512x2_n_1_0_0_1_2_11).sKept := by decide
  have hs : (gather_S512x64_S512x2x1_S512x2_n_1_0_0_1_2_11).start (ix2 t j) n (1 : Fin 2) = k.val := by
    unfold GatherDims.start
    rw [dif_pos (show (1 : Fin 2) ∈ (gather_S512x64_S512x2x1_S512x2_n_1_0_0_1_2_11).startIndexMap from List.mem_singleton.mpr rfl)]
    have hi : (gather_S512x64_S512x2x1_S512x2_n_1_0_0_1_2_11).siIdx (ix2 t j) ⟨0, Nat.one_pos⟩ = ix3 t j 0 := by
      funext b
      match b with
      | ⟨0, _⟩ => rfl
      | ⟨1, _⟩ => rfl
      | ⟨2, _⟩ => rfl
    refine (congrArg (fun i => min (n i).toInt.toNat 63) hi).trans ?_
    rw [h, (pos_word k).2.2.2]
    exact Nat.min_eq_left (Nat.le_of_lt_succ k.isLt)
  refine congrArg g (funext fun a => Fin.ext ?_)
  show GatherDims.start _ (ix2 t j) n a + GatherDims.batchCoord _ (ix2 t j) a + GatherDims.offCoord _ (ix2 t j) a = _
  rw [GatherDims.offCoord_eq_zero _ _ _ (hx a)]
  match a with
  | ⟨0, _⟩ => rw [GatherDims.start_batching _ _ _ _ (List.mem_singleton.mpr rfl)]; exact Nat.zero_add _
  | ⟨1, _⟩ => exact (congrArg (· + 0 + 0) hs)

theorem vals_apply (g : FV S512x64) (t : Fin 512) (j : Fin 2) : vals g (idx' (idx g)) (ix2 t j) = row g t (two (row g t) j) := by
  have hr : inRange (idx' (idx g)) (ix2 t j) = 1#1 := by
    rw [inRange_apply, Finset.univ_unique, Finset.fold_singleton, show (default : Fin 1) = 0 from rfl, idx'_at, (pos_word _).2.1, (pos_word _).2.2.1]; rfl
  unfold vals
  pointwise [hr, gather_at g _ t j _ (idx'_at g t j)]
  rfl

/-! ## The weights -/

theorem fold_two (f : Fin 2 → EReal) (h : f 1 ≤ f 0) : Finset.univ.fold max ⊥ f = f 0 := by
  refine le_antisymm ((Finset.fold_max_le _).mpr ⟨bot_le, fun k _ => ?_⟩) ((Finset.le_fold_max _).mpr (Or.inr ⟨0, Finset.mem_univ _, le_rfl⟩))
  fin_cases k
  · exact le_rfl
  · exact h

theorem sub_self_real (a : EReal) (h : ∃ r : ℝ, a = r) : a - a = 0 := by
  obtain ⟨r, rfl⟩ := h; rw [← EReal.coe_sub, sub_self, EReal.coe_zero]

theorem exp_zero : Ideal.exp 0 = 1 := by
  rw [← EReal.coe_zero]; show ((Real.exp 0 : ℝ) : EReal) = 1; rw [Real.exp_zero, EReal.coe_one]

theorem weights_apply (g : FV S512x64) (t : Fin 512) (hg : ∀ k, ∃ r : ℝ, row g t k = r) :
    norms (exps (vals g (idx' (idx g)))) (ix2 t 0) = w1 (row g t) ∧ norms (exps (vals g (idx' (idx g)))) (ix2 t 1) = w2 (row g t) := by
  have h0 : two (row g t) 0 = i1 (row g t) := rfl
  have h1 : two (row g t) 1 = i2 (row g t) := rfl
  have hf : (Finset.univ.fold max ⊥ fun k : Fin 2 => row g t (two (row g t) k)) = row g t (i1 (row g t)) :=
    fold_two (fun k => row g t (two (row g t) k)) ((i1_spec (row g t)).le _ trivial)
  simp only [norms_apply, exps_apply, vals_apply, hf, Fin.sum_univ_two, h0, h1, sub_self_real _ (hg _), exp_zero]
  exact ⟨rfl, rfl⟩

theorem combs_at (g : FV S512x64) (t : Fin 512) (e : Fin 64) (hg : ∀ k, ∃ r : ℝ, row g t k = r) :
    combs (idx g) (norms (exps (vals g (idx' (idx g))))) (ix2 t e) = comb (row g t) e := by
  have hw : ∀ k : Fin 64, ∀ z : EReal, Scalar.select (IntOp.cmpi .eq (BitVec.ofNat 32 k.val) (BitVec.ofNat 32 e.val)) z 0 = if k = e then z else 0 := fun k z => by
    have hd : ∀ k e : Fin 64, IntOp.cmpi .eq (BitVec.ofNat 32 k.val) (BitVec.ofNat 32 e.val) = if k = e then 1#1 else 0#1 := by decide +kernel
    rw [hd]; split <;> rfl
  rw [combs_apply, Fin.sum_univ_two, (weights_apply g t hg).1, (weights_apply g t hg).2, idx_apply, idx_apply, hw, hw]
  rfl

/-- The plain program's result, where the scores of the row are real numbers. -/
theorem result_apply (x : FV S512x512) (r : FV S512x64) (a : FV S64x512x1024) (b : FV S64x1024x512) (t d : Fin 512)
    (hg : ∀ k, ∃ q : ℝ, row (gates x r) t k = q) :
    result x r a b (ix2 t d) = ∑ e : Fin 64, (∑ f : Fin 1024, max (∑ k : Fin 512, a (ix3 e k f) * x (ix2 t k)) 0 * b (ix3 e f d))
      * comb (fun e' => ∑ k : Fin 512, x (ix2 t k) * r (ix2 k e')) e := by
  unfold result
  rw [total_apply]
  refine Finset.sum_congr rfl fun e _ => ?_
  rw [outs_apply, combs_at _ _ _ hg]
  congr 2
  funext e'
  exact gates_apply x r t e'

end Cert.RefValue
-- ==== Proof.VFinal.lean ====
/-
  # The kernel computes the plain program's blocks

  Under finite scores the computed result of each device is its block of the plain program's result.
-/
module

public import proofs.«01_k».proof.Proof.VKer
public import proofs.«01_k».proof.Proof.VRef
public import proofs.«01_k».proof.Pre_finite_scores_KernelIdeal
public import proofs.«01_k».proof.Pre_finite_scores_ReferenceIdeal
public import Idealize.ShloMosaic.Lib.Layout

@[expose] public section

noncomputable section

namespace Cert.KerValue

open Cert.KernelIdeal Cert.KernelIdeal.Gen Cert.KernelIdealRun Idealize.ShloMosaic Idealize.ShloMosaic.TcCoe Cert.Top2

/-! ## The preconditions' side conditions -/

theorem preK : Cert.Pre_finite_scores_KernelIdeal.Facts where
  bcast_S_S16x512 := by decide
  reducesTo_S16x512_S_d0_1 := by decide
  h_S_ := by decide
  bcast_S_S512x2 := by decide
  reducesTo_S512x2_S_d0_1 := by decide

theorem preR : Cert.Pre_finite_scores_ReferenceIdeal.Facts where
  bcast_S_S512x512 := by decide
  reducesTo_S512x512_S_d0_1 := by decide
  h_S_ := by decide
  bcast_S_S512x64 := by decide
  reducesTo_S512x64_S_d0_1 := by decide

/-! ## What finite scores say -/

theorem ones_of_fold {ι : Type} (x : ι → BitVec 1) (s : Finset ι) (h : s.fold IntOp.andi 1#1 x = 1#1) : ∀ i ∈ s, x i = 1#1 := by
  have ha : ∀ a b : BitVec 1, IntOp.andi a b = 1#1 → a = 1#1 ∧ b = 1#1 := by decide
  induction s using Finset.cons_induction with
  | empty => exact fun i hi => absurd hi (Finset.notMem_empty i)
  | cons a s _ ih =>
    rw [Finset.fold_cons] at h
    intro i hi
    rcases Finset.mem_cons.1 hi with rfl | hi
    · exact (ha _ _ h).1
    · exact ih (ha _ _ h).2 i hi

theorem ones_of_reduce {s t u : Shape} {axes : List (Fin s.rank)} (x : IVec s 1) (init : IVec u 1) (h : s.ReducesTo axes t) (hu : 0 < u.numel) (ht : t.rank = 0) (j : t.Idx)
    (hi : init (Shape.Idx.first hu) = 1#1) (he : Host.reduce IntOp.andi x init h hu j = 1#1) (i : s.Idx) : x i = 1#1 := by
  rw [Host.reduce_eq_fold, hi] at he
  refine ones_of_fold x _ he i (Finset.mem_filter.2 ⟨Finset.mem_univ _, funext fun b => ?_⟩)
  exact absurd b.isLt (by omega)

theorem real_of_abs (a : EReal) (h : max a (-a) < ⊤) : ∃ q : ℝ, a = q := by
  induction a using EReal.rec with
  | bot => simp at h
  | coe q => exact ⟨q, rfl⟩
  | top => simp at h

theorem inf_bits : Ideal.ofBits .f32 0x7F800000#32 = ⊤ := by simp [Ideal.ofBits, Ideal.ieee]

theorem real_of_one {s : Shape} (x : FVec Ideal s .f32) (h₀ : (⟨0, ![]⟩ : Shape).BroadcastsInDim s (![] : Fin 0 → Fin s.rank)) (i : s.Idx)
    (h : cmpf .olt (Host.absf x) (broadcastInDim s ![] h₀ (constant (F := Ideal) ⟨0, ![]⟩ .f32 0x7F800000#32)) i = 1#1) : ∃ q : ℝ, x i = q := by
  refine real_of_abs (x i) ?_
  have h' : (if max (x i) (-(x i)) < Ideal.ofBits .f32 0x7F800000#32 then 1#1 else 0#1) = 1#1 := by
    refine Eq.trans ?_ h
    pointwise
    show _ = BitVec.ofBool (decide (max (x i) (-(x i)) < _))
    by_cases hl : max (x i) (-(x i)) < Ideal.ofBits .f32 0x7F800000#32
    · rw [if_pos hl, decide_eq_true hl]; rfl
    · rw [if_neg hl, decide_eq_false hl]; rfl
  rw [inf_bits] at h'
  by_contra hn
  rw [if_neg hn] at h'
  exact absurd h' (by decide)

theorem real_of_pre (x : Vec Ideal S16x512 .f32) (w : Vec Ideal S512x2 .f32) (a : Vec Ideal S2x512x1024 .f32) (b : Vec Ideal S2x1024x512 .f32)
    (h : @Cert.Pre_finite_scores_KernelIdeal.fn preK Ideal _ x w a b = fun _ => 1#1) : (∀ i, ∃ q : ℝ, x i = q) ∧ ∀ i, ∃ q : ℝ, w i = q := by
  have ha : ∀ a b : BitVec 1, IntOp.andi a b = 1#1 → a = 1#1 ∧ b = 1#1 := by decide
  have h0 := ha _ _ (congrFun h ix0)
  exact ⟨fun i => real_of_one x _ i (ones_of_reduce _ _ _ _ rfl _ rfl h0.1 i), fun i => real_of_one w _ i (ones_of_reduce _ _ _ _ rfl _ rfl h0.2 i)⟩

theorem real_sum {n : ℕ} (f g : Fin n → EReal) (hf : ∀ k, ∃ q : ℝ, f k = q) (hg : ∀ k, ∃ q : ℝ, g k = q) : ∃ q : ℝ, ∑ k, f k * g k = q := by
  choose p hp using hf
  choose q hq using hg
  refine ⟨∑ k, p k * q k, ?_⟩
  simp only [hp, hq]
  induction (Finset.univ : Finset (Fin n)) using Finset.cons_induction with
  | empty => exact EReal.coe_zero.symm
  | cons k S hk ih => rw [Finset.sum_cons, Finset.sum_cons, ih, EReal.coe_add, EReal.coe_mul]

/-! ## The blocks -/

section Blocks
variable (X : FVec Ideal ⟨2, ![512, 512]⟩ .f32) (R : FVec Ideal ⟨2, ![512, 64]⟩ .f32) (A : FVec Ideal ⟨3, ![64, 512, 1024]⟩ .f32) (B : FVec Ideal ⟨3, ![64, 1024, 512]⟩ .f32)

theorem block_x (h : Layout.Tiles ⟨2, ![16, 512]⟩ ⟨2, ![512, 512]⟩ 0 32) (c : Fin 32) (r : Fin 16) (k : Fin 512) :
    Layout.block ⟨2, ![16, 512]⟩ ⟨2, ![512, 512]⟩ 0 32 c X h (ix2 r k) = X (ix2 ⟨16 * c.val + r.val, by omega⟩ k) :=
  congrArg X (funext fun q => Fin.ext (match q with
    | ⟨0, _⟩ => show c.val * 16 + r.val = 16 * c.val + r.val by omega
    | ⟨1, _⟩ => rfl))

theorem block_r (h : Layout.Tiles ⟨2, ![512, 2]⟩ ⟨2, ![512, 64]⟩ 1 32) (c : Fin 32) (k : Fin 512) (e : Fin 2) :
    Layout.block ⟨2, ![512, 2]⟩ ⟨2, ![512, 64]⟩ 1 32 c R h (ix2 k e) = R (ix2 k ⟨2 * c.val + e.val, by omega⟩) :=
  congrArg R (funext fun q => Fin.ext (match q with
    | ⟨0, _⟩ => rfl
    | ⟨1, _⟩ => show c.val * 2 + e.val = 2 * c.val + e.val by omega))

theorem block_a (h : Layout.Tiles ⟨3, ![2, 512, 1024]⟩ ⟨3, ![64, 512, 1024]⟩ 0 32) (c : Fin 32) (e : Fin 2) (k : Fin 512) (f : Fin 1024) :
    Layout.block ⟨3, ![2, 512, 1024]⟩ ⟨3, ![64, 512, 1024]⟩ 0 32 c A h (ix3 e k f) = A (ix3 ⟨2 * c.val + e.val, by omega⟩ k f) :=
  congrArg A (funext fun q => Fin.ext (match q with
    | ⟨0, _⟩ => show c.val * 2 + e.val = 2 * c.val + e.val by omega
    | ⟨1, _⟩ => rfl
    | ⟨2, _⟩ => rfl))

theorem block_b (h : Layout.Tiles ⟨3, ![2, 1024, 512]⟩ ⟨3, ![64, 1024, 512]⟩ 0 32) (c : Fin 32) (e : Fin 2) (f : Fin 1024) (d : Fin 512) :
    Layout.block ⟨3, ![2, 1024, 512]⟩ ⟨3, ![64, 1024, 512]⟩ 0 32 c B h (ix3 e f d) = B (ix3 ⟨2 * c.val + e.val, by omega⟩ f d) :=
  congrArg B (funext fun q => Fin.ext (match q with
    | ⟨0, _⟩ => show c.val * 2 + e.val = 2 * c.val + e.val by omega
    | ⟨1, _⟩ => rfl
    | ⟨2, _⟩ => rfl))

end Blocks

/-- A sum over the experts is the sum over the devices of their two. -/
theorem sum_experts (f : Fin 64 → EReal) : ∑ e : Fin 64, f e = ∑ s : Fin 32, (f ⟨2 * s.val + (0 : Fin 2).val, by have := s.isLt; omega⟩ + f ⟨2 * s.val + (1 : Fin 2).val, by have := s.isLt; omega⟩) := by
  have h := (Equiv.sum_comp (finProdFinEquiv (m := 32) (n := 2)) f).symm
  rw [Fintype.sum_prod_type] at h
  refine h.trans (Finset.sum_congr rfl fun s _ => ?_)
  rw [Fin.sum_univ_two]
  exact congrArg₂ (· + ·) (congrArg f (Fin.ext (by show (0 : Fin 2).val + 2 * s.val = 2 * s.val + (0 : Fin 2).val; omega))) (congrArg f (Fin.ext (by show (1 : Fin 2).val + 2 * s.val = 2 * s.val + (1 : Fin 2).val; omega)))

/-- The kernel's result is the plain program's, block for block. -/
theorem out_block (I : Ins Ideal) (X : FVec Ideal ⟨2, ![512, 512]⟩ .f32) (R : FVec Ideal ⟨2, ![512, 64]⟩ .f32) (A : FVec Ideal ⟨3, ![64, 512, 1024]⟩ .f32)
    (B : FVec Ideal ⟨3, ![64, 1024, 512]⟩ .f32)
    (hx : ∀ c, I.x c = Layout.block ⟨2, ![16, 512]⟩ ⟨2, ![512, 512]⟩ 0 32 c X) (hw : ∀ c, I.w c = Layout.block ⟨2, ![512, 2]⟩ ⟨2, ![512, 64]⟩ 1 32 c R)
    (ha : ∀ c, I.a c = Layout.block ⟨3, ![2, 512, 1024]⟩ ⟨3, ![64, 512, 1024]⟩ 0 32 c A) (hb : ∀ c, I.b c = Layout.block ⟨3, ![2, 1024, 512]⟩ ⟨3, ![64, 1024, 512]⟩ 0 32 c B)
    (hfx : ∀ c i, ∃ q : ℝ, I.x c i = q) (hfw : ∀ c i, ∃ q : ℝ, I.w c i = q) (c : Dev nD) :
    outV I c = Layout.block ⟨2, ![16, 512]⟩ ⟨2, ![512, 512]⟩ 0 32 c (Cert.RefValue.result X R A B) := by
  have hx' : ∀ (c : Fin 32) (r : Fin 16) (k : Fin 512), I.x c (ix2 r k) = X (ix2 ⟨16 * c.val + r.val, by omega⟩ k) := fun c r k => by rw [hx, block_x]
  have hw' : ∀ (c : Fin 32) (k : Fin 512) (e : Fin 2), I.w c (ix2 k e) = R (ix2 k ⟨2 * c.val + e.val, by omega⟩) := fun c k e => by rw [hw, block_r]
  have ha' : ∀ (c : Fin 32) (e : Fin 2) (k : Fin 512) (f : Fin 1024), I.a c (ix3 e k f) = A (ix3 ⟨2 * c.val + e.val, by omega⟩ k f) := fun c e k f => by rw [ha, block_a]
  have hb' : ∀ (c : Fin 32) (e : Fin 2) (f : Fin 1024) (d : Fin 512), I.b c (ix3 e f d) = B (ix3 ⟨2 * c.val + e.val, by omega⟩ f d) := fun c e f d => by rw [hb, block_b]
  refine funext fun i => ?_
  obtain ⟨r, d, rfl⟩ : ∃ (r : Fin 16) (d : Fin 512), i = ix2 r d := ⟨i 0, i 1, funext fun q => match q with | ⟨0, _⟩ => rfl | ⟨1, _⟩ => rfl⟩
  have hc : c.val < 32 := c.isLt
  have hg : ∀ e, ∃ q : ℝ, grow I c r e = q := fun e => real_sum _ _ (fun k => hfx c _) fun k => hfw _ _
  have hrow : grow I c r = fun e' => ∑ k : Fin 512, X (ix2 (⟨16 * c.val + r.val, by omega⟩ : Fin 512) k) * R (ix2 k e') := funext fun e => by
    unfold grow
    refine Finset.sum_congr rfl fun k _ => ?_
    rw [hx', hw']
    exact congrArg (fun z => _ * R (ix2 k z)) (Fin.ext (by show 2 * (e.val / 2) + e.val % 2 = e.val; omega))
  have hg' : ∀ e, ∃ q : ℝ, Cert.RefValue.row (Cert.RefValue.gates X R) (⟨16 * c.val + r.val, by omega⟩ : Fin 512) e = q := fun e => by
    unfold Cert.RefValue.row
    rw [Cert.RefValue.gates_apply]
    obtain ⟨q, hq⟩ := hg e
    exact ⟨q, (congrFun hrow e).symm.trans hq⟩
  rw [outV_apply I c r d hg, block_x, Cert.RefValue.result_apply X R A B _ d hg', sum_experts]
  refine Finset.sum_congr rfl fun s _ => ?_
  have hp : ∀ e : Fin 2, part I c s r d e = (∑ f : Fin 1024, max (∑ k : Fin 512, A (ix3 ⟨2 * s.val + e.val, by omega⟩ k f) * X (ix2 ⟨16 * c.val + r.val, by omega⟩ k)) 0
      * B (ix3 ⟨2 * s.val + e.val, by omega⟩ f d)) * comb (fun e' => ∑ k : Fin 512, X (ix2 (⟨16 * c.val + r.val, by omega⟩ : Fin 512) k) * R (ix2 k e')) ⟨2 * s.val + e.val, by omega⟩ := fun e => by
    unfold part ffn
    rw [hrow]
    simp only [hx', ha', hb']
    refine congrArg (· * _) (Finset.sum_congr rfl fun f _ => ?_)
    exact congrArg (fun z => max z 0 * _) (Finset.sum_congr rfl fun k _ => mul_comm _ _)
  exact congrArg₂ (· + ·) (hp 0) (hp 1)

/-! ## The result's memory -/

theorem finalA_out (m : (ℓ : Loc nD τ sig) → Buf (Elt Ideal) ℓ) (ρ : Dev nD → PrngReg) (c : Dev nD) : finalA m ρ c (4 : Fin 5) = outV (ins m) c := by
  have h : (win0_4.blk (0 : Fin 1)).view.read (Elt Ideal) (finalA m ρ c (4 : Fin 5)) = outV (ins m) c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from flush0_4 _, if_pos rfl]
    exact View.read_write_univ _ _
  have hz : (fun a => (win0_4.index (0 : Fin 1)) a * main_v1.ty.shape.size a) = fun _ => 0 := funext fun a => by fin_cases a <;> decide
  exact (Memref.read_access_unit_zero (Elt Ideal) main_v1 hz (fun a => by fin_cases a <;> decide) _).symm.trans h

theorem ins_x (m : (ℓ : Loc nD τ sig) → Buf (Elt Ideal) ℓ) (c : Dev nD) : (ins m).x c = m ((c.tc : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) (m ((c.tc : Thread nD τ).loc main_arg0))
theorem ins_w (m : (ℓ : Loc nD τ sig) → Buf (Elt Ideal) ℓ) (c : Dev nD) : (ins m).w c = m ((c.tc : Thread nD τ).loc main_arg1) := by
  have hz : (fun a => (win0_1.index (0 : Fin 1)) a * main_arg1.ty.shape.size a) = fun _ => 0 := funext fun a => by fin_cases a <;> decide
  exact Memref.read_access_unit_zero (Elt Ideal) main_arg1 hz (fun a => by fin_cases a <;> decide) (m ((c.tc : Thread nD τ).loc main_arg1))
theorem ins_a (m : (ℓ : Loc nD τ sig) → Buf (Elt Ideal) ℓ) (c : Dev nD) : (ins m).a c = m ((c.tc : Thread nD τ).loc main_arg2) := by
  have hz : (fun a => (win0_2.index (0 : Fin 1)) a * main_arg2.ty.shape.size a) = fun _ => 0 := funext fun a => by fin_cases a <;> decide
  exact Memref.read_access_unit_zero (Elt Ideal) main_arg2 hz (fun a => by fin_cases a <;> decide) (m ((c.tc : Thread nD τ).loc main_arg2))
theorem ins_b (m : (ℓ : Loc nD τ sig) → Buf (Elt Ideal) ℓ) (c : Dev nD) : (ins m).b c = m ((c.tc : Thread nD τ).loc main_arg3) := by
  have hz : (fun a => (win0_3.index (0 : Fin 1)) a * main_arg3.ty.shape.size a) = fun _ => 0 := funext fun a => by fin_cases a <;> decide
  exact Memref.read_access_unit_zero (Elt Ideal) main_arg3 hz (fun a => by fin_cases a <;> decide) (m ((c.tc : Thread nD τ).loc main_arg3))

end Cert.KerValue

end
-- ==== Proof.lean ====
/-
# The claims

The frames of the kernel at both float instances, the frame of the reference, the sanctioned idealization, and the
equality of the two idealized programs' results under finite scores.
-/
module

public import proofs.«01_k».proof.Defs
public import proofs.«01_k».proof.Proof.KRun
public import proofs.«01_k».proof.Proof.IRun
public import proofs.«01_k».proof.Proof.VFinal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The frame of the kernel at any float values: its run read at the arguments. -/
theorem frame_p : Cert.quiescent_Kernel := by
  intro m ρ _
  exact (θ_run Cert.Kernel.defs _ _).mono (fun _ h => ⟨fun c =>
      ⟨(h.1 c (0 : Fin 5)).trans (Cert.KernelRun.finalA_in m ρ c 0 rfl), (h.1 c (1 : Fin 5)).trans (Cert.KernelRun.finalA_in m ρ c 1 rfl),
       (h.1 c (2 : Fin 5)).trans (Cert.KernelRun.finalA_in m ρ c 2 rfl), (h.1 c (3 : Fin 5)).trans (Cert.KernelRun.finalA_in m ρ c 3 rfl)⟩, h.2⟩)
    (Cert.KernelRun.run_main (F := Bits) m ρ)

theorem frame_pi : Cert.quiescent_KernelIdeal := by
  intro m ρ _
  exact (θ_run Cert.KernelIdeal.defs _ _).mono (fun _ h => ⟨fun c =>
      ⟨(h.1 c (0 : Fin 5)).trans (Cert.KernelIdealRun.finalA_in m ρ c 0 rfl), (h.1 c (1 : Fin 5)).trans (Cert.KernelIdealRun.finalA_in m ρ c 1 rfl),
       (h.1 c (2 : Fin 5)).trans (Cert.KernelIdealRun.finalA_in m ρ c 2 rfl), (h.1 c (3 : Fin 5)).trans (Cert.KernelIdealRun.finalA_in m ρ c 3 rfl)⟩, h.2⟩)
    (Cert.KernelIdealRun.run_main (F := Ideal) m ρ)

/-- The reference is a straight line of host operations that declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xF149F2CA#32 ⊥ rfl

/-- With real rows and router the kernel's result is, on each device, its block of the plain program's result. -/
theorem algebraic : Cert.algebraic_KernelIdeal_ReferenceIdeal_pre_finite_scores_KernelIdeal (hPre_finite_scores_KernelIdeal := Cert.KerValue.preK) := by
  intro m ρ m' ρ' hpre hagree
  have hreal := fun c => Cert.KerValue.real_of_pre _ _ _ _ (hpre c)
  refine ⟨Cert.ReferenceIdeal.Value.res_main_v32 (F := Ideal) m' (0 : Dev Cert.ReferenceIdeal.nD), ?_, ?_⟩
  · refine (θ_run Cert.KernelIdeal.defs _ _).mono (fun _ h c => ⟨(h.1 c (4 : Fin 5)).trans ?_,
        (h.1 c (0 : Fin 5)).trans (Cert.KernelIdealRun.finalA_in m ρ c 0 rfl), (h.1 c (1 : Fin 5)).trans (Cert.KernelIdealRun.finalA_in m ρ c 1 rfl),
        (h.1 c (2 : Fin 5)).trans (Cert.KernelIdealRun.finalA_in m ρ c 2 rfl), (h.1 c (3 : Fin 5)).trans (Cert.KernelIdealRun.finalA_in m ρ c 3 rfl)⟩)
      (Cert.KernelIdealRun.run_main (F := Ideal) m ρ)
    rw [Cert.RefValue.res_eq]
    exact (Cert.KerValue.finalA_out m ρ c).trans (Cert.KerValue.out_block (Cert.KernelIdealRun.ins m) _ _ _ _
      (fun c => (Cert.KerValue.ins_x m c).trans (hagree c).1) (fun c => (Cert.KerValue.ins_w m c).trans (hagree c).2.1)
      (fun c => (Cert.KerValue.ins_a m c).trans (hagree c).2.2.1) (fun c => (Cert.KerValue.ins_b m c).trans (hagree c).2.2.2)
      (fun c i => by rw [Cert.KerValue.ins_x]; exact (hreal c).1 i) (fun c i => by rw [Cert.KerValue.ins_w]; exact (hreal c).2 i) c)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts, Cert.KerValue.preK, Cert.KerValue.preR,
  frame_p, frame_pi, fun m ρ _ => frame_pi m ρ trivial, frame_ri, fun m ρ _ => frame_ri m ρ trivial, preserves, algebraic⟩

end Cert.Proof

end
